-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x512 : Shape := ⟨2, ![512, 512]⟩
abbrev S512x2048 : Shape := ⟨2, ![512, 2048]⟩
abbrev S_ : Shape := ⟨0, ![]⟩
abbrev S512x128 : Shape := ⟨2, ![512, 128]⟩
abbrev S256x512 : Shape := ⟨2, ![256, 512]⟩
abbrev S15x16x512 : Shape := ⟨3, ![15, 16, 512]⟩
abbrev S15 : Shape := ⟨1, ![15]⟩
abbrev S256x128 : Shape := ⟨2, ![256, 128]⟩
abbrev S128x64 : Shape := ⟨2, ![128, 64]⟩
abbrev S512x64 : Shape := ⟨2, ![512, 64]⟩
abbrev S512 : Shape := ⟨1, ![512]⟩
abbrev S512x1 : Shape := ⟨2, ![512, 1]⟩
abbrev S128x512 : Shape := ⟨2, ![128, 512]⟩
abbrev S1 : Shape := ⟨1, ![1]⟩
abbrev S1x16x512 : Shape := ⟨3, ![1, 16, 512]⟩
abbrev S16x512 : Shape := ⟨2, ![16, 512]⟩

abbrev nBuf : Space → Nat
  | .hbm => 28
  | .vmem => 8
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x2048, .f32⟩
  | .hbm, ⟨3, _⟩ => ⟨S512x2048, .f32⟩
  | .hbm, ⟨4, _⟩ => ⟨S512x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x128, .f32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S512x128, .f32⟩
  | .hbm, ⟨27, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S512x128, .f32⟩
  | .local _ .vmem, ⟨4, _⟩ => ⟨S512x128, .f32⟩
  | .local _ .vmem, ⟨5, _⟩ => ⟨S2x128x512, .f32⟩
  | .local _ .vmem, ⟨6, _⟩ => ⟨S256x512, .bf16⟩
  | .local _ .vmem, ⟨7, _⟩ => ⟨S15x16x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_73 : BitVec 32 := 1#32
  let v83 : BitVec 32 := Scalar.addi v2 c1_i32_73
  let c16_i32_74 : BitVec 32 := 16#32
  let v84 : BitVec 32 := Scalar.remsi v83 c16_i32_74
  let c0_i32_132 : BitVec 32 := 0#32
  let v192 : BitVec 1 := Scalar.cmpi .sgt v84 c0_i32_132
  let v193 : BitVec 32 := Scalar.extui v192
  let c0_i32_133 : BitVec 32 := 0#32
  let v194 : BitVec 1 := Scalar.cmpi .slt v84 c0_i32_133
  let v195 : BitVec 32 := Scalar.extui v194
  let v196 : BitVec 32 := Scalar.subi v193 v195
  let c8_i32_131 : BitVec 32 := 8#32
  let c0_i32_134 : BitVec 32 := 0#32
  let v197 : BitVec 1 := Scalar.cmpi .sgt c8_i32_131 c0_i32_134
  let v198 : BitVec 32 := Scalar.extui v197
  let c0_i32_135 : BitVec 32 := 0#32
  let v199 : BitVec 1 := Scalar.cmpi .slt c8_i32_131 c0_i32_135
  let v200 : BitVec 32 := Scalar.extui v199
  let v201 : BitVec 32 := Scalar.subi v198 v200
  let v202 : BitVec 1 := Scalar.cmpi .ne v196 v201
  let v203 : BitVec 32 := Scalar.remsi v84 c8_i32_131
  let c0_i32_136 : BitVec 32 := 0#32
  let v204 : BitVec 1 := Scalar.cmpi .ne v203 c0_i32_136
  let v205 : BitVec 1 := Scalar.andi v202 v204
  let v191 : BitVec 32 := Scalar.divsi v84 c8_i32_131
  let c1_i32_137 : BitVec 32 := 1#32
  let v206 : BitVec 32 := Scalar.subi v191 c1_i32_137
  let v207 : BitVec 32 := Scalar.select v205 v206 v191
  let c0_i32_138 : BitVec 32 := 0#32
  let v208 : BitVec 1 := Scalar.cmpi .eq v207 c0_i32_138
  let v209 : BitVec 32 := Scalar.extui v208
  let c0_i32_142 : BitVec 32 := 0#32
  let v210 : BitVec 1 := Scalar.cmpi .ne v209 c0_i32_142
  v210

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_73 : BitVec 32 := 1#32
  let v83 : BitVec 32 := Scalar.addi v2 c1_i32_73
  let c16_i32_74 : BitVec 32 := 16#32
  let v84 : BitVec 32 := Scalar.remsi v83 c16_i32_74
  let c16_i32_75 : BitVec 32 := 16#32
  let v85 : BitVec 32 := Scalar.muli v84 c16_i32_75
  let c0_i32_1060 : BitVec 32 := 0#32
  ![v85.toNat, 0]
def k0_dev16 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_73 : BitVec 32 := 1#32
  let v83 : BitVec 32 := Scalar.addi v2 c1_i32_73
  let c16_i32_74 : BitVec 32 := 16#32
  let v84 : BitVec 32 := Scalar.remsi v83 c16_i32_74
  let c1_i32_1056 : BitVec 32 := 1#32
  let v1382 : BitVec 32 := Scalar.muli v84 c1_i32_1056
  let v1383 : BitVec 32 := Scalar.addi c0_i32_1057 v1382
  v1383.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_76 : BitVec 32 := 2#32
  let v86 : BitVec 32 := Scalar.addi v2 c2_i32_76
  let c16_i32_77 : BitVec 32 := 16#32
  let v87 : BitVec 32 := Scalar.remsi v86 c16_i32_77
  let c0_i32_144 : BitVec 32 := 0#32
  let v212 : BitVec 1 := Scalar.cmpi .sgt v87 c0_i32_144
  let v213 : BitVec 32 := Scalar.extui v212
  let c0_i32_145 : BitVec 32 := 0#32
  let v214 : BitVec 1 := Scalar.cmpi .slt v87 c0_i32_145
  let v215 : BitVec 32 := Scalar.extui v214
  let v216 : BitVec 32 := Scalar.subi v213 v215
  let c8_i32_143 : BitVec 32 := 8#32
  let c0_i32_146 : BitVec 32 := 0#32
  let v217 : BitVec 1 := Scalar.cmpi .sgt c8_i32_143 c0_i32_146
  let v218 : BitVec 32 := Scalar.extui v217
  let c0_i32_147 : BitVec 32 := 0#32
  let v219 : BitVec 1 := Scalar.cmpi .slt c8_i32_143 c0_i32_147
  let v220 : BitVec 32 := Scalar.extui v219
  let v221 : BitVec 32 := Scalar.subi v218 v220
  let v222 : BitVec 1 := Scalar.cmpi .ne v216 v221
  let v223 : BitVec 32 := Scalar.remsi v87 c8_i32_143
  let c0_i32_148 : BitVec 32 := 0#32
  let v224 : BitVec 1 := Scalar.cmpi .ne v223 c0_i32_148
  let v225 : BitVec 1 := Scalar.andi v222 v224
  let v211 : BitVec 32 := Scalar.divsi v87 c8_i32_143
  let c1_i32_149 : BitVec 32 := 1#32
  let v226 : BitVec 32 := Scalar.subi v211 c1_i32_149
  let v227 : BitVec 32 := Scalar.select v225 v226 v211
  let c0_i32_150 : BitVec 32 := 0#32
  let v228 : BitVec 1 := Scalar.cmpi .eq v227 c0_i32_150
  let v229 : BitVec 32 := Scalar.extui v228
  let c0_i32_154 : BitVec 32 := 0#32
  let v230 : BitVec 1 := Scalar.cmpi .ne v229 c0_i32_154
  v230

def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_76 : BitVec 32 := 2#32
  let v86 : BitVec 32 := Scalar.addi v2 c2_i32_76
  let c16_i32_77 : BitVec 32 := 16#32
  let v87 : BitVec 32 := Scalar.remsi v86 c16_i32_77
  let c16_i32_78 : BitVec 32 := 16#32
  let v88 : BitVec 32 := Scalar.muli v87 c16_i32_78
  let c0_i32_1060 : BitVec 32 := 0#32
  ![v88.toNat, 0]
def k0_dev17 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_76 : BitVec 32 := 2#32
  let v86 : BitVec 32 := Scalar.addi v2 c2_i32_76
  let c16_i32_77 : BitVec 32 := 16#32
  let v87 : BitVec 32 := Scalar.remsi v86 c16_i32_77
  let c1_i32_1056 : BitVec 32 := 1#32
  let v1382 : BitVec 32 := Scalar.muli v87 c1_i32_1056
  let v1383 : BitVec 32 := Scalar.addi c0_i32_1057 v1382
  v1383.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_79 : BitVec 32 := 3#32
  let v89 : BitVec 32 := Scalar.addi v2 c3_i32_79
  let c16_i32_80 : BitVec 32 := 16#32
  let v90 : BitVec 32 := Scalar.remsi v89 c16_i32_80
  let c0_i32_156 : BitVec 32 := 0#32
  let v232 : BitVec 1 := Scalar.cmpi .sgt v90 c0_i32_156
  let v233 : BitVec 32 := Scalar.extui v232
  let c0_i32_157 : BitVec 32 := 0#32
  let v234 : BitVec 1 := Scalar.cmpi .slt v90 c0_i32_157
  let v235 : BitVec 32 := Scalar.extui v234
  let v236 : BitVec 32 := Scalar.subi v233 v235
  let c8_i32_155 : BitVec 32 := 8#32
  let c0_i32_158 : BitVec 32 := 0#32
  let v237 : BitVec 1 := Scalar.cmpi .sgt c8_i32_155 c0_i32_158
  let v238 : BitVec 32 := Scalar.extui v237
  let c0_i32_159 : BitVec 32 := 0#32
  let v239 : BitVec 1 := Scalar.cmpi .slt c8_i32_155 c0_i32_159
  let v240 : BitVec 32 := Scalar.extui v239
  let v241 : BitVec 32 := Scalar.subi v238 v240
  let v242 : BitVec 1 := Scalar.cmpi .ne v236 v241
  let v243 : BitVec 32 := Scalar.remsi v90 c8_i32_155
  let c0_i32_160 : BitVec 32 := 0#32
  let v244 : BitVec 1 := Scalar.cmpi .ne v243 c0_i32_160
  let v245 : BitVec 1 := Scalar.andi v242 v244
  let v231 : BitVec 32 := Scalar.divsi v90 c8_i32_155
  let c1_i32_161 : BitVec 32 := 1#32
  let v246 : BitVec 32 := Scalar.subi v231 c1_i32_161
  let v247 : BitVec 32 := Scalar.select v245 v246 v231
  let c0_i32_162 : BitVec 32 := 0#32
  let v248 : BitVec 1 := Scalar.cmpi .eq v247 c0_i32_162
  let v249 : BitVec 32 := Scalar.extui v248
  let c0_i32_166 : BitVec 32 := 0#32
  let v250 : BitVec 1 := Scalar.cmpi .ne v249 c0_i32_166
  v250

def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_79 : BitVec 32 := 3#32
  let v89 : BitVec 32 := Scalar.addi v2 c3_i32_79
  let c16_i32_80 : BitVec 32 := 16#32
  let v90 : BitVec 32 := Scalar.remsi v89 c16_i32_80
  let c16_i32_81 : BitVec 32 := 16#32
  let v91 : BitVec 32 := Scalar.muli v90 c16_i32_81
  let c0_i32_1060 : BitVec 32 := 0#32
  ![v91.toNat, 0]
def k0_dev18 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_79 : BitVec 32 := 3#32
  let v89 : BitVec 32 := Scalar.addi v2 c3_i32_79
  let c16_i32_80 : BitVec 32 := 16#32
  let v90 : BitVec 32 := Scalar.remsi v89 c16_i32_80
  let c1_i32_1056 : BitVec 32 := 1#32
  let v1382 : BitVec 32 := Scalar.muli v90 c1_i32_1056
  let v1383 : BitVec 32 := Scalar.addi c0_i32_1057 v1382
  v1383.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_82 : BitVec 32 := 4#32
  let v92 : BitVec 32 := Scalar.addi v2 c4_i32_82
  let c16_i32_83 : BitVec 32 := 16#32
  let v93 : BitVec 32 := Scalar.remsi v92 c16_i32_83
  let c0_i32_168 : BitVec 32 := 0#32
  let v252 : BitVec 1 := Scalar.cmpi .sgt v93 c0_i32_168
  let v253 : BitVec 32 := Scalar.extui v252
  let c0_i32_169 : BitVec 32 := 0#32
  let v254 : BitVec 1 := Scalar.cmpi .slt v93 c0_i32_169
  let v255 : BitVec 32 := Scalar.extui v254
  let v256 : BitVec 32 := Scalar.subi v253 v255
  let c8_i32_167 : BitVec 32 := 8#32
  let c0_i32_170 : BitVec 32 := 0#32
  let v257 : BitVec 1 := Scalar.cmpi .sgt c8_i32_167 c0_i32_170
  let v258 : BitVec 32 := Scalar.extui v257
  let c0_i32_171 : BitVec 32 := 0#32
  let v259 : BitVec 1 := Scalar.cmpi .slt c8_i32_167 c0_i32_171
  let v260 : BitVec 32 := Scalar.extui v259
  let v261 : BitVec 32 := Scalar.subi v258 v260
  let v262 : BitVec 1 := Scalar.cmpi .ne v256 v261
  let v263 : BitVec 32 := Scalar.remsi v93 c8_i32_167
  let c0_i32_172 : BitVec 32 := 0#32
  let v264 : BitVec 1 := Scalar.cmpi .ne v263 c0_i32_172
  let v265 : BitVec 1 := Scalar.andi v262 v264
  let v251 : BitVec 32 := Scalar.divsi v93 c8_i32_167
  let c1_i32_173 : BitVec 32 := 1#32
  let v266 : BitVec 32 := Scalar.subi v251 c1_i32_173
  let v267 : BitVec 32 := Scalar.select v265 v266 v251
  let c0_i32_174 : BitVec 32 := 0#32
  let v268 : BitVec 1 := Scalar.cmpi .eq v267 c0_i32_174
  let v269 : BitVec 32 := Scalar.extui v268
  let c0_i32_178 : BitVec 32 := 0#32
  let v270 : BitVec 1 := Scalar.cmpi .ne v269 c0_i32_178
  v270

def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_82 : BitVec 32 := 4#32
  let v92 : BitVec 32 := Scalar.addi v2 c4_i32_82
  let c16_i32_83 : BitVec 32 := 16#32
  let v93 : BitVec 32 := Scalar.remsi v92 c16_i32_83
  let c16_i32_84 : BitVec 32 := 16#32
  let v94 : BitVec 32 := Scalar.muli v93 c16_i32_84
  let c0_i32_1060 : BitVec 32 := 0#32
  ![v94.toNat, 0]
def k0_dev19 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_82 : BitVec 32 := 4#32
  let v92 : BitVec 32 := Scalar.addi v2 c4_i32_82
  let c16_i32_83 : BitVec 32 := 16#32
  let v93 : BitVec 32 := Scalar.remsi v92 c16_i32_83
  let c1_i32_1056 : BitVec 32 := 1#32
  let v1382 : BitVec 32 := Scalar.muli v93 c1_i32_1056
  let v1383 : BitVec 32 := Scalar.addi c0_i32_1057 v1382
  v1383.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_85 : BitVec 32 := 5#32
  let v95 : BitVec 32 := Scalar.addi v2 c5_i32_85
  let c16_i32_86 : BitVec 32 := 16#32
  let v96 : BitVec 32 := Scalar.remsi v95 c16_i32_86
  let c0_i32_180 : BitVec 32 := 0#32
  let v272 : BitVec 1 := Scalar.cmpi .sgt v96 c0_i32_180
  let v273 : BitVec 32 := Scalar.extui v272
  let c0_i32_181 : BitVec 32 := 0#32
  let v274 : BitVec 1 := Scalar.cmpi .slt v96 c0_i32_181
  let v275 : BitVec 32 := Scalar.extui v274
  let v276 : BitVec 32 := Scalar.subi v273 v275
  let c8_i32_179 : BitVec 32 := 8#32
  let c0_i32_182 : BitVec 32 := 0#32
  let v277 : BitVec 1 := Scalar.cmpi .sgt c8_i32_179 c0_i32_182
  let v278 : BitVec 32 := Scalar.extui v277
  let c0_i32_183 : BitVec 32 := 0#32
  let v279 : BitVec 1 := Scalar.cmpi .slt c8_i32_179 c0_i32_183
  let v280 : BitVec 32 := Scalar.extui v279
  let v281 : BitVec 32 := Scalar.subi v278 v280
  let v282 : BitVec 1 := Scalar.cmpi .ne v276 v281
  let v283 : BitVec 32 := Scalar.remsi v96 c8_i32_179
  let c0_i32_184 : BitVec 32 := 0#32
  let v284 : BitVec 1 := Scalar.cmpi .ne v283 c0_i32_184
  let v285 : BitVec 1 := Scalar.andi v282 v284
  let v271 : BitVec 32 := Scalar.divsi v96 c8_i32_179
  let c1_i32_185 : BitVec 32 := 1#32
  let v286 : BitVec 32 := Scalar.subi v271 c1_i32_185
  let v287 : BitVec 32 := Scalar.select v285 v286 v271
  let c0_i32_186 : BitVec 32 := 0#32
  let v288 : BitVec 1 := Scalar.cmpi .eq v287 c0_i32_186
  let v289 : BitVec 32 := Scalar.extui v288
  let c0_i32_190 : BitVec 32 := 0#32
  let v290 : BitVec 1 := Scalar.cmpi .ne v289 c0_i32_190
  v290

def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_85 : BitVec 32 := 5#32
  let v95 : BitVec 32 := Scalar.addi v2 c5_i32_85
  let c16_i32_86 : BitVec 32 := 16#32
  let v96 : BitVec 32 := Scalar.remsi v95 c16_i32_86
  let c16_i32_87 : BitVec 32 := 16#32
  let v97 : BitVec 32 := Scalar.muli v96 c16_i32_87
  let c0_i32_1060 : BitVec 32 := 0#32
  ![v97.toNat, 0]
def k0_dev20 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_85 : BitVec 32 := 5#32
  let v95 : BitVec 32 := Scalar.addi v2 c5_i32_85
  let c16_i32_86 : BitVec 32 := 16#32
  let v96 : BitVec 32 := Scalar.remsi v95 c16_i32_86
  let c1_i32_1056 : BitVec 32 := 1#32
  let v1382 : BitVec 32 := Scalar.muli v96 c1_i32_1056
  let v1383 : BitVec 32 := Scalar.addi c0_i32_1057 v1382
  v1383.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_88 : BitVec 32 := 6#32
  let v98 : BitVec 32 := Scalar.addi v2 c6_i32_88
  let c16_i32_89 : BitVec 32 := 16#32
  let v99 : BitVec 32 := Scalar.remsi v98 c16_i32_89
  let c0_i32_192 : BitVec 32 := 0#32
  let v292 : BitVec 1 := Scalar.cmpi .sgt v99 c0_i32_192
  let v293 : BitVec 32 := Scalar.extui v292
  let c0_i32_193 : BitVec 32 := 0#32
  let v294 : BitVec 1 := Scalar.cmpi .slt v99 c0_i32_193
  let v295 : BitVec 32 := Scalar.extui v294
  let v296 : BitVec 32 := Scalar.subi v293 v295
  let c8_i32_191 : BitVec 32 := 8#32
  let c0_i32_194 : BitVec 32 := 0#32
  let v297 : BitVec 1 := Scalar.cmpi .sgt c8_i32_191 c0_i32_194
  let v298 : BitVec 32 := Scalar.extui v297
  let c0_i32_195 : BitVec 32 := 0#32
  let v299 : BitVec 1 := Scalar.cmpi .slt c8_i32_191 c0_i32_195
  let v300 : BitVec 32 := Scalar.extui v299
  let v301 : BitVec 32 := Scalar.subi v298 v300
  let v302 : BitVec 1 := Scalar.cmpi .ne v296 v301
  let v303 : BitVec 32 := Scalar.remsi v99 c8_i32_191
  let c0_i32_196 : BitVec 32 := 0#32
  let v304 : BitVec 1 := Scalar.cmpi .ne v303 c0_i32_196
  let v305 : BitVec 1 := Scalar.andi v302 v304
  let v291 : BitVec 32 := Scalar.divsi v99 c8_i32_191
  let c1_i32_197 : BitVec 32 := 1#32
  let v306 : BitVec 32 := Scalar.subi v291 c1_i32_197
  let v307 : BitVec 32 := Scalar.select v305 v306 v291
  let c0_i32_198 : BitVec 32 := 0#32
  let v308 : BitVec 1 := Scalar.cmpi .eq v307 c0_i32_198
  let v309 : BitVec 32 := Scalar.extui v308
  let c0_i32_202 : BitVec 32 := 0#32
  let v310 : BitVec 1 := Scalar.cmpi .ne v309 c0_i32_202
  v310

def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_88 : BitVec 32 := 6#32
  let v98 : BitVec 32 := Scalar.addi v2 c6_i32_88
  let c16_i32_89 : BitVec 32 := 16#32
  let v99 : BitVec 32 := Scalar.remsi v98 c16_i32_89
  let c16_i32_90 : BitVec 32 := 16#32
  let v100 : BitVec 32 := Scalar.muli v99 c16_i32_90
  let c0_i32_1060 : BitVec 32 := 0#32
  ![v100.toNat, 0]
def k0_dev21 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_88 : BitVec 32 := 6#32
  let v98 : BitVec 32 := Scalar.addi v2 c6_i32_88
  let c16_i32_89 : BitVec 32 := 16#32
  let v99 : BitVec 32 := Scalar.remsi v98 c16_i32_89
  let c1_i32_1056 : BitVec 32 := 1#32
  let v1382 : BitVec 32 := Scalar.muli v99 c1_i32_1056
  let v1383 : BitVec 32 := Scalar.addi c0_i32_1057 v1382
  v1383.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_91 : BitVec 32 := 7#32
  let v101 : BitVec 32 := Scalar.addi v2 c7_i32_91
  let c16_i32_92 : BitVec 32 := 16#32
  let v102 : BitVec 32 := Scalar.remsi v101 c16_i32_92
  let c0_i32_204 : BitVec 32 := 0#32
  let v312 : BitVec 1 := Scalar.cmpi .sgt v102 c0_i32_204
  let v313 : BitVec 32 := Scalar.extui v312
  let c0_i32_205 : BitVec 32 := 0#32
  let v314 : BitVec 1 := Scalar.cmpi .slt v102 c0_i32_205
  let v315 : BitVec 32 := Scalar.extui v314
  let v316 : BitVec 32 := Scalar.subi v313 v315
  let c8_i32_203 : BitVec 32 := 8#32
  let c0_i32_206 : BitVec 32 := 0#32
  let v317 : BitVec 1 := Scalar.cmpi .sgt c8_i32_203 c0_i32_206
  let v318 : BitVec 32 := Scalar.extui v317
  let c0_i32_207 : BitVec 32 := 0#32
  let v319 : BitVec 1 := Scalar.cmpi .slt c8_i32_203 c0_i32_207
  let v320 : BitVec 32 := Scalar.extui v319
  let v321 : BitVec 32 := Scalar.subi v318 v320
  let v322 : BitVec 1 := Scalar.cmpi .ne v316 v321
  let v323 : BitVec 32 := Scalar.remsi v102 c8_i32_203
  let c0_i32_208 : BitVec 32 := 0#32
  let v324 : BitVec 1 := Scalar.cmpi .ne v323 c0_i32_208
  let v325 : BitVec 1 := Scalar.andi v322 v324
  let v311 : BitVec 32 := Scalar.divsi v102 c8_i32_203
  let c1_i32_209 : BitVec 32 := 1#32
  let v326 : BitVec 32 := Scalar.subi v311 c1_i32_209
  let v327 : BitVec 32 := Scalar.select v325 v326 v311
  let c0_i32_210 : BitVec 32 := 0#32
  let v328 : BitVec 1 := Scalar.cmpi .eq v327 c0_i32_210
  let v329 : BitVec 32 := Scalar.extui v328
  let c0_i32_214 : BitVec 32 := 0#32
  let v330 : BitVec 1 := Scalar.cmpi .ne v329 c0_i32_214
  v330

def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_91 : BitVec 32 := 7#32
  let v101 : BitVec 32 := Scalar.addi v2 c7_i32_91
  let c16_i32_92 : BitVec 32 := 16#32
  let v102 : BitVec 32 := Scalar.remsi v101 c16_i32_92
  let c16_i32_93 : BitVec 32 := 16#32
  let v103 : BitVec 32 := Scalar.muli v102 c16_i32_93
  let c0_i32_1060 : BitVec 32 := 0#32
  ![v103.toNat, 0]
def k0_dev22 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_91 : BitVec 32 := 7#32
  let v101 : BitVec 32 := Scalar.addi v2 c7_i32_91
  let c16_i32_92 : BitVec 32 := 16#32
  let v102 : BitVec 32 := Scalar.remsi v101 c16_i32_92
  let c1_i32_1056 : BitVec 32 := 1#32
  let v1382 : BitVec 32 := Scalar.muli v102 c1_i32_1056
  let v1383 : BitVec 32 := Scalar.addi c0_i32_1057 v1382
  v1383.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_94 : BitVec 32 := 8#32
  let v104 : BitVec 32 := Scalar.addi v2 c8_i32_94
  let c16_i32_95 : BitVec 32 := 16#32
  let v105 : BitVec 32 := Scalar.remsi v104 c16_i32_95
  let c0_i32_216 : BitVec 32 := 0#32
  let v332 : BitVec 1 := Scalar.cmpi .sgt v105 c0_i32_216
  let v333 : BitVec 32 := Scalar.extui v332
  let c0_i32_217 : BitVec 32 := 0#32
  let v334 : BitVec 1 := Scalar.cmpi .slt v105 c0_i32_217
  let v335 : BitVec 32 := Scalar.extui v334
  let v336 : BitVec 32 := Scalar.subi v333 v335
  let c8_i32_215 : BitVec 32 := 8#32
  let c0_i32_218 : BitVec 32 := 0#32
  let v337 : BitVec 1 := Scalar.cmpi .sgt c8_i32_215 c0_i32_218
  let v338 : BitVec 32 := Scalar.extui v337
  let c0_i32_219 : BitVec 32 := 0#32
  let v339 : BitVec 1 := Scalar.cmpi .slt c8_i32_215 c0_i32_219
  let v340 : BitVec 32 := Scalar.extui v339
  let v341 : BitVec 32 := Scalar.subi v338 v340
  let v342 : BitVec 1 := Scalar.cmpi .ne v336 v341
  let v343 : BitVec 32 := Scalar.remsi v105 c8_i32_215
  let c0_i32_220 : BitVec 32 := 0#32
  let v344 : BitVec 1 := Scalar.cmpi .ne v343 c0_i32_220
  let v345 : BitVec 1 := Scalar.andi v342 v344
  let v331 : BitVec 32 := Scalar.divsi v105 c8_i32_215
  let c1_i32_221 : BitVec 32 := 1#32
  let v346 : BitVec 32 := Scalar.subi v331 c1_i32_221
  let v347 : BitVec 32 := Scalar.select v345 v346 v331
  let c0_i32_222 : BitVec 32 := 0#32
  let v348 : BitVec 1 := Scalar.cmpi .eq v347 c0_i32_222
  let v349 : BitVec 32 := Scalar.extui v348
  let c0_i32_226 : BitVec 32 := 0#32
  let v350 : BitVec 1 := Scalar.cmpi .ne v349 c0_i32_226
  v350

def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_94 : BitVec 32 := 8#32
  let v104 : BitVec 32 := Scalar.addi v2 c8_i32_94
  let c16_i32_95 : BitVec 32 := 16#32
  let v105 : BitVec 32 := Scalar.remsi v104 c16_i32_95
  let c16_i32_96 : BitVec 32 := 16#32
  let v106 : BitVec 32 := Scalar.muli v105 c16_i32_96
  let c0_i32_1060 : BitVec 32 := 0#32
  ![v106.toNat, 0]
def k0_dev23 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_94 : BitVec 32 := 8#32
  let v104 : BitVec 32 := Scalar.addi v2 c8_i32_94
  let c16_i32_95 : BitVec 32 := 16#32
  let v105 : BitVec 32 := Scalar.remsi v104 c16_i32_95
  let c1_i32_1056 : BitVec 32 := 1#32
  let v1382 : BitVec 32 := Scalar.muli v105 c1_i32_1056
  let v1383 : BitVec 32 := Scalar.addi c0_i32_1057 v1382
  v1383.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_97 : BitVec 32 := 9#32
  let v107 : BitVec 32 := Scalar.addi v2 c9_i32_97
  let c16_i32_98 : BitVec 32 := 16#32
  let v108 : BitVec 32 := Scalar.remsi v107 c16_i32_98
  let c0_i32_228 : BitVec 32 := 0#32
  let v352 : BitVec 1 := Scalar.cmpi .sgt v108 c0_i32_228
  let v353 : BitVec 32 := Scalar.extui v352
  let c0_i32_229 : BitVec 32 := 0#32
  let v354 : BitVec 1 := Scalar.cmpi .slt v108 c0_i32_229
  let v355 : BitVec 32 := Scalar.extui v354
  let v356 : BitVec 32 := Scalar.subi v353 v355
  let c8_i32_227 : BitVec 32 := 8#32
  let c0_i32_230 : BitVec 32 := 0#32
  let v357 : BitVec 1 := Scalar.cmpi .sgt c8_i32_227 c0_i32_230
  let v358 : BitVec 32 := Scalar.extui v357
  let c0_i32_231 : BitVec 32 := 0#32
  let v359 : BitVec 1 := Scalar.cmpi .slt c8_i32_227 c0_i32_231
  let v360 : BitVec 32 := Scalar.extui v359
  let v361 : BitVec 32 := Scalar.subi v358 v360
  let v362 : BitVec 1 := Scalar.cmpi .ne v356 v361
  let v363 : BitVec 32 := Scalar.remsi v108 c8_i32_227
  let c0_i32_232 : BitVec 32 := 0#32
  let v364 : BitVec 1 := Scalar.cmpi .ne v363 c0_i32_232
  let v365 : BitVec 1 := Scalar.andi v362 v364
  let v351 : BitVec 32 := Scalar.divsi v108 c8_i32_227
  let c1_i32_233 : BitVec 32 := 1#32
  let v366 : BitVec 32 := Scalar.subi v351 c1_i32_233
  let v367 : BitVec 32 := Scalar.select v365 v366 v351
  let c0_i32_234 : BitVec 32 := 0#32
  let v368 : BitVec 1 := Scalar.cmpi .eq v367 c0_i32_234
  let v369 : BitVec 32 := Scalar.extui v368
  let c0_i32_238 : BitVec 32 := 0#32
  let v370 : BitVec 1 := Scalar.cmpi .ne v369 c0_i32_238
  v370

def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_97 : BitVec 32 := 9#32
  let v107 : BitVec 32 := Scalar.addi v2 c9_i32_97
  let c16_i32_98 : BitVec 32 := 16#32
  let v108 : BitVec 32 := Scalar.remsi v107 c16_i32_98
  let c16_i32_99 : BitVec 32 := 16#32
  let v109 : BitVec 32 := Scalar.muli v108 c16_i32_99
  let c0_i32_1060 : BitVec 32 := 0#32
  ![v109.toNat, 0]
def k0_dev24 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_97 : BitVec 32 := 9#32
  let v107 : BitVec 32 := Scalar.addi v2 c9_i32_97
  let c16_i32_98 : BitVec 32 := 16#32
  let v108 : BitVec 32 := Scalar.remsi v107 c16_i32_98
  let c1_i32_1056 : BitVec 32 := 1#32
  let v1382 : BitVec 32 := Scalar.muli v108 c1_i32_1056
  let v1383 : BitVec 32 := Scalar.addi c0_i32_1057 v1382
  v1383.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_100 : BitVec 32 := 10#32
  let v110 : BitVec 32 := Scalar.addi v2 c10_i32_100
  let c16_i32_101 : BitVec 32 := 16#32
  let v111 : BitVec 32 := Scalar.remsi v110 c16_i32_101
  let c0_i32_240 : BitVec 32 := 0#32
  let v372 : BitVec 1 := Scalar.cmpi .sgt v111 c0_i32_240
  let v373 : BitVec 32 := Scalar.extui v372
  let c0_i32_241 : BitVec 32 := 0#32
  let v374 : BitVec 1 := Scalar.cmpi .slt v111 c0_i32_241
  let v375 : BitVec 32 := Scalar.extui v374
  let v376 : BitVec 32 := Scalar.subi v373 v375
  let c8_i32_239 : BitVec 32 := 8#32
  let c0_i32_242 : BitVec 32 := 0#32
  let v377 : BitVec 1 := Scalar.cmpi .sgt c8_i32_239 c0_i32_242
  let v378 : BitVec 32 := Scalar.extui v377
  let c0_i32_243 : BitVec 32 := 0#32
  let v379 : BitVec 1 := Scalar.cmpi .slt c8_i32_239 c0_i32_243
  let v380 : BitVec 32 := Scalar.extui v379
  let v381 : BitVec 32 := Scalar.subi v378 v380
  let v382 : BitVec 1 := Scalar.cmpi .ne v376 v381
  let v383 : BitVec 32 := Scalar.remsi v111 c8_i32_239
  let c0_i32_244 : BitVec 32 := 0#32
  let v384 : BitVec 1 := Scalar.cmpi .ne v383 c0_i32_244
  let v385 : BitVec 1 := Scalar.andi v382 v384
  let v371 : BitVec 32 := Scalar.divsi v111 c8_i32_239
  let c1_i32_245 : BitVec 32 := 1#32
  let v386 : BitVec 32 := Scalar.subi v371 c1_i32_245
  let v387 : BitVec 32 := Scalar.select v385 v386 v371
  let c0_i32_246 : BitVec 32 := 0#32
  let v388 : BitVec 1 := Scalar.cmpi .eq v387 c0_i32_246
  let v389 : BitVec 32 := Scalar.extui v388
  let c0_i32_250 : BitVec 32 := 0#32
  let v390 : BitVec 1 := Scalar.cmpi .ne v389 c0_i32_250
  v390

def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_100 : BitVec 32 := 10#32
  let v110 : BitVec 32 := Scalar.addi v2 c10_i32_100
  let c16_i32_101 : BitVec 32 := 16#32
  let v111 : BitVec 32 := Scalar.remsi v110 c16_i32_101
  let c16_i32_102 : BitVec 32 := 16#32
  let v112 : BitVec 32 := Scalar.muli v111 c16_i32_102
  let c0_i32_1060 : BitVec 32 := 0#32
  ![v112.toNat, 0]
def k0_dev25 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_100 : BitVec 32 := 10#32
  let v110 : BitVec 32 := Scalar.addi v2 c10_i32_100
  let c16_i32_101 : BitVec 32 := 16#32
  let v111 : BitVec 32 := Scalar.remsi v110 c16_i32_101
  let c1_i32_1056 : BitVec 32 := 1#32
  let v1382 : BitVec 32 := Scalar.muli v111 c1_i32_1056
  let v1383 : BitVec 32 := Scalar.addi c0_i32_1057 v1382
  v1383.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_103 : BitVec 32 := 11#32
  let v113 : BitVec 32 := Scalar.addi v2 c11_i32_103
  let c16_i32_104 : BitVec 32 := 16#32
  let v114 : BitVec 32 := Scalar.remsi v113 c16_i32_104
  let c0_i32_252 : BitVec 32 := 0#32
  let v392 : BitVec 1 := Scalar.cmpi .sgt v114 c0_i32_252
  let v393 : BitVec 32 := Scalar.extui v392
  let c0_i32_253 : BitVec 32 := 0#32
  let v394 : BitVec 1 := Scalar.cmpi .slt v114 c0_i32_253
  let v395 : BitVec 32 := Scalar.extui v394
  let v396 : BitVec 32 := Scalar.subi v393 v395
  let c8_i32_251 : BitVec 32 := 8#32
  let c0_i32_254 : BitVec 32 := 0#32
  let v397 : BitVec 1 := Scalar.cmpi .sgt c8_i32_251 c0_i32_254
  let v398 : BitVec 32 := Scalar.extui v397
  let c0_i32_255 : BitVec 32 := 0#32
  let v399 : BitVec 1 := Scalar.cmpi .slt c8_i32_251 c0_i32_255
  let v400 : BitVec 32 := Scalar.extui v399
  let v401 : BitVec 32 := Scalar.subi v398 v400
  let v402 : BitVec 1 := Scalar.cmpi .ne v396 v401
  let v403 : BitVec 32 := Scalar.remsi v114 c8_i32_251
  let c0_i32_256 : BitVec 32 := 0#32
  let v404 : BitVec 1 := Scalar.cmpi .ne v403 c0_i32_256
  let v405 : BitVec 1 := Scalar.andi v402 v404
  let v391 : BitVec 32 := Scalar.divsi v114 c8_i32_251
  let c1_i32_257 : BitVec 32 := 1#32
  let v406 : BitVec 32 := Scalar.subi v391 c1_i32_257
  let v407 : BitVec 32 := Scalar.select v405 v406 v391
  let c0_i32_258 : BitVec 32 := 0#32
  let v408 : BitVec 1 := Scalar.cmpi .eq v407 c0_i32_258
  let v409 : BitVec 32 := Scalar.extui v408
  let c0_i32_262 : BitVec 32 := 0#32
  let v410 : BitVec 1 := Scalar.cmpi .ne v409 c0_i32_262
  v410

def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_103 : BitVec 32 := 11#32
  let v113 : BitVec 32 := Scalar.addi v2 c11_i32_103
  let c16_i32_104 : BitVec 32 := 16#32
  let v114 : BitVec 32 := Scalar.remsi v113 c16_i32_104
  let c16_i32_105 : BitVec 32 := 16#32
  let v115 : BitVec 32 := Scalar.muli v114 c16_i32_105
  let c0_i32_1060 : BitVec 32 := 0#32
  ![v115.toNat, 0]
def k0_dev26 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_103 : BitVec 32 := 11#32
  let v113 : BitVec 32 := Scalar.addi v2 c11_i32_103
  let c16_i32_104 : BitVec 32 := 16#32
  let v114 : BitVec 32 := Scalar.remsi v113 c16_i32_104
  let c1_i32_1056 : BitVec 32 := 1#32
  let v1382 : BitVec 32 := Scalar.muli v114 c1_i32_1056
  let v1383 : BitVec 32 := Scalar.addi c0_i32_1057 v1382
  v1383.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_106 : BitVec 32 := 12#32
  let v116 : BitVec 32 := Scalar.addi v2 c12_i32_106
  let c16_i32_107 : BitVec 32 := 16#32
  let v117 : BitVec 32 := Scalar.remsi v116 c16_i32_107
  let c0_i32_264 : BitVec 32 := 0#32
  let v412 : BitVec 1 := Scalar.cmpi .sgt v117 c0_i32_264
  let v413 : BitVec 32 := Scalar.extui v412
  let c0_i32_265 : BitVec 32 := 0#32
  let v414 : BitVec 1 := Scalar.cmpi .slt v117 c0_i32_265
  let v415 : BitVec 32 := Scalar.extui v414
  let v416 : BitVec 32 := Scalar.subi v413 v415
  let c8_i32_263 : BitVec 32 := 8#32
  let c0_i32_266 : BitVec 32 := 0#32
  let v417 : BitVec 1 := Scalar.cmpi .sgt c8_i32_263 c0_i32_266
  let v418 : BitVec 32 := Scalar.extui v417
  let c0_i32_267 : BitVec 32 := 0#32
  let v419 : BitVec 1 := Scalar.cmpi .slt c8_i32_263 c0_i32_267
  let v420 : BitVec 32 := Scalar.extui v419
  let v421 : BitVec 32 := Scalar.subi v418 v420
  let v422 : BitVec 1 := Scalar.cmpi .ne v416 v421
  let v423 : BitVec 32 := Scalar.remsi v117 c8_i32_263
  let c0_i32_268 : BitVec 32 := 0#32
  let v424 : BitVec 1 := Scalar.cmpi .ne v423 c0_i32_268
  let v425 : BitVec 1 := Scalar.andi v422 v424
  let v411 : BitVec 32 := Scalar.divsi v117 c8_i32_263
  let c1_i32_269 : BitVec 32 := 1#32
  let v426 : BitVec 32 := Scalar.subi v411 c1_i32_269
  let v427 : BitVec 32 := Scalar.select v425 v426 v411
  let c0_i32_270 : BitVec 32 := 0#32
  let v428 : BitVec 1 := Scalar.cmpi .eq v427 c0_i32_270
  let v429 : BitVec 32 := Scalar.extui v428
  let c0_i32_274 : BitVec 32 := 0#32
  let v430 : BitVec 1 := Scalar.cmpi .ne v429 c0_i32_274
  v430

def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_106 : BitVec 32 := 12#32
  let v116 : BitVec 32 := Scalar.addi v2 c12_i32_106
  let c16_i32_107 : BitVec 32 := 16#32
  let v117 : BitVec 32 := Scalar.remsi v116 c16_i32_107
  let c16_i32_108 : BitVec 32 := 16#32
  let v118 : BitVec 32 := Scalar.muli v117 c16_i32_108
  let c0_i32_1060 : BitVec 32 := 0#32
  ![v118.toNat, 0]
def k0_dev27 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_106 : BitVec 32 := 12#32
  let v116 : BitVec 32 := Scalar.addi v2 c12_i32_106
  let c16_i32_107 : BitVec 32 := 16#32
  let v117 : BitVec 32 := Scalar.remsi v116 c16_i32_107
  let c1_i32_1056 : BitVec 32 := 1#32
  let v1382 : BitVec 32 := Scalar.muli v117 c1_i32_1056
  let v1383 : BitVec 32 := Scalar.addi c0_i32_1057 v1382
  v1383.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_109 : BitVec 32 := 13#32
  let v119 : BitVec 32 := Scalar.addi v2 c13_i32_109
  let c16_i32_110 : BitVec 32 := 16#32
  let v120 : BitVec 32 := Scalar.remsi v119 c16_i32_110
  let c0_i32_276 : BitVec 32 := 0#32
  let v432 : BitVec 1 := Scalar.cmpi .sgt v120 c0_i32_276
  let v433 : BitVec 32 := Scalar.extui v432
  let c0_i32_277 : BitVec 32 := 0#32
  let v434 : BitVec 1 := Scalar.cmpi .slt v120 c0_i32_277
  let v435 : BitVec 32 := Scalar.extui v434
  let v436 : BitVec 32 := Scalar.subi v433 v435
  let c8_i32_275 : BitVec 32 := 8#32
  let c0_i32_278 : BitVec 32 := 0#32
  let v437 : BitVec 1 := Scalar.cmpi .sgt c8_i32_275 c0_i32_278
  let v438 : BitVec 32 := Scalar.extui v437
  let c0_i32_279 : BitVec 32 := 0#32
  let v439 : BitVec 1 := Scalar.cmpi .slt c8_i32_275 c0_i32_279
  let v440 : BitVec 32 := Scalar.extui v439
  let v441 : BitVec 32 := Scalar.subi v438 v440
  let v442 : BitVec 1 := Scalar.cmpi .ne v436 v441
  let v443 : BitVec 32 := Scalar.remsi v120 c8_i32_275
  let c0_i32_280 : BitVec 32 := 0#32
  let v444 : BitVec 1 := Scalar.cmpi .ne v443 c0_i32_280
  let v445 : BitVec 1 := Scalar.andi v442 v444
  let v431 : BitVec 32 := Scalar.divsi v120 c8_i32_275
  let c1_i32_281 : BitVec 32 := 1#32
  let v446 : BitVec 32 := Scalar.subi v431 c1_i32_281
  let v447 : BitVec 32 := Scalar.select v445 v446 v431
  let c0_i32_282 : BitVec 32 := 0#32
  let v448 : BitVec 1 := Scalar.cmpi .eq v447 c0_i32_282
  let v449 : BitVec 32 := Scalar.extui v448
  let c0_i32_286 : BitVec 32 := 0#32
  let v450 : BitVec 1 := Scalar.cmpi .ne v449 c0_i32_286
  v450

def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_109 : BitVec 32 := 13#32
  let v119 : BitVec 32 := Scalar.addi v2 c13_i32_109
  let c16_i32_110 : BitVec 32 := 16#32
  let v120 : BitVec 32 := Scalar.remsi v119 c16_i32_110
  let c16_i32_111 : BitVec 32 := 16#32
  let v121 : BitVec 32 := Scalar.muli v120 c16_i32_111
  let c0_i32_1060 : BitVec 32 := 0#32
  ![v121.toNat, 0]
def k0_dev28 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_109 : BitVec 32 := 13#32
  let v119 : BitVec 32 := Scalar.addi v2 c13_i32_109
  let c16_i32_110 : BitVec 32 := 16#32
  let v120 : BitVec 32 := Scalar.remsi v119 c16_i32_110
  let c1_i32_1056 : BitVec 32 := 1#32
  let v1382 : BitVec 32 := Scalar.muli v120 c1_i32_1056
  let v1383 : BitVec 32 := Scalar.addi c0_i32_1057 v1382
  v1383.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_112 : BitVec 32 := 14#32
  let v122 : BitVec 32 := Scalar.addi v2 c14_i32_112
  let c16_i32_113 : BitVec 32 := 16#32
  let v123 : BitVec 32 := Scalar.remsi v122 c16_i32_113
  let c0_i32_288 : BitVec 32 := 0#32
  let v452 : BitVec 1 := Scalar.cmpi .sgt v123 c0_i32_288
  let v453 : BitVec 32 := Scalar.extui v452
  let c0_i32_289 : BitVec 32 := 0#32
  let v454 : BitVec 1 := Scalar.cmpi .slt v123 c0_i32_289
  let v455 : BitVec 32 := Scalar.extui v454
  let v456 : BitVec 32 := Scalar.subi v453 v455
  let c8_i32_287 : BitVec 32 := 8#32
  let c0_i32_290 : BitVec 32 := 0#32
  let v457 : BitVec 1 := Scalar.cmpi .sgt c8_i32_287 c0_i32_290
  let v458 : BitVec 32 := Scalar.extui v457
  let c0_i32_291 : BitVec 32 := 0#32
  let v459 : BitVec 1 := Scalar.cmpi .slt c8_i32_287 c0_i32_291
  let v460 : BitVec 32 := Scalar.extui v459
  let v461 : BitVec 32 := Scalar.subi v458 v460
  let v462 : BitVec 1 := Scalar.cmpi .ne v456 v461
  let v463 : BitVec 32 := Scalar.remsi v123 c8_i32_287
  let c0_i32_292 : BitVec 32 := 0#32
  let v464 : BitVec 1 := Scalar.cmpi .ne v463 c0_i32_292
  let v465 : BitVec 1 := Scalar.andi v462 v464
  let v451 : BitVec 32 := Scalar.divsi v123 c8_i32_287
  let c1_i32_293 : BitVec 32 := 1#32
  let v466 : BitVec 32 := Scalar.subi v451 c1_i32_293
  let v467 : BitVec 32 := Scalar.select v465 v466 v451
  let c0_i32_294 : BitVec 32 := 0#32
  let v468 : BitVec 1 := Scalar.cmpi .eq v467 c0_i32_294
  let v469 : BitVec 32 := Scalar.extui v468
  let c0_i32_298 : BitVec 32 := 0#32
  let v470 : BitVec 1 := Scalar.cmpi .ne v469 c0_i32_298
  v470

def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_112 : BitVec 32 := 14#32
  let v122 : BitVec 32 := Scalar.addi v2 c14_i32_112
  let c16_i32_113 : BitVec 32 := 16#32
  let v123 : BitVec 32 := Scalar.remsi v122 c16_i32_113
  let c16_i32_114 : BitVec 32 := 16#32
  let v124 : BitVec 32 := Scalar.muli v123 c16_i32_114
  let c0_i32_1060 : BitVec 32 := 0#32
  ![v124.toNat, 0]
def k0_dev29 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_112 : BitVec 32 := 14#32
  let v122 : BitVec 32 := Scalar.addi v2 c14_i32_112
  let c16_i32_113 : BitVec 32 := 16#32
  let v123 : BitVec 32 := Scalar.remsi v122 c16_i32_113
  let c1_i32_1056 : BitVec 32 := 1#32
  let v1382 : BitVec 32 := Scalar.muli v123 c1_i32_1056
  let v1383 : BitVec 32 := Scalar.addi c0_i32_1057 v1382
  v1383.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_115 : BitVec 32 := 15#32
  let v125 : BitVec 32 := Scalar.addi v2 c15_i32_115
  let c16_i32_116 : BitVec 32 := 16#32
  let v126 : BitVec 32 := Scalar.remsi v125 c16_i32_116
  let c0_i32_300 : BitVec 32 := 0#32
  let v472 : BitVec 1 := Scalar.cmpi .sgt v126 c0_i32_300
  let v473 : BitVec 32 := Scalar.extui v472
  let c0_i32_301 : BitVec 32 := 0#32
  let v474 : BitVec 1 := Scalar.cmpi .slt v126 c0_i32_301
  let v475 : BitVec 32 := Scalar.extui v474
  let v476 : BitVec 32 := Scalar.subi v473 v475
  let c8_i32_299 : BitVec 32 := 8#32
  let c0_i32_302 : BitVec 32 := 0#32
  let v477 : BitVec 1 := Scalar.cmpi .sgt c8_i32_299 c0_i32_302
  let v478 : BitVec 32 := Scalar.extui v477
  let c0_i32_303 : BitVec 32 := 0#32
  let v479 : BitVec 1 := Scalar.cmpi .slt c8_i32_299 c0_i32_303
  let v480 : BitVec 32 := Scalar.extui v479
  let v481 : BitVec 32 := Scalar.subi v478 v480
  let v482 : BitVec 1 := Scalar.cmpi .ne v476 v481
  let v483 : BitVec 32 := Scalar.remsi v126 c8_i32_299
  let c0_i32_304 : BitVec 32 := 0#32
  let v484 : BitVec 1 := Scalar.cmpi .ne v483 c0_i32_304
  let v485 : BitVec 1 := Scalar.andi v482 v484
  let v471 : BitVec 32 := Scalar.divsi v126 c8_i32_299
  let c1_i32_305 : BitVec 32 := 1#32
  let v486 : BitVec 32 := Scalar.subi v471 c1_i32_305
  let v487 : BitVec 32 := Scalar.select v485 v486 v471
  let c0_i32_306 : BitVec 32 := 0#32
  let v488 : BitVec 1 := Scalar.cmpi .eq v487 c0_i32_306
  let v489 : BitVec 32 := Scalar.extui v488
  let c0_i32_310 : BitVec 32 := 0#32
  let v490 : BitVec 1 := Scalar.cmpi .ne v489 c0_i32_310
  v490

def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_115 : BitVec 32 := 15#32
  let v125 : BitVec 32 := Scalar.addi v2 c15_i32_115
  let c16_i32_116 : BitVec 32 := 16#32
  let v126 : BitVec 32 := Scalar.remsi v125 c16_i32_116
  let c16_i32_117 : BitVec 32 := 16#32
  let v127 : BitVec 32 := Scalar.muli v126 c16_i32_117
  let c0_i32_1060 : BitVec 32 := 0#32
  ![v127.toNat, 0]
def k0_dev30 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_115 : BitVec 32 := 15#32
  let v125 : BitVec 32 := Scalar.addi v2 c15_i32_115
  let c16_i32_116 : BitVec 32 := 16#32
  let v126 : BitVec 32 := Scalar.remsi v125 c16_i32_116
  let c1_i32_1056 : BitVec 32 := 1#32
  let v1382 : BitVec 32 := Scalar.muli v126 c1_i32_1056
  let v1383 : BitVec 32 := Scalar.addi c0_i32_1057 v1382
  v1383.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_73 : BitVec 32 := 1#32
  let v83 : BitVec 32 := Scalar.addi v2 c1_i32_73
  let c16_i32_74 : BitVec 32 := 16#32
  let v84 : BitVec 32 := Scalar.remsi v83 c16_i32_74
  let c0_i32_324 : BitVec 32 := 0#32
  let v555 : BitVec 1 := Scalar.cmpi .sgt v84 c0_i32_324
  let v556 : BitVec 32 := Scalar.extui v555
  let c0_i32_325 : BitVec 32 := 0#32
  let v557 : BitVec 1 := Scalar.cmpi .slt v84 c0_i32_325
  let v558 : BitVec 32 := Scalar.extui v557
  let v559 : BitVec 32 := Scalar.subi v556 v558
  let c8_i32_323 : BitVec 32 := 8#32
  let c0_i32_326 : BitVec 32 := 0#32
  let v560 : BitVec 1 := Scalar.cmpi .sgt c8_i32_323 c0_i32_326
  let v561 : BitVec 32 := Scalar.extui v560
  let c0_i32_327 : BitVec 32 := 0#32
  let v562 : BitVec 1 := Scalar.cmpi .slt c8_i32_323 c0_i32_327
  let v563 : BitVec 32 := Scalar.extui v562
  let v564 : BitVec 32 := Scalar.subi v561 v563
  let v565 : BitVec 1 := Scalar.cmpi .ne v559 v564
  let v566 : BitVec 32 := Scalar.remsi v84 c8_i32_323
  let c0_i32_328 : BitVec 32 := 0#32
  let v567 : BitVec 1 := Scalar.cmpi .ne v566 c0_i32_328
  let v568 : BitVec 1 := Scalar.andi v565 v567
  let v554 : BitVec 32 := Scalar.divsi v84 c8_i32_323
  let c1_i32_329 : BitVec 32 := 1#32
  let v569 : BitVec 32 := Scalar.subi v554 c1_i32_329
  let v570 : BitVec 32 := Scalar.select v568 v569 v554
  let c1_i32_330 : BitVec 32 := 1#32
  let v571 : BitVec 1 := Scalar.cmpi .eq v570 c1_i32_330
  let v572 : BitVec 32 := Scalar.extui v571
  let c0_i32_334 : BitVec 32 := 0#32
  let v573 : BitVec 1 := Scalar.cmpi .ne v572 c0_i32_334
  v573

def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_73 : BitVec 32 := 1#32
  let v83 : BitVec 32 := Scalar.addi v2 c1_i32_73
  let c16_i32_74 : BitVec 32 := 16#32
  let v84 : BitVec 32 := Scalar.remsi v83 c16_i32_74
  let c16_i32_75 : BitVec 32 := 16#32
  let v85 : BitVec 32 := Scalar.muli v84 c16_i32_75
  let c0_i32_1060 : BitVec 32 := 0#32
  ![v85.toNat, 0]
def k0_dev31 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_73 : BitVec 32 := 1#32
  let v83 : BitVec 32 := Scalar.addi v2 c1_i32_73
  let c16_i32_74 : BitVec 32 := 16#32
  let v84 : BitVec 32 := Scalar.remsi v83 c16_i32_74
  let c1_i32_1056 : BitVec 32 := 1#32
  let v1382 : BitVec 32 := Scalar.muli v84 c1_i32_1056
  let v1383 : BitVec 32 := Scalar.addi c0_i32_1057 v1382
  v1383.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_76 : BitVec 32 := 2#32
  let v86 : BitVec 32 := Scalar.addi v2 c2_i32_76
  let c16_i32_77 : BitVec 32 := 16#32
  let v87 : BitVec 32 := Scalar.remsi v86 c16_i32_77
  let c0_i32_336 : BitVec 32 := 0#32
  let v575 : BitVec 1 := Scalar.cmpi .sgt v87 c0_i32_336
  let v576 : BitVec 32 := Scalar.extui v575
  let c0_i32_337 : BitVec 32 := 0#32
  let v577 : BitVec 1 := Scalar.cmpi .slt v87 c0_i32_337
  let v578 : BitVec 32 := Scalar.extui v577
  let v579 : BitVec 32 := Scalar.subi v576 v578
  let c8_i32_335 : BitVec 32 := 8#32
  let c0_i32_338 : BitVec 32 := 0#32
  let v580 : BitVec 1 := Scalar.cmpi .sgt c8_i32_335 c0_i32_338
  let v581 : BitVec 32 := Scalar.extui v580
  let c0_i32_339 : BitVec 32 := 0#32
  let v582 : BitVec 1 := Scalar.cmpi .slt c8_i32_335 c0_i32_339
  let v583 : BitVec 32 := Scalar.extui v582
  let v584 : BitVec 32 := Scalar.subi v581 v583
  let v585 : BitVec 1 := Scalar.cmpi .ne v579 v584
  let v586 : BitVec 32 := Scalar.remsi v87 c8_i32_335
  let c0_i32_340 : BitVec 32 := 0#32
  let v587 : BitVec 1 := Scalar.cmpi .ne v586 c0_i32_340
  let v588 : BitVec 1 := Scalar.andi v585 v587
  let v574 : BitVec 32 := Scalar.divsi v87 c8_i32_335
  let c1_i32_341 : BitVec 32 := 1#32
  let v589 : BitVec 32 := Scalar.subi v574 c1_i32_341
  let v590 : BitVec 32 := Scalar.select v588 v589 v574
  let c1_i32_342 : BitVec 32 := 1#32
  let v591 : BitVec 1 := Scalar.cmpi .eq v590 c1_i32_342
  let v592 : BitVec 32 := Scalar.extui v591
  let c0_i32_346 : BitVec 32 := 0#32
  let v593 : BitVec 1 := Scalar.cmpi .ne v592 c0_i32_346
  v593

def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_76 : BitVec 32 := 2#32
  let v86 : BitVec 32 := Scalar.addi v2 c2_i32_76
  let c16_i32_77 : BitVec 32 := 16#32
  let v87 : BitVec 32 := Scalar.remsi v86 c16_i32_77
  let c16_i32_78 : BitVec 32 := 16#32
  let v88 : BitVec 32 := Scalar.muli v87 c16_i32_78
  let c0_i32_1060 : BitVec 32 := 0#32
  ![v88.toNat, 0]
def k0_dev32 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_76 : BitVec 32 := 2#32
  let v86 : BitVec 32 := Scalar.addi v2 c2_i32_76
  let c16_i32_77 : BitVec 32 := 16#32
  let v87 : BitVec 32 := Scalar.remsi v86 c16_i32_77
  let c1_i32_1056 : BitVec 32 := 1#32
  let v1382 : BitVec 32 := Scalar.muli v87 c1_i32_1056
  let v1383 : BitVec 32 := Scalar.addi c0_i32_1057 v1382
  v1383.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_79 : BitVec 32 := 3#32
  let v89 : BitVec 32 := Scalar.addi v2 c3_i32_79
  let c16_i32_80 : BitVec 32 := 16#32
  let v90 : BitVec 32 := Scalar.remsi v89 c16_i32_80
  let c0_i32_348 : BitVec 32 := 0#32
  let v595 : BitVec 1 := Scalar.cmpi .sgt v90 c0_i32_348
  let v596 : BitVec 32 := Scalar.extui v595
  let c0_i32_349 : BitVec 32 := 0#32
  let v597 : BitVec 1 := Scalar.cmpi .slt v90 c0_i32_349
  let v598 : BitVec 32 := Scalar.extui v597
  let v599 : BitVec 32 := Scalar.subi v596 v598
  let c8_i32_347 : BitVec 32 := 8#32
  let c0_i32_350 : BitVec 32 := 0#32
  let v600 : BitVec 1 := Scalar.cmpi .sgt c8_i32_347 c0_i32_350
  let v601 : BitVec 32 := Scalar.extui v600
  let c0_i32_351 : BitVec 32 := 0#32
  let v602 : BitVec 1 := Scalar.cmpi .slt c8_i32_347 c0_i32_351
  let v603 : BitVec 32 := Scalar.extui v602
  let v604 : BitVec 32 := Scalar.subi v601 v603
  let v605 : BitVec 1 := Scalar.cmpi .ne v599 v604
  let v606 : BitVec 32 := Scalar.remsi v90 c8_i32_347
  let c0_i32_352 : BitVec 32 := 0#32
  let v607 : BitVec 1 := Scalar.cmpi .ne v606 c0_i32_352
  let v608 : BitVec 1 := Scalar.andi v605 v607
  let v594 : BitVec 32 := Scalar.divsi v90 c8_i32_347
  let c1_i32_353 : BitVec 32 := 1#32
  let v609 : BitVec 32 := Scalar.subi v594 c1_i32_353
  let v610 : BitVec 32 := Scalar.select v608 v609 v594
  let c1_i32_354 : BitVec 32 := 1#32
  let v611 : BitVec 1 := Scalar.cmpi .eq v610 c1_i32_354
  let v612 : BitVec 32 := Scalar.extui v611
  let c0_i32_358 : BitVec 32 := 0#32
  let v613 : BitVec 1 := Scalar.cmpi .ne v612 c0_i32_358
  v613

def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_79 : BitVec 32 := 3#32
  let v89 : BitVec 32 := Scalar.addi v2 c3_i32_79
  let c16_i32_80 : BitVec 32 := 16#32
  let v90 : BitVec 32 := Scalar.remsi v89 c16_i32_80
  let c16_i32_81 : BitVec 32 := 16#32
  let v91 : BitVec 32 := Scalar.muli v90 c16_i32_81
  let c0_i32_1060 : BitVec 32 := 0#32
  ![v91.toNat, 0]
def k0_dev33 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_79 : BitVec 32 := 3#32
  let v89 : BitVec 32 := Scalar.addi v2 c3_i32_79
  let c16_i32_80 : BitVec 32 := 16#32
  let v90 : BitVec 32 := Scalar.remsi v89 c16_i32_80
  let c1_i32_1056 : BitVec 32 := 1#32
  let v1382 : BitVec 32 := Scalar.muli v90 c1_i32_1056
  let v1383 : BitVec 32 := Scalar.addi c0_i32_1057 v1382
  v1383.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_82 : BitVec 32 := 4#32
  let v92 : BitVec 32 := Scalar.addi v2 c4_i32_82
  let c16_i32_83 : BitVec 32 := 16#32
  let v93 : BitVec 32 := Scalar.remsi v92 c16_i32_83
  let c0_i32_360 : BitVec 32 := 0#32
  let v615 : BitVec 1 := Scalar.cmpi .sgt v93 c0_i32_360
  let v616 : BitVec 32 := Scalar.extui v615
  let c0_i32_361 : BitVec 32 := 0#32
  let v617 : BitVec 1 := Scalar.cmpi .slt v93 c0_i32_361
  let v618 : BitVec 32 := Scalar.extui v617
  let v619 : BitVec 32 := Scalar.subi v616 v618
  let c8_i32_359 : BitVec 32 := 8#32
  let c0_i32_362 : BitVec 32 := 0#32
  let v620 : BitVec 1 := Scalar.cmpi .sgt c8_i32_359 c0_i32_362
  let v621 : BitVec 32 := Scalar.extui v620
  let c0_i32_363 : BitVec 32 := 0#32
  let v622 : BitVec 1 := Scalar.cmpi .slt c8_i32_359 c0_i32_363
  let v623 : BitVec 32 := Scalar.extui v622
  let v624 : BitVec 32 := Scalar.subi v621 v623
  let v625 : BitVec 1 := Scalar.cmpi .ne v619 v624
  let v626 : BitVec 32 := Scalar.remsi v93 c8_i32_359
  let c0_i32_364 : BitVec 32 := 0#32
  let v627 : BitVec 1 := Scalar.cmpi .ne v626 c0_i32_364
  let v628 : BitVec 1 := Scalar.andi v625 v627
  let v614 : BitVec 32 := Scalar.divsi v93 c8_i32_359
  let c1_i32_365 : BitVec 32 := 1#32
  let v629 : BitVec 32 := Scalar.subi v614 c1_i32_365
  let v630 : BitVec 32 := Scalar.select v628 v629 v614
  let c1_i32_366 : BitVec 32 := 1#32
  let v631 : BitVec 1 := Scalar.cmpi .eq v630 c1_i32_366
  let v632 : BitVec 32 := Scalar.extui v631
  let c0_i32_370 : BitVec 32 := 0#32
  let v633 : BitVec 1 := Scalar.cmpi .ne v632 c0_i32_370
  v633

def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_82 : BitVec 32 := 4#32
  let v92 : BitVec 32 := Scalar.addi v2 c4_i32_82
  let c16_i32_83 : BitVec 32 := 16#32
  let v93 : BitVec 32 := Scalar.remsi v92 c16_i32_83
  let c16_i32_84 : BitVec 32 := 16#32
  let v94 : BitVec 32 := Scalar.muli v93 c16_i32_84
  let c0_i32_1060 : BitVec 32 := 0#32
  ![v94.toNat, 0]
def k0_dev34 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_82 : BitVec 32 := 4#32
  let v92 : BitVec 32 := Scalar.addi v2 c4_i32_82
  let c16_i32_83 : BitVec 32 := 16#32
  let v93 : BitVec 32 := Scalar.remsi v92 c16_i32_83
  let c1_i32_1056 : BitVec 32 := 1#32
  let v1382 : BitVec 32 := Scalar.muli v93 c1_i32_1056
  let v1383 : BitVec 32 := Scalar.addi c0_i32_1057 v1382
  v1383.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_85 : BitVec 32 := 5#32
  let v95 : BitVec 32 := Scalar.addi v2 c5_i32_85
  let c16_i32_86 : BitVec 32 := 16#32
  let v96 : BitVec 32 := Scalar.remsi v95 c16_i32_86
  let c0_i32_372 : BitVec 32 := 0#32
  let v635 : BitVec 1 := Scalar.cmpi .sgt v96 c0_i32_372
  let v636 : BitVec 32 := Scalar.extui v635
  let c0_i32_373 : BitVec 32 := 0#32
  let v637 : BitVec 1 := Scalar.cmpi .slt v96 c0_i32_373
  let v638 : BitVec 32 := Scalar.extui v637
  let v639 : BitVec 32 := Scalar.subi v636 v638
  let c8_i32_371 : BitVec 32 := 8#32
  let c0_i32_374 : BitVec 32 := 0#32
  let v640 : BitVec 1 := Scalar.cmpi .sgt c8_i32_371 c0_i32_374
  let v641 : BitVec 32 := Scalar.extui v640
  let c0_i32_375 : BitVec 32 := 0#32
  let v642 : BitVec 1 := Scalar.cmpi .slt c8_i32_371 c0_i32_375
  let v643 : BitVec 32 := Scalar.extui v642
  let v644 : BitVec 32 := Scalar.subi v641 v643
  let v645 : BitVec 1 := Scalar.cmpi .ne v639 v644
  let v646 : BitVec 32 := Scalar.remsi v96 c8_i32_371
  let c0_i32_376 : BitVec 32 := 0#32
  let v647 : BitVec 1 := Scalar.cmpi .ne v646 c0_i32_376
  let v648 : BitVec 1 := Scalar.andi v645 v647
  let v634 : BitVec 32 := Scalar.divsi v96 c8_i32_371
  let c1_i32_377 : BitVec 32 := 1#32
  let v649 : BitVec 32 := Scalar.subi v634 c1_i32_377
  let v650 : BitVec 32 := Scalar.select v648 v649 v634
  let c1_i32_378 : BitVec 32 := 1#32
  let v651 : BitVec 1 := Scalar.cmpi .eq v650 c1_i32_378
  let v652 : BitVec 32 := Scalar.extui v651
  let c0_i32_382 : BitVec 32 := 0#32
  let v653 : BitVec 1 := Scalar.cmpi .ne v652 c0_i32_382
  v653

def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_85 : BitVec 32 := 5#32
  let v95 : BitVec 32 := Scalar.addi v2 c5_i32_85
  let c16_i32_86 : BitVec 32 := 16#32
  let v96 : BitVec 32 := Scalar.remsi v95 c16_i32_86
  let c16_i32_87 : BitVec 32 := 16#32
  let v97 : BitVec 32 := Scalar.muli v96 c16_i32_87
  let c0_i32_1060 : BitVec 32 := 0#32
  ![v97.toNat, 0]
def k0_dev35 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_85 : BitVec 32 := 5#32
  let v95 : BitVec 32 := Scalar.addi v2 c5_i32_85
  let c16_i32_86 : BitVec 32 := 16#32
  let v96 : BitVec 32 := Scalar.remsi v95 c16_i32_86
  let c1_i32_1056 : BitVec 32 := 1#32
  let v1382 : BitVec 32 := Scalar.muli v96 c1_i32_1056
  let v1383 : BitVec 32 := Scalar.addi c0_i32_1057 v1382
  v1383.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_88 : BitVec 32 := 6#32
  let v98 : BitVec 32 := Scalar.addi v2 c6_i32_88
  let c16_i32_89 : BitVec 32 := 16#32
  let v99 : BitVec 32 := Scalar.remsi v98 c16_i32_89
  let c0_i32_384 : BitVec 32 := 0#32
  let v655 : BitVec 1 := Scalar.cmpi .sgt v99 c0_i32_384
  let v656 : BitVec 32 := Scalar.extui v655
  let c0_i32_385 : BitVec 32 := 0#32
  let v657 : BitVec 1 := Scalar.cmpi .slt v99 c0_i32_385
  let v658 : BitVec 32 := Scalar.extui v657
  let v659 : BitVec 32 := Scalar.subi v656 v658
  let c8_i32_383 : BitVec 32 := 8#32
  let c0_i32_386 : BitVec 32 := 0#32
  let v660 : BitVec 1 := Scalar.cmpi .sgt c8_i32_383 c0_i32_386
  let v661 : BitVec 32 := Scalar.extui v660
  let c0_i32_387 : BitVec 32 := 0#32
  let v662 : BitVec 1 := Scalar.cmpi .slt c8_i32_383 c0_i32_387
  let v663 : BitVec 32 := Scalar.extui v662
  let v664 : BitVec 32 := Scalar.subi v661 v663
  let v665 : BitVec 1 := Scalar.cmpi .ne v659 v664
  let v666 : BitVec 32 := Scalar.remsi v99 c8_i32_383
  let c0_i32_388 : BitVec 32 := 0#32
  let v667 : BitVec 1 := Scalar.cmpi .ne v666 c0_i32_388
  let v668 : BitVec 1 := Scalar.andi v665 v667
  let v654 : BitVec 32 := Scalar.divsi v99 c8_i32_383
  let c1_i32_389 : BitVec 32 := 1#32
  let v669 : BitVec 32 := Scalar.subi v654 c1_i32_389
  let v670 : BitVec 32 := Scalar.select v668 v669 v654
  let c1_i32_390 : BitVec 32 := 1#32
  let v671 : BitVec 1 := Scalar.cmpi .eq v670 c1_i32_390
  let v672 : BitVec 32 := Scalar.extui v671
  let c0_i32_394 : BitVec 32 := 0#32
  let v673 : BitVec 1 := Scalar.cmpi .ne v672 c0_i32_394
  v673

def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_88 : BitVec 32 := 6#32
  let v98 : BitVec 32 := Scalar.addi v2 c6_i32_88
  let c16_i32_89 : BitVec 32 := 16#32
  let v99 : BitVec 32 := Scalar.remsi v98 c16_i32_89
  let c16_i32_90 : BitVec 32 := 16#32
  let v100 : BitVec 32 := Scalar.muli v99 c16_i32_90
  let c0_i32_1060 : BitVec 32 := 0#32
  ![v100.toNat, 0]
def k0_dev36 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_88 : BitVec 32 := 6#32
  let v98 : BitVec 32 := Scalar.addi v2 c6_i32_88
  let c16_i32_89 : BitVec 32 := 16#32
  let v99 : BitVec 32 := Scalar.remsi v98 c16_i32_89
  let c1_i32_1056 : BitVec 32 := 1#32
  let v1382 : BitVec 32 := Scalar.muli v99 c1_i32_1056
  let v1383 : BitVec 32 := Scalar.addi c0_i32_1057 v1382
  v1383.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_91 : BitVec 32 := 7#32
  let v101 : BitVec 32 := Scalar.addi v2 c7_i32_91
  let c16_i32_92 : BitVec 32 := 16#32
  let v102 : BitVec 32 := Scalar.remsi v101 c16_i32_92
  let c0_i32_396 : BitVec 32 := 0#32
  let v675 : BitVec 1 := Scalar.cmpi .sgt v102 c0_i32_396
  let v676 : BitVec 32 := Scalar.extui v675
  let c0_i32_397 : BitVec 32 := 0#32
  let v677 : BitVec 1 := Scalar.cmpi .slt v102 c0_i32_397
  let v678 : BitVec 32 := Scalar.extui v677
  let v679 : BitVec 32 := Scalar.subi v676 v678
  let c8_i32_395 : BitVec 32 := 8#32
  let c0_i32_398 : BitVec 32 := 0#32
  let v680 : BitVec 1 := Scalar.cmpi .sgt c8_i32_395 c0_i32_398
  let v681 : BitVec 32 := Scalar.extui v680
  let c0_i32_399 : BitVec 32 := 0#32
  let v682 : BitVec 1 := Scalar.cmpi .slt c8_i32_395 c0_i32_399
  let v683 : BitVec 32 := Scalar.extui v682
  let v684 : BitVec 32 := Scalar.subi v681 v683
  let v685 : BitVec 1 := Scalar.cmpi .ne v679 v684
  let v686 : BitVec 32 := Scalar.remsi v102 c8_i32_395
  let c0_i32_400 : BitVec 32 := 0#32
  let v687 : BitVec 1 := Scalar.cmpi .ne v686 c0_i32_400
  let v688 : BitVec 1 := Scalar.andi v685 v687
  let v674 : BitVec 32 := Scalar.divsi v102 c8_i32_395
  let c1_i32_401 : BitVec 32 := 1#32
  let v689 : BitVec 32 := Scalar.subi v674 c1_i32_401
  let v690 : BitVec 32 := Scalar.select v688 v689 v674
  let c1_i32_402 : BitVec 32 := 1#32
  let v691 : BitVec 1 := Scalar.cmpi .eq v690 c1_i32_402
  let v692 : BitVec 32 := Scalar.extui v691
  let c0_i32_406 : BitVec 32 := 0#32
  let v693 : BitVec 1 := Scalar.cmpi .ne v692 c0_i32_406
  v693

def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_91 : BitVec 32 := 7#32
  let v101 : BitVec 32 := Scalar.addi v2 c7_i32_91
  let c16_i32_92 : BitVec 32 := 16#32
  let v102 : BitVec 32 := Scalar.remsi v101 c16_i32_92
  let c16_i32_93 : BitVec 32 := 16#32
  let v103 : BitVec 32 := Scalar.muli v102 c16_i32_93
  let c0_i32_1060 : BitVec 32 := 0#32
  ![v103.toNat, 0]
def k0_dev37 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_91 : BitVec 32 := 7#32
  let v101 : BitVec 32 := Scalar.addi v2 c7_i32_91
  let c16_i32_92 : BitVec 32 := 16#32
  let v102 : BitVec 32 := Scalar.remsi v101 c16_i32_92
  let c1_i32_1056 : BitVec 32 := 1#32
  let v1382 : BitVec 32 := Scalar.muli v102 c1_i32_1056
  let v1383 : BitVec 32 := Scalar.addi c0_i32_1057 v1382
  v1383.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_94 : BitVec 32 := 8#32
  let v104 : BitVec 32 := Scalar.addi v2 c8_i32_94
  let c16_i32_95 : BitVec 32 := 16#32
  let v105 : BitVec 32 := Scalar.remsi v104 c16_i32_95
  let c0_i32_408 : BitVec 32 := 0#32
  let v695 : BitVec 1 := Scalar.cmpi .sgt v105 c0_i32_408
  let v696 : BitVec 32 := Scalar.extui v695
  let c0_i32_409 : BitVec 32 := 0#32
  let v697 : BitVec 1 := Scalar.cmpi .slt v105 c0_i32_409
  let v698 : BitVec 32 := Scalar.extui v697
  let v699 : BitVec 32 := Scalar.subi v696 v698
  let c8_i32_407 : BitVec 32 := 8#32
  let c0_i32_410 : BitVec 32 := 0#32
  let v700 : BitVec 1 := Scalar.cmpi .sgt c8_i32_407 c0_i32_410
  let v701 : BitVec 32 := Scalar.extui v700
  let c0_i32_411 : BitVec 32 := 0#32
  let v702 : BitVec 1 := Scalar.cmpi .slt c8_i32_407 c0_i32_411
  let v703 : BitVec 32 := Scalar.extui v702
  let v704 : BitVec 32 := Scalar.subi v701 v703
  let v705 : BitVec 1 := Scalar.cmpi .ne v699 v704
  let v706 : BitVec 32 := Scalar.remsi v105 c8_i32_407
  let c0_i32_412 : BitVec 32 := 0#32
  let v707 : BitVec 1 := Scalar.cmpi .ne v706 c0_i32_412
  let v708 : BitVec 1 := Scalar.andi v705 v707
  let v694 : BitVec 32 := Scalar.divsi v105 c8_i32_407
  let c1_i32_413 : BitVec 32 := 1#32
  let v709 : BitVec 32 := Scalar.subi v694 c1_i32_413
  let v710 : BitVec 32 := Scalar.select v708 v709 v694
  let c1_i32_414 : BitVec 32 := 1#32
  let v711 : BitVec 1 := Scalar.cmpi .eq v710 c1_i32_414
  let v712 : BitVec 32 := Scalar.extui v711
  let c0_i32_418 : BitVec 32 := 0#32
  let v713 : BitVec 1 := Scalar.cmpi .ne v712 c0_i32_418
  v713

def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_94 : BitVec 32 := 8#32
  let v104 : BitVec 32 := Scalar.addi v2 c8_i32_94
  let c16_i32_95 : BitVec 32 := 16#32
  let v105 : BitVec 32 := Scalar.remsi v104 c16_i32_95
  let c16_i32_96 : BitVec 32 := 16#32
  let v106 : BitVec 32 := Scalar.muli v105 c16_i32_96
  let c0_i32_1060 : BitVec 32 := 0#32
  ![v106.toNat, 0]
def k0_dev38 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_94 : BitVec 32 := 8#32
  let v104 : BitVec 32 := Scalar.addi v2 c8_i32_94
  let c16_i32_95 : BitVec 32 := 16#32
  let v105 : BitVec 32 := Scalar.remsi v104 c16_i32_95
  let c1_i32_1056 : BitVec 32 := 1#32
  let v1382 : BitVec 32 := Scalar.muli v105 c1_i32_1056
  let v1383 : BitVec 32 := Scalar.addi c0_i32_1057 v1382
  v1383.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_97 : BitVec 32 := 9#32
  let v107 : BitVec 32 := Scalar.addi v2 c9_i32_97
  let c16_i32_98 : BitVec 32 := 16#32
  let v108 : BitVec 32 := Scalar.remsi v107 c16_i32_98
  let c0_i32_420 : BitVec 32 := 0#32
  let v715 : BitVec 1 := Scalar.cmpi .sgt v108 c0_i32_420
  let v716 : BitVec 32 := Scalar.extui v715
  let c0_i32_421 : BitVec 32 := 0#32
  let v717 : BitVec 1 := Scalar.cmpi .slt v108 c0_i32_421
  let v718 : BitVec 32 := Scalar.extui v717
  let v719 : BitVec 32 := Scalar.subi v716 v718
  let c8_i32_419 : BitVec 32 := 8#32
  let c0_i32_422 : BitVec 32 := 0#32
  let v720 : BitVec 1 := Scalar.cmpi .sgt c8_i32_419 c0_i32_422
  let v721 : BitVec 32 := Scalar.extui v720
  let c0_i32_423 : BitVec 32 := 0#32
  let v722 : BitVec 1 := Scalar.cmpi .slt c8_i32_419 c0_i32_423
  let v723 : BitVec 32 := Scalar.extui v722
  let v724 : BitVec 32 := Scalar.subi v721 v723
  let v725 : BitVec 1 := Scalar.cmpi .ne v719 v724
  let v726 : BitVec 32 := Scalar.remsi v108 c8_i32_419
  let c0_i32_424 : BitVec 32 := 0#32
  let v727 : BitVec 1 := Scalar.cmpi .ne v726 c0_i32_424
  let v728 : BitVec 1 := Scalar.andi v725 v727
  let v714 : BitVec 32 := Scalar.divsi v108 c8_i32_419
  let c1_i32_425 : BitVec 32 := 1#32
  let v729 : BitVec 32 := Scalar.subi v714 c1_i32_425
  let v730 : BitVec 32 := Scalar.select v728 v729 v714
  let c1_i32_426 : BitVec 32 := 1#32
  let v731 : BitVec 1 := Scalar.cmpi .eq v730 c1_i32_426
  let v732 : BitVec 32 := Scalar.extui v731
  let c0_i32_430 : BitVec 32 := 0#32
  let v733 : BitVec 1 := Scalar.cmpi .ne v732 c0_i32_430
  v733

def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_97 : BitVec 32 := 9#32
  let v107 : BitVec 32 := Scalar.addi v2 c9_i32_97
  let c16_i32_98 : BitVec 32 := 16#32
  let v108 : BitVec 32 := Scalar.remsi v107 c16_i32_98
  let c16_i32_99 : BitVec 32 := 16#32
  let v109 : BitVec 32 := Scalar.muli v108 c16_i32_99
  let c0_i32_1060 : BitVec 32 := 0#32
  ![v109.toNat, 0]
def k0_dev39 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_97 : BitVec 32 := 9#32
  let v107 : BitVec 32 := Scalar.addi v2 c9_i32_97
  let c16_i32_98 : BitVec 32 := 16#32
  let v108 : BitVec 32 := Scalar.remsi v107 c16_i32_98
  let c1_i32_1056 : BitVec 32 := 1#32
  let v1382 : BitVec 32 := Scalar.muli v108 c1_i32_1056
  let v1383 : BitVec 32 := Scalar.addi c0_i32_1057 v1382
  v1383.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_100 : BitVec 32 := 10#32
  let v110 : BitVec 32 := Scalar.addi v2 c10_i32_100
  let c16_i32_101 : BitVec 32 := 16#32
  let v111 : BitVec 32 := Scalar.remsi v110 c16_i32_101
  let c0_i32_432 : BitVec 32 := 0#32
  let v735 : BitVec 1 := Scalar.cmpi .sgt v111 c0_i32_432
  let v736 : BitVec 32 := Scalar.extui v735
  let c0_i32_433 : BitVec 32 := 0#32
  let v737 : BitVec 1 := Scalar.cmpi .slt v111 c0_i32_433
  let v738 : BitVec 32 := Scalar.extui v737
  let v739 : BitVec 32 := Scalar.subi v736 v738
  let c8_i32_431 : BitVec 32 := 8#32
  let c0_i32_434 : BitVec 32 := 0#32
  let v740 : BitVec 1 := Scalar.cmpi .sgt c8_i32_431 c0_i32_434
  let v741 : BitVec 32 := Scalar.extui v740
  let c0_i32_435 : BitVec 32 := 0#32
  let v742 : BitVec 1 := Scalar.cmpi .slt c8_i32_431 c0_i32_435
  let v743 : BitVec 32 := Scalar.extui v742
  let v744 : BitVec 32 := Scalar.subi v741 v743
  let v745 : BitVec 1 := Scalar.cmpi .ne v739 v744
  let v746 : BitVec 32 := Scalar.remsi v111 c8_i32_431
  let c0_i32_436 : BitVec 32 := 0#32
  let v747 : BitVec 1 := Scalar.cmpi .ne v746 c0_i32_436
  let v748 : BitVec 1 := Scalar.andi v745 v747
  let v734 : BitVec 32 := Scalar.divsi v111 c8_i32_431
  let c1_i32_437 : BitVec 32 := 1#32
  let v749 : BitVec 32 := Scalar.subi v734 c1_i32_437
  let v750 : BitVec 32 := Scalar.select v748 v749 v734
  let c1_i32_438 : BitVec 32 := 1#32
  let v751 : BitVec 1 := Scalar.cmpi .eq v750 c1_i32_438
  let v752 : BitVec 32 := Scalar.extui v751
  let c0_i32_442 : BitVec 32 := 0#32
  let v753 : BitVec 1 := Scalar.cmpi .ne v752 c0_i32_442
  v753

def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_100 : BitVec 32 := 10#32
  let v110 : BitVec 32 := Scalar.addi v2 c10_i32_100
  let c16_i32_101 : BitVec 32 := 16#32
  let v111 : BitVec 32 := Scalar.remsi v110 c16_i32_101
  let c16_i32_102 : BitVec 32 := 16#32
  let v112 : BitVec 32 := Scalar.muli v111 c16_i32_102
  let c0_i32_1060 : BitVec 32 := 0#32
  ![v112.toNat, 0]
def k0_dev40 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_100 : BitVec 32 := 10#32
  let v110 : BitVec 32 := Scalar.addi v2 c10_i32_100
  let c16_i32_101 : BitVec 32 := 16#32
  let v111 : BitVec 32 := Scalar.remsi v110 c16_i32_101
  let c1_i32_1056 : BitVec 32 := 1#32
  let v1382 : BitVec 32 := Scalar.muli v111 c1_i32_1056
  let v1383 : BitVec 32 := Scalar.addi c0_i32_1057 v1382
  v1383.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_103 : BitVec 32 := 11#32
  let v113 : BitVec 32 := Scalar.addi v2 c11_i32_103
  let c16_i32_104 : BitVec 32 := 16#32
  let v114 : BitVec 32 := Scalar.remsi v113 c16_i32_104
  let c0_i32_444 : BitVec 32 := 0#32
  let v755 : BitVec 1 := Scalar.cmpi .sgt v114 c0_i32_444
  let v756 : BitVec 32 := Scalar.extui v755
  let c0_i32_445 : BitVec 32 := 0#32
  let v757 : BitVec 1 := Scalar.cmpi .slt v114 c0_i32_445
  let v758 : BitVec 32 := Scalar.extui v757
  let v759 : BitVec 32 := Scalar.subi v756 v758
  let c8_i32_443 : BitVec 32 := 8#32
  let c0_i32_446 : BitVec 32 := 0#32
  let v760 : BitVec 1 := Scalar.cmpi .sgt c8_i32_443 c0_i32_446
  let v761 : BitVec 32 := Scalar.extui v760
  let c0_i32_447 : BitVec 32 := 0#32
  let v762 : BitVec 1 := Scalar.cmpi .slt c8_i32_443 c0_i32_447
  let v763 : BitVec 32 := Scalar.extui v762
  let v764 : BitVec 32 := Scalar.subi v761 v763
  let v765 : BitVec 1 := Scalar.cmpi .ne v759 v764
  let v766 : BitVec 32 := Scalar.remsi v114 c8_i32_443
  let c0_i32_448 : BitVec 32 := 0#32
  let v767 : BitVec 1 := Scalar.cmpi .ne v766 c0_i32_448
  let v768 : BitVec 1 := Scalar.andi v765 v767
  let v754 : BitVec 32 := Scalar.divsi v114 c8_i32_443
  let c1_i32_449 : BitVec 32 := 1#32
  let v769 : BitVec 32 := Scalar.subi v754 c1_i32_449
  let v770 : BitVec 32 := Scalar.select v768 v769 v754
  let c1_i32_450 : BitVec 32 := 1#32
  let v771 : BitVec 1 := Scalar.cmpi .eq v770 c1_i32_450
  let v772 : BitVec 32 := Scalar.extui v771
  let c0_i32_454 : BitVec 32 := 0#32
  let v773 : BitVec 1 := Scalar.cmpi .ne v772 c0_i32_454
  v773

def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_103 : BitVec 32 := 11#32
  let v113 : BitVec 32 := Scalar.addi v2 c11_i32_103
  let c16_i32_104 : BitVec 32 := 16#32
  let v114 : BitVec 32 := Scalar.remsi v113 c16_i32_104
  let c16_i32_105 : BitVec 32 := 16#32
  let v115 : BitVec 32 := Scalar.muli v114 c16_i32_105
  let c0_i32_1060 : BitVec 32 := 0#32
  ![v115.toNat, 0]
def k0_dev41 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_103 : BitVec 32 := 11#32
  let v113 : BitVec 32 := Scalar.addi v2 c11_i32_103
  let c16_i32_104 : BitVec 32 := 16#32
  let v114 : BitVec 32 := Scalar.remsi v113 c16_i32_104
  let c1_i32_1056 : BitVec 32 := 1#32
  let v1382 : BitVec 32 := Scalar.muli v114 c1_i32_1056
  let v1383 : BitVec 32 := Scalar.addi c0_i32_1057 v1382
  v1383.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_106 : BitVec 32 := 12#32
  let v116 : BitVec 32 := Scalar.addi v2 c12_i32_106
  let c16_i32_107 : BitVec 32 := 16#32
  let v117 : BitVec 32 := Scalar.remsi v116 c16_i32_107
  let c0_i32_456 : BitVec 32 := 0#32
  let v775 : BitVec 1 := Scalar.cmpi .sgt v117 c0_i32_456
  let v776 : BitVec 32 := Scalar.extui v775
  let c0_i32_457 : BitVec 32 := 0#32
  let v777 : BitVec 1 := Scalar.cmpi .slt v117 c0_i32_457
  let v778 : BitVec 32 := Scalar.extui v777
  let v779 : BitVec 32 := Scalar.subi v776 v778
  let c8_i32_455 : BitVec 32 := 8#32
  let c0_i32_458 : BitVec 32 := 0#32
  let v780 : BitVec 1 := Scalar.cmpi .sgt c8_i32_455 c0_i32_458
  let v781 : BitVec 32 := Scalar.extui v780
  let c0_i32_459 : BitVec 32 := 0#32
  let v782 : BitVec 1 := Scalar.cmpi .slt c8_i32_455 c0_i32_459
  let v783 : BitVec 32 := Scalar.extui v782
  let v784 : BitVec 32 := Scalar.subi v781 v783
  let v785 : BitVec 1 := Scalar.cmpi .ne v779 v784
  let v786 : BitVec 32 := Scalar.remsi v117 c8_i32_455
  let c0_i32_460 : BitVec 32 := 0#32
  let v787 : BitVec 1 := Scalar.cmpi .ne v786 c0_i32_460
  let v788 : BitVec 1 := Scalar.andi v785 v787
  let v774 : BitVec 32 := Scalar.divsi v117 c8_i32_455
  let c1_i32_461 : BitVec 32 := 1#32
  let v789 : BitVec 32 := Scalar.subi v774 c1_i32_461
  let v790 : BitVec 32 := Scalar.select v788 v789 v774
  let c1_i32_462 : BitVec 32 := 1#32
  let v791 : BitVec 1 := Scalar.cmpi .eq v790 c1_i32_462
  let v792 : BitVec 32 := Scalar.extui v791
  let c0_i32_466 : BitVec 32 := 0#32
  let v793 : BitVec 1 := Scalar.cmpi .ne v792 c0_i32_466
  v793

def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_106 : BitVec 32 := 12#32
  let v116 : BitVec 32 := Scalar.addi v2 c12_i32_106
  let c16_i32_107 : BitVec 32 := 16#32
  let v117 : BitVec 32 := Scalar.remsi v116 c16_i32_107
  let c16_i32_108 : BitVec 32 := 16#32
  let v118 : BitVec 32 := Scalar.muli v117 c16_i32_108
  let c0_i32_1060 : BitVec 32 := 0#32
  ![v118.toNat, 0]
def k0_dev42 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_106 : BitVec 32 := 12#32
  let v116 : BitVec 32 := Scalar.addi v2 c12_i32_106
  let c16_i32_107 : BitVec 32 := 16#32
  let v117 : BitVec 32 := Scalar.remsi v116 c16_i32_107
  let c1_i32_1056 : BitVec 32 := 1#32
  let v1382 : BitVec 32 := Scalar.muli v117 c1_i32_1056
  let v1383 : BitVec 32 := Scalar.addi c0_i32_1057 v1382
  v1383.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_109 : BitVec 32 := 13#32
  let v119 : BitVec 32 := Scalar.addi v2 c13_i32_109
  let c16_i32_110 : BitVec 32 := 16#32
  let v120 : BitVec 32 := Scalar.remsi v119 c16_i32_110
  let c0_i32_468 : BitVec 32 := 0#32
  let v795 : BitVec 1 := Scalar.cmpi .sgt v120 c0_i32_468
  let v796 : BitVec 32 := Scalar.extui v795
  let c0_i32_469 : BitVec 32 := 0#32
  let v797 : BitVec 1 := Scalar.cmpi .slt v120 c0_i32_469
  let v798 : BitVec 32 := Scalar.extui v797
  let v799 : BitVec 32 := Scalar.subi v796 v798
  let c8_i32_467 : BitVec 32 := 8#32
  let c0_i32_470 : BitVec 32 := 0#32
  let v800 : BitVec 1 := Scalar.cmpi .sgt c8_i32_467 c0_i32_470
  let v801 : BitVec 32 := Scalar.extui v800
  let c0_i32_471 : BitVec 32 := 0#32
  let v802 : BitVec 1 := Scalar.cmpi .slt c8_i32_467 c0_i32_471
  let v803 : BitVec 32 := Scalar.extui v802
  let v804 : BitVec 32 := Scalar.subi v801 v803
  let v805 : BitVec 1 := Scalar.cmpi .ne v799 v804
  let v806 : BitVec 32 := Scalar.remsi v120 c8_i32_467
  let c0_i32_472 : BitVec 32 := 0#32
  let v807 : BitVec 1 := Scalar.cmpi .ne v806 c0_i32_472
  let v808 : BitVec 1 := Scalar.andi v805 v807
  let v794 : BitVec 32 := Scalar.divsi v120 c8_i32_467
  let c1_i32_473 : BitVec 32 := 1#32
  let v809 : BitVec 32 := Scalar.subi v794 c1_i32_473
  let v810 : BitVec 32 := Scalar.select v808 v809 v794
  let c1_i32_474 : BitVec 32 := 1#32
  let v811 : BitVec 1 := Scalar.cmpi .eq v810 c1_i32_474
  let v812 : BitVec 32 := Scalar.extui v811
  let c0_i32_478 : BitVec 32 := 0#32
  let v813 : BitVec 1 := Scalar.cmpi .ne v812 c0_i32_478
  v813

def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_109 : BitVec 32 := 13#32
  let v119 : BitVec 32 := Scalar.addi v2 c13_i32_109
  let c16_i32_110 : BitVec 32 := 16#32
  let v120 : BitVec 32 := Scalar.remsi v119 c16_i32_110
  let c16_i32_111 : BitVec 32 := 16#32
  let v121 : BitVec 32 := Scalar.muli v120 c16_i32_111
  let c0_i32_1060 : BitVec 32 := 0#32
  ![v121.toNat, 0]
def k0_dev43 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_109 : BitVec 32 := 13#32
  let v119 : BitVec 32 := Scalar.addi v2 c13_i32_109
  let c16_i32_110 : BitVec 32 := 16#32
  let v120 : BitVec 32 := Scalar.remsi v119 c16_i32_110
  let c1_i32_1056 : BitVec 32 := 1#32
  let v1382 : BitVec 32 := Scalar.muli v120 c1_i32_1056
  let v1383 : BitVec 32 := Scalar.addi c0_i32_1057 v1382
  v1383.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_112 : BitVec 32 := 14#32
  let v122 : BitVec 32 := Scalar.addi v2 c14_i32_112
  let c16_i32_113 : BitVec 32 := 16#32
  let v123 : BitVec 32 := Scalar.remsi v122 c16_i32_113
  let c0_i32_480 : BitVec 32 := 0#32
  let v815 : BitVec 1 := Scalar.cmpi .sgt v123 c0_i32_480
  let v816 : BitVec 32 := Scalar.extui v815
  let c0_i32_481 : BitVec 32 := 0#32
  let v817 : BitVec 1 := Scalar.cmpi .slt v123 c0_i32_481
  let v818 : BitVec 32 := Scalar.extui v817
  let v819 : BitVec 32 := Scalar.subi v816 v818
  let c8_i32_479 : BitVec 32 := 8#32
  let c0_i32_482 : BitVec 32 := 0#32
  let v820 : BitVec 1 := Scalar.cmpi .sgt c8_i32_479 c0_i32_482
  let v821 : BitVec 32 := Scalar.extui v820
  let c0_i32_483 : BitVec 32 := 0#32
  let v822 : BitVec 1 := Scalar.cmpi .slt c8_i32_479 c0_i32_483
  let v823 : BitVec 32 := Scalar.extui v822
  let v824 : BitVec 32 := Scalar.subi v821 v823
  let v825 : BitVec 1 := Scalar.cmpi .ne v819 v824
  let v826 : BitVec 32 := Scalar.remsi v123 c8_i32_479
  let c0_i32_484 : BitVec 32 := 0#32
  let v827 : BitVec 1 := Scalar.cmpi .ne v826 c0_i32_484
  let v828 : BitVec 1 := Scalar.andi v825 v827
  let v814 : BitVec 32 := Scalar.divsi v123 c8_i32_479
  let c1_i32_485 : BitVec 32 := 1#32
  let v829 : BitVec 32 := Scalar.subi v814 c1_i32_485
  let v830 : BitVec 32 := Scalar.select v828 v829 v814
  let c1_i32_486 : BitVec 32 := 1#32
  let v831 : BitVec 1 := Scalar.cmpi .eq v830 c1_i32_486
  let v832 : BitVec 32 := Scalar.extui v831
  let c0_i32_490 : BitVec 32 := 0#32
  let v833 : BitVec 1 := Scalar.cmpi .ne v832 c0_i32_490
  v833

def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_112 : BitVec 32 := 14#32
  let v122 : BitVec 32 := Scalar.addi v2 c14_i32_112
  let c16_i32_113 : BitVec 32 := 16#32
  let v123 : BitVec 32 := Scalar.remsi v122 c16_i32_113
  let c16_i32_114 : BitVec 32 := 16#32
  let v124 : BitVec 32 := Scalar.muli v123 c16_i32_114
  let c0_i32_1060 : BitVec 32 := 0#32
  ![v124.toNat, 0]
def k0_dev44 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_112 : BitVec 32 := 14#32
  let v122 : BitVec 32 := Scalar.addi v2 c14_i32_112
  let c16_i32_113 : BitVec 32 := 16#32
  let v123 : BitVec 32 := Scalar.remsi v122 c16_i32_113
  let c1_i32_1056 : BitVec 32 := 1#32
  let v1382 : BitVec 32 := Scalar.muli v123 c1_i32_1056
  let v1383 : BitVec 32 := Scalar.addi c0_i32_1057 v1382
  v1383.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_115 : BitVec 32 := 15#32
  let v125 : BitVec 32 := Scalar.addi v2 c15_i32_115
  let c16_i32_116 : BitVec 32 := 16#32
  let v126 : BitVec 32 := Scalar.remsi v125 c16_i32_116
  let c0_i32_492 : BitVec 32 := 0#32
  let v835 : BitVec 1 := Scalar.cmpi .sgt v126 c0_i32_492
  let v836 : BitVec 32 := Scalar.extui v835
  let c0_i32_493 : BitVec 32 := 0#32
  let v837 : BitVec 1 := Scalar.cmpi .slt v126 c0_i32_493
  let v838 : BitVec 32 := Scalar.extui v837
  let v839 : BitVec 32 := Scalar.subi v836 v838
  let c8_i32_491 : BitVec 32 := 8#32
  let c0_i32_494 : BitVec 32 := 0#32
  let v840 : BitVec 1 := Scalar.cmpi .sgt c8_i32_491 c0_i32_494
  let v841 : BitVec 32 := Scalar.extui v840
  let c0_i32_495 : BitVec 32 := 0#32
  let v842 : BitVec 1 := Scalar.cmpi .slt c8_i32_491 c0_i32_495
  let v843 : BitVec 32 := Scalar.extui v842
  let v844 : BitVec 32 := Scalar.subi v841 v843
  let v845 : BitVec 1 := Scalar.cmpi .ne v839 v844
  let v846 : BitVec 32 := Scalar.remsi v126 c8_i32_491
  let c0_i32_496 : BitVec 32 := 0#32
  let v847 : BitVec 1 := Scalar.cmpi .ne v846 c0_i32_496
  let v848 : BitVec 1 := Scalar.andi v845 v847
  let v834 : BitVec 32 := Scalar.divsi v126 c8_i32_491
  let c1_i32_497 : BitVec 32 := 1#32
  let v849 : BitVec 32 := Scalar.subi v834 c1_i32_497
  let v850 : BitVec 32 := Scalar.select v848 v849 v834
  let c1_i32_498 : BitVec 32 := 1#32
  let v851 : BitVec 1 := Scalar.cmpi .eq v850 c1_i32_498
  let v852 : BitVec 32 := Scalar.extui v851
  let c0_i32_502 : BitVec 32 := 0#32
  let v853 : BitVec 1 := Scalar.cmpi .ne v852 c0_i32_502
  v853

def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_115 : BitVec 32 := 15#32
  let v125 : BitVec 32 := Scalar.addi v2 c15_i32_115
  let c16_i32_116 : BitVec 32 := 16#32
  let v126 : BitVec 32 := Scalar.remsi v125 c16_i32_116
  let c16_i32_117 : BitVec 32 := 16#32
  let v127 : BitVec 32 := Scalar.muli v126 c16_i32_117
  let c0_i32_1060 : BitVec 32 := 0#32
  ![v127.toNat, 0]
def k0_dev45 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_115 : BitVec 32 := 15#32
  let v125 : BitVec 32 := Scalar.addi v2 c15_i32_115
  let c16_i32_116 : BitVec 32 := 16#32
  let v126 : BitVec 32 := Scalar.remsi v125 c16_i32_116
  let c1_i32_1056 : BitVec 32 := 1#32
  let v1382 : BitVec 32 := Scalar.muli v126 c1_i32_1056
  let v1383 : BitVec 32 := Scalar.addi c0_i32_1057 v1382
  v1383.toNat
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_503 : BitVec 32 := 16#32
  let v854 : BitVec 32 := Scalar.muli v2 c16_i32_503
  let v855 : Index := Scalar.indexCast v854
  let c0_504 : Index := 0#32
  ![v855.toNat, 0]
def k0_off32 (d0 : Dev nD) (c1_i32_73 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v83 : BitVec 32 := Scalar.addi v2 c1_i32_73
  let c16_i32_74 : BitVec 32 := 16#32
  let v84 : BitVec 32 := Scalar.remsi v83 c16_i32_74
  let c16_i32_75 : BitVec 32 := 16#32
  let v85 : BitVec 32 := Scalar.muli v84 c16_i32_75
  let c0_i32_512 : BitVec 32 := 0#32
  ![v85.toNat, 0]
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_739 : BitVec 32 := 16#32
  let v1051 : BitVec 32 := Scalar.muli v2 c16_i32_739
  let c0_i32_744 : BitVec 32 := 0#32
  ![v1051.toNat, 0]
def k0_dev46 (d0 : Dev nD) : Nat :=
  let c0_i32_743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_736 : BitVec 32 := 1#32
  let v1048 : BitVec 32 := Scalar.addi v2 c1_i32_736
  let c16_i32_737 : BitVec 32 := 16#32
  let v1049 : BitVec 32 := Scalar.remsi v1048 c16_i32_737
  let c1_i32_742 : BitVec 32 := 1#32
  let v1052 : BitVec 32 := Scalar.muli v1049 c1_i32_742
  let v1053 : BitVec 32 := Scalar.addi c0_i32_743 v1052
  v1053.toNat
def k0_dev47 (d0 : Dev nD) : Nat :=
  let c0_i32_753 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_746 : BitVec 32 := 2#32
  let v1060 : BitVec 32 := Scalar.addi v2 c2_i32_746
  let c16_i32_747 : BitVec 32 := 16#32
  let v1061 : BitVec 32 := Scalar.remsi v1060 c16_i32_747
  let c1_i32_752 : BitVec 32 := 1#32
  let v1064 : BitVec 32 := Scalar.muli v1061 c1_i32_752
  let v1065 : BitVec 32 := Scalar.addi c0_i32_753 v1064
  v1065.toNat
def k0_dev48 (d0 : Dev nD) : Nat :=
  let c0_i32_763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_756 : BitVec 32 := 3#32
  let v1072 : BitVec 32 := Scalar.addi v2 c3_i32_756
  let c16_i32_757 : BitVec 32 := 16#32
  let v1073 : BitVec 32 := Scalar.remsi v1072 c16_i32_757
  let c1_i32_762 : BitVec 32 := 1#32
  let v1076 : BitVec 32 := Scalar.muli v1073 c1_i32_762
  let v1077 : BitVec 32 := Scalar.addi c0_i32_763 v1076
  v1077.toNat
def k0_dev49 (d0 : Dev nD) : Nat :=
  let c0_i32_773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_766 : BitVec 32 := 4#32
  let v1084 : BitVec 32 := Scalar.addi v2 c4_i32_766
  let c16_i32_767 : BitVec 32 := 16#32
  let v1085 : BitVec 32 := Scalar.remsi v1084 c16_i32_767
  let c1_i32_772 : BitVec 32 := 1#32
  let v1088 : BitVec 32 := Scalar.muli v1085 c1_i32_772
  let v1089 : BitVec 32 := Scalar.addi c0_i32_773 v1088
  v1089.toNat
def k0_dev50 (d0 : Dev nD) : Nat :=
  let c0_i32_783 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_776 : BitVec 32 := 5#32
  let v1096 : BitVec 32 := Scalar.addi v2 c5_i32_776
  let c16_i32_777 : BitVec 32 := 16#32
  let v1097 : BitVec 32 := Scalar.remsi v1096 c16_i32_777
  let c1_i32_782 : BitVec 32 := 1#32
  let v1100 : BitVec 32 := Scalar.muli v1097 c1_i32_782
  let v1101 : BitVec 32 := Scalar.addi c0_i32_783 v1100
  v1101.toNat
def k0_dev51 (d0 : Dev nD) : Nat :=
  let c0_i32_793 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_786 : BitVec 32 := 6#32
  let v1108 : BitVec 32 := Scalar.addi v2 c6_i32_786
  let c16_i32_787 : BitVec 32 := 16#32
  let v1109 : BitVec 32 := Scalar.remsi v1108 c16_i32_787
  let c1_i32_792 : BitVec 32 := 1#32
  let v1112 : BitVec 32 := Scalar.muli v1109 c1_i32_792
  let v1113 : BitVec 32 := Scalar.addi c0_i32_793 v1112
  v1113.toNat
def k0_dev52 (d0 : Dev nD) : Nat :=
  let c0_i32_803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_796 : BitVec 32 := 7#32
  let v1120 : BitVec 32 := Scalar.addi v2 c7_i32_796
  let c16_i32_797 : BitVec 32 := 16#32
  let v1121 : BitVec 32 := Scalar.remsi v1120 c16_i32_797
  let c1_i32_802 : BitVec 32 := 1#32
  let v1124 : BitVec 32 := Scalar.muli v1121 c1_i32_802
  let v1125 : BitVec 32 := Scalar.addi c0_i32_803 v1124
  v1125.toNat
def k0_dev53 (d0 : Dev nD) : Nat :=
  let c0_i32_813 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_806 : BitVec 32 := 8#32
  let v1132 : BitVec 32 := Scalar.addi v2 c8_i32_806
  let c16_i32_807 : BitVec 32 := 16#32
  let v1133 : BitVec 32 := Scalar.remsi v1132 c16_i32_807
  let c1_i32_812 : BitVec 32 := 1#32
  let v1136 : BitVec 32 := Scalar.muli v1133 c1_i32_812
  let v1137 : BitVec 32 := Scalar.addi c0_i32_813 v1136
  v1137.toNat
def k0_dev54 (d0 : Dev nD) : Nat :=
  let c0_i32_823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_816 : BitVec 32 := 9#32
  let v1144 : BitVec 32 := Scalar.addi v2 c9_i32_816
  let c16_i32_817 : BitVec 32 := 16#32
  let v1145 : BitVec 32 := Scalar.remsi v1144 c16_i32_817
  let c1_i32_822 : BitVec 32 := 1#32
  let v1148 : BitVec 32 := Scalar.muli v1145 c1_i32_822
  let v1149 : BitVec 32 := Scalar.addi c0_i32_823 v1148
  v1149.toNat
def k0_dev55 (d0 : Dev nD) : Nat :=
  let c0_i32_833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_826 : BitVec 32 := 10#32
  let v1156 : BitVec 32 := Scalar.addi v2 c10_i32_826
  let c16_i32_827 : BitVec 32 := 16#32
  let v1157 : BitVec 32 := Scalar.remsi v1156 c16_i32_827
  let c1_i32_832 : BitVec 32 := 1#32
  let v1160 : BitVec 32 := Scalar.muli v1157 c1_i32_832
  let v1161 : BitVec 32 := Scalar.addi c0_i32_833 v1160
  v1161.toNat
def k0_dev56 (d0 : Dev nD) : Nat :=
  let c0_i32_843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_836 : BitVec 32 := 11#32
  let v1168 : BitVec 32 := Scalar.addi v2 c11_i32_836
  let c16_i32_837 : BitVec 32 := 16#32
  let v1169 : BitVec 32 := Scalar.remsi v1168 c16_i32_837
  let c1_i32_842 : BitVec 32 := 1#32
  let v1172 : BitVec 32 := Scalar.muli v1169 c1_i32_842
  let v1173 : BitVec 32 := Scalar.addi c0_i32_843 v1172
  v1173.toNat
def k0_dev57 (d0 : Dev nD) : Nat :=
  let c0_i32_853 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_846 : BitVec 32 := 12#32
  let v1180 : BitVec 32 := Scalar.addi v2 c12_i32_846
  let c16_i32_847 : BitVec 32 := 16#32
  let v1181 : BitVec 32 := Scalar.remsi v1180 c16_i32_847
  let c1_i32_852 : BitVec 32 := 1#32
  let v1184 : BitVec 32 := Scalar.muli v1181 c1_i32_852
  let v1185 : BitVec 32 := Scalar.addi c0_i32_853 v1184
  v1185.toNat
def k0_dev58 (d0 : Dev nD) : Nat :=
  let c0_i32_863 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_856 : BitVec 32 := 13#32
  let v1192 : BitVec 32 := Scalar.addi v2 c13_i32_856
  let c16_i32_857 : BitVec 32 := 16#32
  let v1193 : BitVec 32 := Scalar.remsi v1192 c16_i32_857
  let c1_i32_862 : BitVec 32 := 1#32
  let v1196 : BitVec 32 := Scalar.muli v1193 c1_i32_862
  let v1197 : BitVec 32 := Scalar.addi c0_i32_863 v1196
  v1197.toNat
def k0_dev59 (d0 : Dev nD) : Nat :=
  let c0_i32_873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_866 : BitVec 32 := 14#32
  let v1204 : BitVec 32 := Scalar.addi v2 c14_i32_866
  let c16_i32_867 : BitVec 32 := 16#32
  let v1205 : BitVec 32 := Scalar.remsi v1204 c16_i32_867
  let c1_i32_872 : BitVec 32 := 1#32
  let v1208 : BitVec 32 := Scalar.muli v1205 c1_i32_872
  let v1209 : BitVec 32 := Scalar.addi c0_i32_873 v1208
  v1209.toNat
def k0_dev60 (d0 : Dev nD) : Nat :=
  let c0_i32_883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_876 : BitVec 32 := 15#32
  let v1216 : BitVec 32 := Scalar.addi v2 c15_i32_876
  let c16_i32_877 : BitVec 32 := 16#32
  let v1217 : BitVec 32 := Scalar.remsi v1216 c16_i32_877
  let c1_i32_882 : BitVec 32 := 1#32
  let v1220 : BitVec 32 := Scalar.muli v1217 c1_i32_882
  let v1221 : BitVec 32 := Scalar.addi c0_i32_883 v1220
  v1221.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x8192 : Shape := ⟨2, ![512, 8192]⟩
abbrev S512x2048 : Shape := ⟨2, ![512, 2048]⟩
abbrev S8192x512 : Shape := ⟨2, ![8192, 512]⟩
abbrev S2x128x8192 : Shape := ⟨3, ![2, 128, 8192]⟩
abbrev S2x128x128x64 : Shape := ⟨4, ![2, 128, 128, 64]⟩
abbrev S2x128x2048 : Shape := ⟨3, ![2, 128, 2048]⟩
abbrev S2x128x32x64 : Shape := ⟨4, ![2, 128, 32, 64]⟩
abbrev S2x128x32x4x64 : Shape := ⟨5, ![2, 128, 32, 4, 64]⟩
abbrev S_ : Shape := ⟨0, ![]⟩
abbrev S2x128x128x1 : Shape := ⟨4, ![2, 128, 128, 1]⟩
abbrev S2x128x128x128 : Shape := ⟨4, ![2, 128, 128, 128]⟩
abbrev S2x128x128 : Shape := ⟨3, ![2, 128, 128]⟩
abbrev S2x128x64x128 : Shape := ⟨4, ![2, 128, 64, 128]⟩

abbrev nBuf : Space → Nat
  | .hbm => 50
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x8192, .f32⟩
  | .hbm, ⟨2, _⟩ => ⟨S512x2048, .f32⟩
  | .hbm, ⟨3, _⟩ => ⟨S512x2048, .f32⟩
  | .hbm, ⟨4, _⟩ => ⟨S8192x512, .f32⟩
  | .hbm, ⟨5, _⟩ => ⟨S2x128x8192, .f32⟩
  | .hbm, ⟨6, _⟩ => ⟨S2x128x128x64, .f32⟩
  | .hbm, ⟨7, _⟩ => ⟨S2x128x2048, .f32⟩
  | .hbm, ⟨8, _⟩ => ⟨S2x128x32x64, .f32⟩
  | .hbm, ⟨9, _⟩ => ⟨S2x128x2048, .f32⟩
  | .hbm, ⟨10, _⟩ => ⟨S2x128x32x64, .f32⟩
  | .hbm, ⟨11, _⟩ => ⟨S2x128x32x4x64, .f32⟩
  | .hbm, ⟨12, _⟩ => ⟨S2x128x128x64, .f32⟩
  | .hbm, ⟨13, _⟩ => ⟨S2x128x32x4x64, .f32⟩
  | .hbm, ⟨14, _⟩ => ⟨S2x128x128x64, .f32⟩
  | .hbm, ⟨15, _⟩ => ⟨S_, .f32⟩
  | .hbm, ⟨16, _⟩ => ⟨S2x128x128x64, .f32⟩
  | .hbm, ⟨17, _⟩ => ⟨S_, .f32⟩
  | .hbm, ⟨18, _⟩ => ⟨S2x128x128x1, .f32⟩
  | .hbm, ⟨19, _⟩ => ⟨S_, .f32⟩
  | .hbm, ⟨20, _⟩ => ⟨S2x128x128x1, .f32⟩
  | .hbm, ⟨21, _⟩ => ⟨S2x128x128x128, .f32⟩
  | .hbm, ⟨22, _⟩ => ⟨S_, .f32⟩
  | .hbm, ⟨23, _⟩ => ⟨S2x128x128x128, .f32⟩
  | .hbm, ⟨24, _⟩ => ⟨S2x128x128x128, .f32⟩
  | .hbm, ⟨25, _⟩ => ⟨S_, .f32⟩
  | .hbm, ⟨26, _⟩ => ⟨S2x128x128, .f32⟩
  | .hbm, ⟨27, _⟩ => ⟨S2x128x128x1, .f32⟩
  | .hbm, ⟨28, _⟩ => ⟨S2x128x128x1, .f32⟩
  | .hbm, ⟨29, _⟩ => ⟨S2x128x128x1, .f32⟩
  | .hbm, ⟨30, _⟩ => ⟨S2x128x128x1, .f32⟩
  | .hbm, ⟨31, _⟩ => ⟨S2x128x128x128, .f32⟩
  | .hbm, ⟨32, _⟩ => ⟨S2x128x128x128, .f32⟩
  | .hbm, ⟨33, _⟩ => ⟨S2x128x128x128, .f32⟩
  | .hbm, ⟨34, _⟩ => ⟨S2x128x128x1, .f32⟩
  | .hbm, ⟨35, _⟩ => ⟨S_, .f32⟩
  | .hbm, ⟨36, _⟩ => ⟨S2x128x128, .f32⟩
  | .hbm, ⟨37, _⟩ => ⟨S2x128x128x1, .f32⟩
  | .hbm, ⟨38, _⟩ => ⟨S2x128x128x1, .f32⟩
  | .hbm, ⟨39, _⟩ => ⟨S2x128x128x1, .f32⟩
  | .hbm, ⟨40, _⟩ => ⟨S2x128x128x64, .f32⟩
  | .hbm, ⟨41, _⟩ => ⟨S2x128x128x64, .f32⟩
  | .hbm, ⟨42, _⟩ => ⟨S2x128x64x128, .f32⟩
  | .hbm, ⟨43, _⟩ => ⟨S2x128x128x64, .f32⟩
  | .hbm, ⟨44, _⟩ => ⟨S2x128x128x64, .f32⟩
  | .hbm, ⟨45, _⟩ => ⟨S2x128x128x1, .f32⟩
  | .hbm, ⟨46, _⟩ => ⟨S2x128x128x64, .f32⟩
  | .hbm, ⟨47, _⟩ => ⟨S2x128x128x64, .f32⟩
  | .hbm, ⟨48, _⟩ => ⟨S2x128x8192, .f32⟩
  | .hbm, ⟨49, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.Common.lean ====
/-
# The devices, the buffers, the semaphores and the contents of the all-reduce

Sixteen devices. Each computes a 256 × 512 partial result `accB`, cut into sixteen chunks of sixteen rows; device `c` owns
chunk `c`. In the first phase device `c` sends chunk `d` to slot `r` of device `d`'s stage, for each `d ≠ c`, where
`d = peer c r`; device `d` adds the fifteen slots to its own chunk; in the second phase it sends the sum to every other device.
This module names all of that, over any float operations.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds
public import Idealize.ShloMosaic.Lib.Ring
public import Idealize.ShloMosaic.Lib.Transfers
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The duties of a round: a barrier cell has fifteen, one a device that signals it. -/
abbrev DD : Type := Fin 15
/-- The ghost state: the pipeline's rounds, and the all-reduce's. -/
abbrev UU : Type := UR sig nD τ × URounds (GSem nD τ sig) DD

local notation "𝕄" => MT nD τ sig Unit (Elt F) ℕ UU ℕ

abbrev EP : Emb (UR sig nD τ) (MT nD τ sig Unit (Elt F) ℕ UU ℕ) := embL
abbrev ER : Emb (URounds (GSem nD τ sig) DD) (MT nD τ sig Unit (Elt F) ℕ UU ℕ) := embR

/-! ## The devices -/

/-- The device `r + 1` places after `c`. -/
def peer (c : Dev nD) (r : Fin 15) : Dev nD := ⟨(c.val + r.val + 1) % 16, Nat.mod_lt _ (by decide)⟩
/-- The index at which `peer c r` has `c` as its peer. -/
def rev (r : Fin 15) : Fin 15 := ⟨14 - r.val, by omega⟩
/-- The device whose peer at index `r` is `c`. -/
def src (c : Dev nD) (r : Fin 15) : Dev nD := peer c (rev r)

/-- Reversing twice changes nothing. -/
theorem rev_rev (r : Fin 15) : rev (rev r) = r := by revert r; decide
/-- A device is a peer of its peer, at the reversed index. -/
theorem peer_rev (c : Dev nD) (r : Fin 15) : peer (peer c r) (rev r) = c := by revert c r; decide +kernel
/-- The device that sends to the `r`-th peer at index `r` is the device itself. -/
theorem src_peer (c : Dev nD) (r : Fin 15) : src (peer c r) r = c := peer_rev c r
/-- And the other way round. -/
theorem peer_src (c : Dev nD) (r : Fin 15) : peer (src c r) r = c := by
  have := peer_rev c (rev r); rwa [rev_rev] at this
/-- No device is its own peer. -/
theorem peer_ne (c : Dev nD) (r : Fin 15) : peer c r ≠ c := by revert c r; decide +kernel
/-- Different devices have different `r`-th peers. -/
theorem peer_inj (r : Fin 15) : Function.Injective fun c => peer c r := fun a b h => by
  have := congrArg (fun x => src x r) h; simpa only [src_peer] using this

/-- The reversal of the indices, as a permutation. -/
def revE : Fin 15 ≃ Fin 15 := ⟨rev, rev, rev_rev, rev_rev⟩
/-- Moving on by `r + 1` devices, as a permutation. -/
def peerE (r : Fin 15) : Dev nD ≃ Dev nD := ⟨fun c => peer c r, fun c => src c r, fun c => src_peer c r, fun c => peer_src c r⟩

/-- A device other than `c` is a peer of `c` at exactly one index. -/
def others (c : Dev nD) : Option (Fin 15) ≃ Dev nD where
  toFun o := o.elim c (peer c)
  invFun d := if h : d = c then none else some ⟨(d.val + 15 - c.val) % 16, by
    have h1 := d.isLt; have h2 := c.isLt; have h3 : d.val ≠ c.val := fun e => h (Fin.ext e)
    have : nD = 16 := rfl
    omega⟩
  left_inv o := by revert c o; decide +kernel
  right_inv d := by revert c d; decide +kernel

/-- Which half of the rows a chunk lies in. -/
def half (d : Dev nD) : Fin 2 := ⟨d.val / 8, by have := d.isLt; have : nD = 16 := rfl; omega⟩

/-! ## The buffers -/

abbrev accM : Memref sig .tc .vmem S256x512 .bf16 := Memref.whole cc0_scratch0
abbrev stageM : Memref sig .tc .vmem S15x16x512 .bf16 := Memref.whole cc0_scratch1

/-- A chunk lies inside the partial result. -/
theorem chunk_inb (d : Dev nD) (a) : (![16 * d.val, 0] : Fin 2 → ℕ) a + S16x512.size a ≤ S256x512.size a := by
  revert d a; decide +kernel
/-- A slot lies inside the stage. -/
theorem slot_inb (r : Fin 15) (a) : (![r.val, 0, 0] : Fin 3 → ℕ) a + S1x16x512.size a ≤ S15x16x512.size a := by
  revert r a; decide +kernel
/-- A half lies inside the partial result. -/
theorem half_inb (b : Fin 2) (a) : (![128 * b.val, 0] : Fin 2 → ℕ) a + S128x512.size a ≤ S256x512.size a := by
  revert b a; decide +kernel

abbrev chunkR (d : Dev nD) : Rect S256x512 := Rect.unit (s := S256x512) ![16 * d.val, 0] S16x512.size (chunk_inb d)
abbrev slotR (r : Fin 15) : Rect S15x16x512 := Rect.unit (s := S15x16x512) ![r.val, 0, 0] S1x16x512.size (slot_inb r)
abbrev halfR (b : Fin 2) : Rect S256x512 := Rect.unit (s := S256x512) ![128 * b.val, 0] S128x512.size (half_inb b)

/-- Chunk `d`: sixteen rows of a device's partial result. -/
abbrev chunkV (d : Dev nD) : Memref sig .tc .vmem S16x512 .bf16 := accM.slice (chunkR d) (fun _ => rfl)
/-- Slot `r` of a device's stage. -/
abbrev slotV (r : Fin 15) : Memref sig .tc .vmem S16x512 .bf16 :=
  (stageM.slice (slotR r) (fun _ => rfl)).squeeze S16x512 squeezes_S1x16x512_S16x512

/-- The contents of the partial-result buffer, and of the stage. -/
abbrev AccC (F : FTy → Type) : Type := S256x512.Idx → Elt F .bf16
abbrev StageC (F : FTy → Type) : Type := S15x16x512.Idx → Elt F .bf16

def accS (d : Dev nD) : Finset S256x512.Idx := (chunkR d).set
def stageS (r : Fin 15) : Finset S15x16x512.Idx := (slotR r).set
def halfS (b : Fin 2) : Finset S256x512.Idx := (halfR b).set

/-- Chunk `d` of device `c`, holding what `f` says of its rows, at share `q`. -/
def accQ (c d : Dev nD) (q : PosShare TreeShare) (f : AccC F) : sProp 𝕄 :=
  ((c : Thread nD τ).loc cc0_scratch0) ↦[accS d]{q} (f : Buf (Elt F) ((c : Thread nD τ).loc cc0_scratch0))
/-- Slot `r` of device `c`. -/
def slotP (c : Dev nD) (r : Fin 15) (f : StageC F) : sProp 𝕄 :=
  ((c : Thread nD τ).loc cc0_scratch1) ↦[stageS r]{fullShare} (f : Buf (Elt F) ((c : Thread nD τ).loc cc0_scratch1))
/-- Half `b` of the rows of device `c`. -/
def halfP (c : Dev nD) (b : Fin 2) (f : AccC F) : sProp 𝕄 :=
  ((c : Thread nD τ).loc cc0_scratch0) ↦[halfS b]{fullShare} (f : Buf (Elt F) ((c : Thread nD τ).loc cc0_scratch0))
/-- The whole of the partial result, and of the stage. -/
def accP (c : Dev nD) (f : AccC F) : sProp 𝕄 := ((c : Thread nD τ).loc cc0_scratch0) ↦{fullShare} (f : Buf (Elt F) ((c : Thread nD τ).loc cc0_scratch0))
def stageP (c : Dev nD) (f : StageC F) : sProp 𝕄 := ((c : Thread nD τ).loc cc0_scratch1) ↦{fullShare} (f : Buf (Elt F) ((c : Thread nD τ).loc cc0_scratch1))

omit [FloatOps F] in
instance accQ_storable (c d : Dev nD) (q) (f) : BI.Storable (upEmb : UEmb _ 𝕄) (accQ (F := F) c d q f) := by unfold accQ; infer_instance
omit [FloatOps F] in
instance slotP_storable (c : Dev nD) (r f) : BI.Storable (upEmb : UEmb _ 𝕄) (slotP (F := F) c r f) := by unfold slotP; infer_instance

/-- The elements of a chunk's view. -/
theorem chunkV_set (d : Dev nD) : (chunkV d).view.set = accS d :=
  (View.set_slice (View.whole cc0_scratch0) (chunkR d)).trans Finset.map_refl
/-- The elements of a slot's view. -/
theorem slotV_set (r : Fin 15) : (slotV r).view.set = stageS r :=
  (View.set_reshape (View.slice (View.whole cc0_scratch1) (slotR r)) _).trans
    ((View.set_slice (View.whole cc0_scratch1) (slotR r)).trans Finset.map_refl)

/-! ## The semaphores -/

abbrev barS : Sem sig := (SemArray.scalar (sig.barrier 0 rfl) : Sems sig S_).sem
/-- DMA semaphore `r` of the `k`-th array: `k = 0, 1` the first phase's send and receive, `k = 2, 3` the second's. -/
def dmaQ (k : Fin 4) (r : Fin 15) : DmaSem sig := ⟨6 + 15 * k.val + r.val, by
  have h1 := k.isLt; have h2 := r.isLt; show _ < 66; omega⟩

abbrev barCell (c : Dev nD) : GSem nD τ sig := ((c : Thread nD τ), .reg barS)
abbrev dmaCell (c : Dev nD) (k : Fin 4) (r : Fin 15) : GSem nD τ sig := ((c : Thread nD τ), .dma (dmaQ k r))

/-- The DMA semaphores are all different. -/
theorem dmaQ_inj {k k' : Fin 4} {r r' : Fin 15} (h : dmaQ k r = dmaQ k' r') : k = k' ∧ r = r' := by
  have := congrArg Fin.val h; simp only [dmaQ] at this
  exact ⟨Fin.ext (by omega), Fin.ext (by omega)⟩

/-- The units a copy of a chunk credits. -/
abbrev N : ℕ := (slotV 0).view.dmaCredit
/-- A copy counts for something. -/
theorem N_pos : 0 < N := View.dmaCredit_pos _ (by decide)

end Cert.KernelIdeal.AllReduce

end
-- ==== Proof.Contents.lean ====
/-
# What the buffers of the all-reduce hold

The contents of each device's partial result, of its stage, of the sum it makes and of the whole result, as functions of the
devices' input blocks; and that the kernel's stores and copies leave exactly these contents.
-/
module

public import proofs.«01_k».proof.Proof.Common
public import Idealize.ShloMosaic.Lib.Pointwise.Index
public import Idealize.ShloMosaic.Lib.Pointwise.Reshape

@[expose] public section

set_option maxRecDepth 16384

noncomputable section

namespace Cert.KernelIdeal.AllReduce

open Cert.KernelIdeal Cert.KernelIdeal.Gen
open Idealize.ShloMosaic Idealize.ShloMosaic.TcCoe

variable {F : FTy → Type} [FloatOps F]

/-- The blocks the devices compute from: the tokens, and the weights of each device's heads. -/
structure Ins (F : FTy → Type) where
  X : Dev nD → Vec F S2x128x512 .f32
  Q : Dev nD → Vec F S512x512 .f32
  O : Dev nD → Vec F S512x512 .f32
  K : Dev nD → Vec F S512x128 .f32
  V : Dev nD → Vec F S512x128 .f32

variable (I : Ins F)

def xB (c : Dev nD) : FVec F S256x512 .bf16 := k0_pay1 (I.X c)
def qB (c : Dev nD) : FVec F S256x512 .f32 := k0_pay2 (I.X c) (I.Q c)
def kB (c : Dev nD) : FVec F S256x128 .f32 := k0_pay4 (xB I c) (k0_pay3 (I.K c)) (constant S256x128 .f32 0x00000000#32)
def vB (c : Dev nD) : FVec F S256x128 .f32 := k0_pay5 (xB I c) (I.V c)
def oB (c : Dev nD) : FVec F S512x512 .bf16 := k0_pay6 (I.O c)

/-- The rows of the first sequence, and of the second. -/
def topB (c : Dev nD) : FVec F S128x512 .bf16 :=
  k0_pay10 (qB I c) (kB I c) (vB I c) (oB I c) (k0_pay7 (vB I c)) (k0_pay8 (qB I c) (kB I c)) (k0_pay9 (qB I c) (kB I c))
def botB (c : Dev nD) : FVec F S128x512 .bf16 :=
  k0_pay18 (oB I c) (k0_pay12 (qB I c) (kB I c) (vB I c)) (k0_pay13 (qB I c) (kB I c) (vB I c)) (k0_pay14 (qB I c) (kB I c) (vB I c))
    (k0_pay15 (qB I c) (kB I c) (vB I c)) (k0_pay16 (vB I c)) (k0_pay17 (qB I c) (kB I c))
def partB (c : Dev nD) (b : Fin 2) : FVec F S128x512 .bf16 := if b = 0 then topB I c else botB I c

/-- The half a row lies in, and its index there; the chunk a row lies in, and its index there. -/
def rowHalf (i : S256x512.Idx) : Fin 2 := ⟨(i 0).val / 128, by have : (i 0).val < 256 := (i 0).isLt; omega⟩
def inHalf (i : S256x512.Idx) : S128x512.Idx := ix2 (n0 := 128) (n1 := 512) ⟨(i 0).val % 128, Nat.mod_lt _ (by decide)⟩ (i 1)
def rowChunk (i : S256x512.Idx) : Dev nD := ⟨(i 0).val / 16, by have : (i 0).val < 256 := (i 0).isLt; show _ < 16; omega⟩
def inChunk (i : S256x512.Idx) : S16x512.Idx := ix2 (n0 := 16) (n1 := 512) ⟨(i 0).val % 16, Nat.mod_lt _ (by decide)⟩ (i 1)

/-- Device `c`'s partial result. -/
def accB (c : Dev nD) : AccC F := fun i => partB I c (rowHalf i) (inHalf i)
/-- Row `i` of chunk `d` among all the rows. -/
def ofChunk (d : Dev nD) (j : S16x512.Idx) : S256x512.Idx := ix2 (n0 := 256) (n1 := 512)
  ⟨16 * d.val + (j 0).val, by have : (j 0).val < 16 := (j 0).isLt; have h : d.val < 16 := d.isLt; omega⟩ (j 1)
/-- What device `d`'s stage holds after the first phase: slot `r` has chunk `d` of the partial result of the device whose `r`-th peer `d` is. -/
def stageB (d : Dev nD) : StageC F := fun i => accB I (src d (i 0)) (ofChunk d (ix2 (n0 := 16) (n1 := 512) (i 1) (i 2)))
/-- Chunk `d` of a partial result, as a block. -/
def chunkOf (d : Dev nD) (f : AccC F) : Vec F S16x512 .bf16 := fun j => f (ofChunk d j)
/-- The sum that device `d` makes of chunk `d`. -/
def redB (d : Dev nD) : FVec F S16x512 .bf16 := k0_pay22 (k0_pay21 (k0_pay19 (chunkOf d (accB I d))) (k0_pay20 (stageB I d)))
/-- The whole sum, the same on every device. -/
def finB : AccC F := fun i => redB I (rowChunk i) (inChunk i)
/-- The kernel's result. -/
def outB : FVec F S2x128x512 .f32 := k0_pay23 (finB I)

/-! ## The views' indices -/

/-- Where an element of a chunk lies in the partial result. -/
theorem chunk_emb (d : Dev nD) (j : S16x512.Idx) : (chunkV d).view.emb j = ofChunk d j := by
  funext a; refine Fin.ext ?_
  show (![16 * d.val, 0] : Fin 2 → ℕ) a + 1 * (j a).val = _
  fin_cases a
  · show 16 * d.val + 1 * (j 0).val = 16 * d.val + (j 0).val; omega
  · show 0 + 1 * (j 1).val = (j 1).val; omega

/-- An index of a chunk, read through an axis of length one. -/
theorem unit_axis (a : Fin 16) (b : Fin 512) :
    Shape.reshapeEquiv squeezes_S1x16x512_S16x512.numel_eq (ix2 a b) = ix3 (n0 := 1) (n1 := 16) (n2 := 512) 0 a b :=
  Shape.reshapeEquiv_eq_of_rowMajor _ (by
    rw [Shape.rowMajor_val_three, Shape.rowMajor_val_two]
    show (0 * 16 + a.val) * 512 + b.val = a.val * 512 + b.val
    omega)

/-- Where an element of a slot lies in the stage. -/
theorem slot_emb (r : Fin 15) (a : Fin 16) (b : Fin 512) : (slotV r).view.emb (ix2 a b) = ix3 (n0 := 15) (n1 := 16) (n2 := 512) r a b := by
  refine (congrArg (slotR r).emb (unit_axis a b)).trans ?_
  funext x; refine Fin.ext ?_
  show (![r.val, 0, 0] : Fin 3 → ℕ) x + 1 * (ix3 (n0 := 1) (n1 := 16) (n2 := 512) 0 a b x).val = _
  fin_cases x
  · show r.val + 1 * 0 = r.val; omega
  · show 0 + 1 * a.val = a.val; omega
  · show 0 + 1 * b.val = b.val; omega

/-- An element of chunk `d` is found in chunk `d`. -/
theorem rowChunk_ofChunk (d : Dev nD) (j : S16x512.Idx) : rowChunk (ofChunk d j) = d := by
  have : (j 0).val < 16 := (j 0).isLt
  exact Fin.ext (show (16 * d.val + (j 0).val) / 16 = d.val by omega)
/-- At its own place there. -/
theorem inChunk_ofChunk (d : Dev nD) (j : S16x512.Idx) : inChunk (ofChunk d j) = j := by
  obtain ⟨a, b, rfl⟩ : ∃ (a : Fin 16) (b : Fin 512), j = ix2 a b := ⟨j 0, j 1, eq_ix2 j⟩
  exact congrArg (fun x => ix2 x b) (Fin.ext (show (16 * d.val + a.val) % 16 = a.val by have := a.isLt; omega))

/-- What lies in a chunk is an element of its view. -/
theorem mem_accS (d : Dev nD) {i} (h : i ∈ accS d) : ∃ j, i = (chunkV d).view.emb j := by
  rw [← chunkV_set] at h; obtain ⟨j, -, e⟩ := Finset.mem_map.mp h; exact ⟨j, e.symm⟩
/-- What lies in a slot is an element of its view. -/
theorem mem_stageS (r : Fin 15) {i} (h : i ∈ stageS r) : ∃ a b, i = (slotV r).view.emb (ix2 (n0 := 16) (n1 := 512) a b) := by
  rw [← slotV_set] at h; obtain ⟨j, -, e⟩ := Finset.mem_map.mp h
  exact ⟨j 0, j 1, e.symm.trans (congrArg (slotV r).view.emb (eq_ix2 j))⟩

/-! ## What the copies and the stores leave -/

/-- The copy of chunk `d` of the partial result into the slot leaves the slot's contents. -/
theorem landed_stage (d : Dev nD) (r : Fin 15) (f : StageC F) : ∀ i ∈ stageS r,
    (slotV r).view.write (Elt F) f ((chunkV d).view.read (Elt F) (accB I (src d r))) Finset.univ i = stageB I d i := fun i hi => by
  obtain ⟨a, b, rfl⟩ := mem_stageS r hi
  rw [View.write_emb_of_mem _ _ (Finset.mem_univ _), slot_emb]
  show accB I (src d r) ((chunkV d).view.emb (ix2 (n0 := 16) (n1 := 512) a b)) = accB I (src d r) (ofChunk d (ix2 a b))
  rw [chunk_emb]

/-- The copy of chunk `c` of the sum leaves the sum. -/
theorem landed_acc (c : Dev nD) (f : AccC F) : ∀ i ∈ accS c,
    (chunkV c).view.write (Elt F) f ((chunkV c).view.read (Elt F) (finB I)) Finset.univ i = finB I i := fun i hi => by
  obtain ⟨j, rfl⟩ := mem_accS c hi
  rw [View.write_emb_of_mem _ _ (Finset.mem_univ _)]; rfl

/-- The store of the sum to the device's own chunk leaves the sum there. -/
theorem stored_red (c : Dev nD) (f : AccC F) : ∀ i ∈ accS c,
    (accM.access (chunkR c)).write (Elt F) f (redB I c) Finset.univ i = finB I i := fun i hi => by
  obtain ⟨j, rfl⟩ := mem_accS c hi
  refine (View.write_emb_of_mem (v := accM.access (chunkR c)) (Val := Elt F) f (redB I c) (Finset.mem_univ j)).trans ?_
  show redB I c j = finB I ((chunkV c).view.emb j)
  rw [chunk_emb]; unfold finB; rw [rowChunk_ofChunk, inChunk_ofChunk]

/-- The load of a chunk. -/
theorem read_chunk (c : Dev nD) (f : AccC F) : (accM.access (chunkR c)).read (Elt F) f = chunkOf c f :=
  funext fun j => congrArg f (chunk_emb c j)

/-- The store of half `b` leaves the partial result there. -/
theorem stored_half (c : Dev nD) (b : Fin 2) (f : AccC F) : ∀ i ∈ halfS b,
    (accM.access (halfR b)).write (Elt F) f (partB I c b) Finset.univ i = accB I c i := fun i hi => by
  unfold halfS at hi; rw [← Rect.map_emb_univ] at hi
  obtain ⟨j, -, rfl⟩ := Finset.mem_map.mp hi
  refine (View.write_emb_of_mem (v := accM.access (halfR b)) (Val := Elt F) f (partB I c b) (Finset.mem_univ j)).trans ?_
  obtain ⟨x, y, rfl⟩ : ∃ (x : Fin 128) (y : Fin 512), j = ix2 x y := ⟨j 0, j 1, eq_ix2 j⟩
  show partB I c b (ix2 x y) = partB I c (rowHalf ((halfR b).emb (ix2 x y))) (inHalf ((halfR b).emb (ix2 x y)))
  have hx := x.isLt
  have h1 : rowHalf ((halfR b).emb (ix2 x y)) = b := Fin.ext (show (128 * b.val + 1 * x.val) / 128 = b.val by omega)
  have h2 : inHalf ((halfR b).emb (ix2 x y)) = ix2 x y :=
    (ix2_inj (n0 := 128) (n1 := 512) _ _ _ _).mpr ⟨Fin.ext (show (128 * b.val + 1 * x.val) % 128 = x.val by omega),
      Fin.ext (show 0 + 1 * y.val = y.val by omega)⟩
  rw [h1, h2]

/-! ## The regions: sixteen chunks, two halves of eight, fifteen slots -/

/-- A chunk is the rows of that chunk number. -/
theorem accS_mem (d : Dev nD) (i : S256x512.Idx) : i ∈ accS d ↔ rowChunk i = d := by
  constructor
  · intro h; obtain ⟨j, rfl⟩ := mem_accS d h; rw [chunk_emb, rowChunk_ofChunk]
  · rintro rfl
    have e : i = (chunkV (rowChunk i)).view.emb (inChunk i) := by
      rw [chunk_emb]; refine (eq_ix2 i).trans ?_
      exact congrArg (fun x => ix2 x (i 1)) (Fin.ext (show (i 0).val = 16 * ((i 0).val / 16) + (i 0).val % 16 by omega))
    have h := View.emb_mem_set (chunkV (rowChunk i)).view (inChunk i)
    rw [← e] at h; rwa [← chunkV_set]

/-- A slot is the entries of that first index. -/
theorem stageS_mem (r : Fin 15) (i : S15x16x512.Idx) : i ∈ stageS r ↔ i 0 = r := by
  obtain ⟨a, b, c, rfl⟩ : ∃ (a : Fin 15) (b : Fin 16) (c : Fin 512), i = ix3 a b c := ⟨i 0, i 1, i 2, eq_ix3 i⟩
  show _ ↔ a = r
  constructor
  · intro h; obtain ⟨x, y, e⟩ := mem_stageS r h; rw [slot_emb] at e; exact congrFun e 0
  · rintro rfl
    have h := View.emb_mem_set (slotV a).view (ix2 (n0 := 16) (n1 := 512) b c)
    rw [slot_emb, slotV_set] at h; exact h

/-- A half is the rows of its eight chunks. -/
theorem halfS_mem (b : Fin 2) (i : S256x512.Idx) : i ∈ halfS b ↔ half (rowChunk i) = b := by
  unfold halfS; rw [Rect.mem_set_unit]
  have h0 : (i 0).val < 256 := (i 0).isLt
  have h1 : (i 1).val < 512 := (i 1).isLt
  have e : half (rowChunk i) = b ↔ (i 0).val / 16 / 8 = b.val := Fin.ext_iff
  rw [e]
  constructor
  · intro h; have := h 0
    have h2 : 128 * b.val ≤ (i 0).val ∧ (i 0).val < 128 * b.val + 128 := this
    omega
  · intro h a
    fin_cases a
    · show 128 * b.val ≤ (i 0).val ∧ (i 0).val < 128 * b.val + 128; omega
    · show 0 ≤ (i 1).val ∧ (i 1).val < 0 + 512; omega

end Cert.KernelIdeal.AllReduce

end
-- ==== Proof.Sched.lean ====
/-
# The protocol of the all-reduce: duties, payloads, debts and levels

Each semaphore cell runs one round. A barrier cell has fifteen duties of one unit, each paid by a peer; with its signal a device
hands over the stage slot the signalled device will write. A DMA cell has one duty, paid by the copy that completes there. A
landing of the first phase hands over the slot, and the chunk it was copied from: the sender writes nothing there until the
second phase's copy lands in it. A landing of the second phase hands over the chunk of the sum.
-/
module

public import proofs.«01_k».proof.Proof.Contents

@[expose] public section

set_option maxRecDepth 16384

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (I : Ins F)

/-! ## The schedule -/

/-- The share of its chunk that the `r`-th copy of the second phase reads; and what is left when all fifteen are lent. -/
abbrev tok (r : Fin 15) : PosShare TreeShare := shareTok fullShare 15 r
abbrev rest : PosShare TreeShare := shareDrop fullShare 15

/-- The array and the index of a DMA semaphore. -/
def kq (q : DmaSem sig) : Fin 4 × Fin 15 := ⟨⟨(q.val - 6) / 15, by have h : q.val < 66 := q.isLt; omega⟩, ⟨(q.val - 6) % 15, Nat.mod_lt _ (by decide)⟩⟩
/-- The array and index of a semaphore, read back. -/
theorem kq_dmaQ (k : Fin 4) (r : Fin 15) : kq (dmaQ k r) = (k, r) := by revert k r; decide +kernel

/-- What comes with duty `d` of device `x`'s barrier: slot `d` of its `d`-th peer, whose two receive cells are open. -/
def barPay (x : Dev nD) (d : Fin 15) : sProp 𝕄 :=
  iprop((∃ f, slotP (peer x d) d f) ∗ reached ER (dmaCell (peer x d) 1 d) 0 ∗ reached ER (dmaCell (peer x d) 3 d) 0)

/-- What comes with a completion on DMA semaphore `r` of array `k` of device `c`. -/
def dmaPay (k : Fin 4) (c : Dev nD) (r : Fin 15) : sProp 𝕄 := match k with
  | 0 => iprop(emp)
  | 1 => iprop(slotP c r (stageB I c) ∗ accQ (src c r) c fullShare (accB I (src c r)))
  | 2 => accQ c c (tok r) (finB I)
  | 3 => accQ c (src c r) fullShare (finB I)

/-- The schedule of the all-reduce. -/
def sched : Rounds.Schedule (GSem nD τ sig) DD 𝕄 where
  duties g r := if r = 0 ∧ g.1.2 = .tc then (match g.2 with | .reg _ => Finset.univ | .dma q => if 6 ≤ q.val then {0} else ∅) else ∅
  unitless _ := False
  amount g _ _ := match g.2 with | .reg _ => 1 | .dma _ => N
  payload g _ d := match g.2 with | .reg _ => barPay g.1.1 d | .dma q => dmaPay I (kq q).1 g.1.1 (kq q).2
  amount_pos g _ _ _ := by
    obtain ⟨t, s⟩ := g
    cases s with
    | reg _ => exact Nat.one_pos
    | dma _ => exact N_pos

instance barPay_storable (x : Dev nD) (d : Fin 15) : BI.Storable (upEmb : UEmb _ 𝕄) (barPay (F := F) x d) := by unfold barPay; infer_instance
instance dmaPay_storable (k : Fin 4) (c : Dev nD) (r : Fin 15) : BI.Storable (upEmb : UEmb _ 𝕄) (dmaPay I k c r) := by
  unfold dmaPay; fin_cases k <;> dsimp only <;> infer_instance
instance sched_storable (g : GSem nD τ sig) (r : ℕ) (d : DD) : BI.Storable (upEmb : UEmb _ 𝕄) ((sched I).payload g r d) := by
  obtain ⟨t, s⟩ := g
  cases s with
  | reg _ => exact barPay_storable t.1 d
  | dma q => exact dmaPay_storable I (kq q).1 t.1 (kq q).2

section Tables
variable (c : Dev nD) (k : Fin 4) (r : Fin 15)

/-- A barrier has fifteen duties, one for each peer. -/
theorem duties_bar : (sched I).duties (barCell c) 0 = Finset.univ := by dsimp only [sched]; exact if_pos ⟨rfl, rfl⟩
/-- The kernel's own DMA semaphores come after the pipeline's six. -/
theorem dmaQ_ge : 6 ≤ (dmaQ k r).val := by show 6 ≤ 6 + 15 * k.val + r.val; omega
/-- A DMA cell has one duty. -/
theorem duties_dma : (sched I).duties (dmaCell c k r) 0 = {0} := by
  dsimp only [sched]; rw [if_pos ⟨rfl, rfl⟩]; exact if_pos (dmaQ_ge k r)
/-- There is one round only. -/
theorem duties_later (g : GSem nD τ sig) : ∀ r, 1 ≤ r → (sched I).duties g r = ∅ := fun r hr => by
  dsimp only [sched]; exact if_neg fun h => by omega
/-- A signal counts one. -/
theorem amount_bar (d : DD) : (sched I).amount (barCell c) 0 d = 1 := rfl
/-- A copy counts its credit. -/
theorem amount_dma (d : DD) : (sched I).amount (dmaCell c k r) 0 d = N := rfl
/-- What comes with a signal. -/
theorem payload_bar (d : DD) : (sched I).payload (barCell c) 0 d = barPay c d := rfl
/-- What comes with a copy. -/
theorem payload_dma (d : DD) : (sched I).payload (dmaCell c k r) 0 d = dmaPay I k c r := by
  show dmaPay I (kq (dmaQ k r)).1 c (kq (dmaQ k r)).2 = _
  rw [kq_dmaQ]
/-- A barrier waits for fifteen. -/
theorem expect_bar : (sched I).expect (barCell c) 0 = 15 := by
  unfold Schedule.expect Schedule.amountOf; rw [duties_bar]
  simp only [amount_bar, Finset.sum_const, Finset.card_univ, Fintype.card_fin, smul_eq_mul, mul_one]
/-- A DMA cell waits for one copy. -/
theorem expect_dma : (sched I).expect (dmaCell c k r) 0 = N := by
  unfold Schedule.expect Schedule.amountOf; rw [duties_dma, Finset.sum_singleton, amount_dma]
/-- What a barrier's wait brings, all at once. -/
theorem rest_bar : bigSep ((sched I).duties (barCell c) 0 \ ∅) (fun d => (sched I).payload (barCell c) 0 d) = bigSep Finset.univ fun d => barPay (F := F) c d := by
  rw [Finset.sdiff_empty, duties_bar]; rfl
/-- What a DMA cell's wait brings. -/
theorem rest_dma : bigSep ((sched I).duties (dmaCell c k r) 0 \ ∅) (fun d => (sched I).payload (dmaCell c k r) 0 d) = dmaPay I k c r := by
  rw [Finset.sdiff_empty, duties_dma, bigSep_singleton, payload_dma]
end Tables

/-! ## What a device owes, and the levels -/

/-- Units owed to the barriers of the peers of index in `s`. -/
def oweB (c : Dev nD) (s : Finset (Fin 15)) : CellTallies nD τ sig Unit := ∑ r ∈ s, tallyAt (barCell (peer c r)) () 1
/-- Landings owed to the peers of index in `s`, on array `k`. -/
def oweR (k : Fin 4) (c : Dev nD) (s : Finset (Fin 15)) : CellTallies nD τ sig Unit := ∑ r ∈ s, tallyAt (dmaCell (peer c r) k r) () N
/-- What device `c` owes at the launch. -/
def O₀ (c : Dev nD) : CellTallies nD τ sig Unit := oweB c Finset.univ + (oweR 1 c Finset.univ + oweR 3 c Finset.univ)

/-- A signal owed is one of those owed. -/
theorem oweB_erase (c : Dev nD) {s : Finset (Fin 15)} {r : Fin 15} (h : r ∈ s) : oweB c s = oweB c (s.erase r) + tallyAt (barCell (peer c r)) () 1 :=
  (Finset.sum_erase_add s _ h).symm
/-- A copy owed is one of those owed. -/
theorem oweR_erase (k : Fin 4) (c : Dev nD) {s : Finset (Fin 15)} {r : Fin 15} (h : r ∈ s) :
    oweR k c s = oweR k c (s.erase r) + tallyAt (dmaCell (peer c r) k r) () N :=
  (Finset.sum_erase_add s _ h).symm
/-- No signals, nothing owed. -/
theorem oweB_empty (c : Dev nD) : oweB c ∅ = 0 := Finset.sum_empty
/-- No copies, nothing owed. -/
theorem oweR_empty (k : Fin 4) (c : Dev nD) : oweR k c ∅ = 0 := Finset.sum_empty

/-- Where a sum of tallies is positive, one of them is. -/
theorem sum_tally_pos {s : Finset (Fin 15)} {g : Fin 15 → GSem nD τ sig} {n : ℕ} {x : GSem nD τ sig} {u : Unit}
    (h : 0 < (∑ r ∈ s, tallyAt (g r) () n : CellTallies nD τ sig Unit) x u) : ∃ r, x = g r := by
  by_contra hn
  rw [not_exists] at hn
  rw [Finset.sum_apply, Finsupp.finset_sum_apply, Finset.sum_eq_zero fun r _ => by
    rw [tallyAt_apply, if_neg (fun h' => hn r h'.1)]] at h
  exact Nat.lt_irrefl 0 h

/-- The cells that have a level: those of the tensor cores. -/
def L (g : GSem nD τ sig) : Finset Unit := if g.1.2 = .tc then {()} else ∅
/-- The levels: barriers below first landings below second landings. -/
def lvS : SemLoc sig → ℕ
  | .reg _ => 1
  | .dma q => if q.val < 6 then 0 else if (kq q).1 = 1 then 2 else if (kq q).1 = 3 then 3 else 0
/-- The level of a cell. -/
def lv (g : GSem nD τ sig) (_ : Unit) : ℕ := lvS g.2
/-- Only the tensor cores have levels. -/
theorem L_of_ne (g : GSem nD τ sig) (h : g.1.2 ≠ .tc) : L g = ∅ := if_neg h
/-- Each cell of a tensor core has one. -/
theorem L_tc (c : Dev nD) (sm : SemLoc sig) : L ((c : Thread nD τ), sm) = {()} := if_pos rfl

/-- The levels of the DMA cells. -/
theorem lv_dma (c : Dev nD) (k : Fin 4) (r : Fin 15) : lv (dmaCell c k r) () = if k = 1 then 2 else if k = 3 then 3 else 0 := by
  show (if (dmaQ k r).val < 6 then 0 else if (kq (dmaQ k r)).1 = 1 then 2 else if (kq (dmaQ k r)).1 = 3 then 3 else 0) = _
  rw [if_neg (by have := dmaQ_ge k r; omega), kq_dmaQ]
/-- The level of a barrier. -/
theorem lv_bar (c : Dev nD) : lv (barCell c) () = 1 := rfl

/-- A wait on a cell of level below every debt's is safe. -/
theorem mayWait_of (c : Dev nD) (sm : SemLoc sig) (O : CellTallies nD τ sig Unit) (n : ℕ) (hn : lvS sm ≤ n)
    (hO : ∀ g u, 0 < O g u → (∃ d : Dev nD, g.1 = (d : Thread nD τ)) ∧ n < lv g ()) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by
      obtain ⟨⟨d, hd⟩, -⟩ := hO g u hg
      have e : L g = {()} := if_pos (by rw [hd])
      rw [e]; exact Finset.mem_singleton_self _)
    (fun p hp => by rw [Finset.mem_singleton.mp hp]; exact hn)
    (fun g u hg => (hO g u hg).2)

/-- Where a copy is owed, and its level. -/
theorem oweR_pos {k : Fin 4} {c : Dev nD} {s} {g : GSem nD τ sig} {u : Unit} (h : 0 < oweR k c s g u) :
    (∃ d : Dev nD, g.1 = (d : Thread nD τ)) ∧ lv g () = if k = 1 then 2 else if k = 3 then 3 else 0 := by
  obtain ⟨r, rfl⟩ := sum_tally_pos h
  exact ⟨⟨_, rfl⟩, lv_dma _ _ _⟩
/-- Where a signal is owed, and its level. -/
theorem oweB_pos {c : Dev nD} {s} {g : GSem nD τ sig} {u : Unit} (h : 0 < oweB c s g u) :
    (∃ d : Dev nD, g.1 = (d : Thread nD τ)) ∧ lv g () = 1 := by
  obtain ⟨r, rfl⟩ := sum_tally_pos h
  exact ⟨⟨_, rfl⟩, rfl⟩
/-- A positive sum has a positive term. -/
theorem add_pos' {O O' : CellTallies nD τ sig Unit} {g : GSem nD τ sig} {u : Unit} (h : 0 < (O + O') g u) : 0 < O g u ∨ 0 < O' g u := by
  rw [Pi.add_apply, Finsupp.add_apply] at h; omega

/-- The pipeline's waits come before every signal. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine mayWait_of c _ _ 0 (le_of_eq (if_pos hq)) fun g u h => ?_
    rcases add_pos' h with h | h
    · exact ⟨(oweB_pos h).1, by rw [(oweB_pos h).2]; decide⟩
    rcases add_pos' h with h | h
    · exact ⟨(oweR_pos h).1, by rw [(oweR_pos h).2]; decide⟩
    · exact ⟨(oweR_pos h).1, by rw [(oweR_pos h).2]; decide⟩
  · rw [MayWait_zero]; iintro -; iempintro

/-- The barrier's wait: the landings of both phases are still owed. -/
theorem mayWait_bar (c : Dev nD) : (levAts L lv : sProp 𝕄) ⊢ MayWait (c : Thread nD τ) (.reg barS) () (oweR 1 c Finset.univ + oweR 3 c Finset.univ) :=
  mayWait_of c _ _ 1 (le_refl _) fun g u h => by
    rcases add_pos' h with h | h
    · exact ⟨(oweR_pos h).1, by rw [(oweR_pos h).2]; decide⟩
    · exact ⟨(oweR_pos h).1, by rw [(oweR_pos h).2]; decide⟩

/-- The first phase's waits: the second phase's landings are still owed. -/
theorem mayWait_first (c : Dev nD) (k : Fin 4) (hk : k.val < 2) (r : Fin 15) :
    (levAts L lv : sProp 𝕄) ⊢ MayWait (c : Thread nD τ) (.dma (dmaQ k r)) () (oweR 3 c Finset.univ) :=
  mayWait_of c _ _ 2 ((le_of_eq (lv_dma c k r)).trans (by
      have : k = 0 ∨ k = 1 := by revert k; decide
      rcases this with rfl | rfl <;> decide)) fun g u h => ⟨(oweR_pos h).1, by rw [(oweR_pos h).2]; decide⟩

/-! ## The cells and what the devices share -/

/-- The barrier cells; the DMA cells. -/
def barCells : Finset (GSem nD τ sig) := Finset.univ.image fun c : Dev nD => barCell c
def dmaCells : Finset (GSem nD τ sig) := Finset.univ.image fun x : Dev nD × Fin 4 × Fin 15 => dmaCell x.1 x.2.1 x.2.2

/-- A barrier is a cell of the protocol. -/
theorem bar_mem (c : Dev nD) : barCell c ∈ barCells ∪ dmaCells := Finset.mem_union_left _ (Finset.mem_image_of_mem _ (Finset.mem_univ c))
/-- So is a DMA cell. -/
theorem dma_mem (c : Dev nD) (k : Fin 4) (r : Fin 15) : dmaCell c k r ∈ barCells ∪ dmaCells :=
  Finset.mem_union_right _ (Finset.mem_image.mpr ⟨(c, k, r), Finset.mem_univ _, rfl⟩)
/-- No barrier is a DMA cell. -/
theorem cells_disjoint : Disjoint barCells dmaCells := by
  rw [Finset.disjoint_left]; intro g h h'
  obtain ⟨c, -, rfl⟩ := Finset.mem_image.mp h
  obtain ⟨x, -, e⟩ := Finset.mem_image.mp h'
  cases (congrArg Prod.snd e)

/-- What every device may use throughout: the cells' invariants, that the barriers are open, that the device's own DMA cells
    are open, and the levels. -/
def ctx (K : GSem nD τ sig → ℕ) (c : Dev nD) : sProp 𝕄 :=
  iprop(bigSep (barCells ∪ dmaCells) (fun g => cellInv ER (sched I) (K g) g) ∗ bigSep Finset.univ (fun d : Dev nD => reached ER (barCell d) 0)
    ∗ bigSep Finset.univ (fun x : Fin 4 × Fin 15 => reached ER (dmaCell c x.1 x.2) 0) ∗ levAts L lv)

instance ctx_persistent (K : GSem nD τ sig → ℕ) (c : Dev nD) : BI.Persistent (ctx I K c) := by unfold ctx; infer_instance

variable (K : GSem nD τ sig → ℕ) (c : Dev nD)

/-- What the context says of a barrier. -/
theorem ctx_bar (d : Dev nD) : ctx I K c ⊢ iprop(cellInv ER (sched I) (K (barCell d)) (barCell d) ∗ reached ER (barCell d) 0) := by
  have h1 : (bigSep (barCells ∪ dmaCells) (fun g => cellInv ER (sched I) (K g) g) : sProp 𝕄) ⊢ cellInv ER (sched I) (K (barCell d)) (barCell d) :=
    bigSep_elim (bar_mem d)
  have h2 : (bigSep Finset.univ (fun d : Dev nD => reached ER (barCell d) 0) : sProp 𝕄) ⊢ reached ER (barCell d) 0 := bigSep_elim (Finset.mem_univ d)
  unfold ctx
  iintro ⟨#H, #Hr, -, -⟩
  isplitr
  · iapply h1; iexact H
  · iapply h2; iexact Hr
/-- What it says of a DMA cell. -/
theorem ctx_dma (d : Dev nD) (k : Fin 4) (r : Fin 15) : ctx I K c ⊢ cellInv ER (sched I) (K (dmaCell d k r)) (dmaCell d k r) := by
  have h1 : (bigSep (barCells ∪ dmaCells) (fun g => cellInv ER (sched I) (K g) g) : sProp 𝕄)
      ⊢ cellInv ER (sched I) (K (dmaCell d k r)) (dmaCell d k r) := bigSep_elim (dma_mem d k r)
  unfold ctx
  iintro ⟨#H, -, -, -⟩
  iapply h1; iexact H
/-- The device's own DMA cells are open. -/
theorem ctx_open (k : Fin 4) (r : Fin 15) : ctx I K c ⊢ reached ER (dmaCell c k r) 0 := by
  have h1 : (bigSep Finset.univ (fun x : Fin 4 × Fin 15 => reached ER (dmaCell c x.1 x.2) 0) : sProp 𝕄) ⊢ reached ER (dmaCell c k r) 0 :=
    bigSep_elim (Finset.mem_univ (k, r))
  unfold ctx
  iintro ⟨-, -, #H, -⟩
  iapply h1; iexact H
/-- The levels are known. -/
theorem ctx_lev : ctx I K c ⊢ levAts L lv := by
  unfold ctx
  iintro ⟨-, -, -, #H⟩
  iexact H

end Cert.KernelIdeal.AllReduce

end
-- ==== Proof.Steps.lean ====
/-
# The steps of the all-reduce

Each instruction that touches a semaphore or a shared buffer, as a triple from one state of the protocol to the next. The peers
still to be served are a set of indices, and a step takes one out.
-/
module

public import proofs.«01_k».proof.Proof.Sched

@[expose] public section

set_option maxRecDepth 16384

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

abbrev 𝒱₀ : Variants := Variants.none

variable (I : Ins F) (K : GSem nD τ sig → ℕ) (c : Dev nD)

/-! ## Triples under the shared facts -/

/-- Device `c` runs `e` from `P`, and ends with `Q` of what `e` returns. -/
def Tr {α : Type} (P : sProp 𝕄) (e : Prog (TpuEff nD τ sig (Elt F) Λ₀ .tc) α) (Q : α → sProp 𝕄) : Prop :=
  iprop(ctx I K c ∗ P) ⊢ wp frame (wpE (defs₀ (F := F)) 𝒱₀ (c : Thread nD τ) none) Set.univ e Q

variable {I K c}

namespace Tr

variable {α β : Type}
variable {e : Prog (TpuEff nD τ sig (Elt F) Λ₀ .tc) α}
variable {P : sProp (MT nD τ sig Unit (Elt F) ℕ UU ℕ)} {P' : sProp (MT nD τ sig Unit (Elt F) ℕ UU ℕ)}

/-- A stronger precondition. -/
theorem pre {Q : α → sProp 𝕄} (h : P ⊢ P') (H : Tr I K c P' e Q) : Tr I K c P e Q := (sep_mono_right h).trans H

/-- A weaker postcondition. -/
theorem post {Q Q' : α → sProp 𝕄} (H : Tr I K c P e Q) (h : ∀ a, Q a ⊢ Q' a) : Tr I K c P e Q' := H.trans (wp_mono _ _ _ h)

/-- A program that only returns. -/
theorem ret {Q : α → sProp 𝕄} {a : α} (h : P ⊢ Q a) : Tr I K c P (pure a) Q := by
  unfold Tr
  iintro ⟨-, HP⟩
  iapply (le_wp_ret _ _ _ a Q)
  iapply h; iexact HP

/-- One program after another. -/
theorem bind {Q : α → sProp 𝕄} {k : α → Prog (TpuEff nD τ sig (Elt F) Λ₀ .tc) β} {Q' : β → sProp 𝕄}
    (H : Tr I K c P e Q) (Hk : ∀ a, Tr I K c (Q a) (k a) Q') : Tr I K c P (e >>= k) Q' := by
  unfold Tr at *
  rw [wp_bind]
  iintro ⟨#HC, HP⟩
  iapply (wp_mono _ _ _ (p := e) (Q := fun a => iprop(ctx I K c ∗ Q a)) fun a => Hk a)
  iapply wp_frame_l
  isplitr; · iexact HC
  iapply H
  isplitr; · iexact HC
  iexact HP

/-- What a program does not touch stays. -/
theorem frame {Q : α → sProp 𝕄} (R : sProp 𝕄) (H : Tr I K c P e Q) : Tr I K c iprop(P ∗ R) e (fun a => iprop(Q a ∗ R)) := by
  unfold Tr at *
  iintro ⟨HC, HP, HR⟩
  iapply wp_frame_r
  isplitl [HC HP]
  · iapply H; isplitl [HC]; · iexact HC
    iexact HP
  · iexact HR

/-- A fact among what is held may be assumed. -/
theorem pureL {φ : Prop} {Q : α → sProp 𝕄} (H : φ → Tr I K c P e Q) : Tr I K c iprop(⌜φ⌝ ∗ P) e Q := by
  unfold Tr at *
  iintro ⟨HC, %h, HP⟩
  iapply (H h); isplitl [HC]; · iexact HC
  iexact HP

/-- The first part returns a known value. -/
theorem bindv {Q : sProp 𝕄} {x : α} {k : α → Prog (TpuEff nD τ sig (Elt F) Λ₀ .tc) β} {Q' : β → sProp 𝕄}
    (H : Tr I K c P e (fun v => iprop(⌜v = x⌝ ∗ Q))) (Hk : Tr I K c Q (k x) Q') : Tr I K c P (e >>= k) Q' :=
  bind H fun a => pureL fun h => by rw [h]; exact Hk

/-- A return of a known value. -/
theorem retv {Q : sProp 𝕄} {a x : α} (h : a = x) (hQ : P ⊢ Q) : Tr I K c P (pure a) (fun v => iprop(⌜v = x⌝ ∗ Q)) :=
  ret (by subst h; iintro H; isplitr; · ipureintro; rfl
          iapply hQ; iexact H)

/-- An `if` whose branches rejoin. -/
theorem cond {φ : Prop} [Decidable φ] {e : φ → Prog (TpuEff nD τ sig (Elt F) Λ₀ .tc) β} {k : Prog (TpuEff nD τ sig (Elt F) Λ₀ .tc) α}
    {Q : α → sProp 𝕄} {P' : sProp 𝕄} (hT : ∀ h : φ, Tr I K c P (e h) (fun _ => P')) (hF : ¬φ → P ⊢ P') (hk : Tr I K c P' k Q) :
    Tr I K c P (if h : φ then (e h >>= fun _ => k) else k) Q := by
  by_cases h : φ
  · rw [dif_pos h]; exact bind (hT h) fun _ => hk
  · rw [dif_neg h]; exact pre (hF h) hk

/-- A frame beside a known value. -/
theorem framev {Q : sProp 𝕄} {x : α} {R : sProp 𝕄} (H : Tr I K c P e (fun v => iprop(⌜v = x⌝ ∗ Q))) :
    Tr I K c iprop(P ∗ R) e (fun v => iprop(⌜v = x⌝ ∗ Q ∗ R)) :=
  (H.frame R).post fun v => (sep_assoc (PROP := sProp 𝕄)).1

/-- A triple, applied at the head of what is to be run. -/
theorem apply {Q : α → sProp 𝕄} (H : Tr I K c P e Q) {k : α → Prog (TpuEff nD τ sig (Elt F) Λ₀ .tc) β} {Q' : β → sProp 𝕄} :
    iprop(ctx I K c ∗ P) ⊢ iprop((∀ a, Q a -∗ wp Idealize.ShloMosaic.frame (wpE (defs₀ (F := F)) 𝒱₀ (c : Thread nD τ) none) Set.univ (k a) Q')
      -∗ wp Idealize.ShloMosaic.frame (wpE (defs₀ (F := F)) 𝒱₀ (c : Thread nD τ) none) Set.univ (e >>= k) Q') := by
  unfold Tr at H
  rw [wp_bind]
  iintro HP Hk
  iapply (wp_wand _ _ _ (p := e) (Q := Q)) $$ [HP]
  · iapply H; iexact HP
  · iexact Hk

end Tr

/-! ## Debts, and the loads and stores -/

/-- Device `c` owes `O`, whatever it has waited on. -/
def ow (c : Dev nD) (O : CellTallies nD τ sig Unit) : sProp 𝕄 := iprop(∃ W, owes (c : Thread nD τ) O W)

section Mem
variable {s : Shape} {e : EltTy}

/-- A load of a held region. -/
theorem load_step {m : Memref sig .tc .vmem s e} {r : LoadRect s} {hl} {S : Finset m.view.ty.Idx} {q} {f : Buf (Elt F) (m.view.loc (c : Thread nD τ))}
    (hS : m.view.setOn r.set ⊆ S) :
    Tr I K c (m.view.loc (c : Thread nD τ) ↦[S]{q} f) (Prog.lift (.load m r hl))
      (fun v => iprop(⌜v = m.view.readAt (Elt F) r f⌝ ∗ m.view.loc (c : Thread nD τ) ↦[S]{q} f)) := by
  unfold Tr
  iintro ⟨-, H⟩
  iapply (wp_load 𝒱₀ (c : Thread nD τ) none Set.univ (m := m) hS) $$ H
  iintro H
  iapply (le_wp_ret _ _ _ _ _)
  isplitr; · ipureintro; rfl
  iexact H

/-- A store to a held region. -/
theorem store_step {m : Memref sig .tc .vmem s e} {r : Rect s} {w : r.shape.Idx → Elt F e} {hs ht} {S : Finset m.view.ty.Idx} {f : Buf (Elt F) (m.view.loc (c : Thread nD τ))}
    (hS : (m.access r).setOn Finset.univ ⊆ S) :
    Tr I K c (m.view.loc (c : Thread nD τ) ↦[S]{fullShare} f) (Prog.lift (.store m r w Finset.univ hs ht))
      (fun _ => (m.view.loc (c : Thread nD τ) ↦[S]{fullShare} ((m.access r).write (Elt F) f w Finset.univ))) := by
  unfold Tr
  iintro ⟨-, H⟩
  iapply (wp_store 𝒱₀ (c : Thread nD τ) none Set.univ (m := m) (r := r) (Mk := Finset.univ) hS) $$ H
  iintro H
  iapply (le_wp_ret _ _ _ _ _)
  iexact H
end Mem

/-! ## Taking one index out of a set -/

/-- One member's part taken out of a family. -/
theorem take {Φ : Fin 15 → sProp 𝕄} {s : Finset (Fin 15)} {r : Fin 15} (h : r ∈ s) : bigSep s Φ ⊢ iprop(Φ r ∗ bigSep (s.erase r) Φ) :=
  Entails.of_eq (bigSep_erase h)
/-- One member's part added to those done. -/
theorem give {Φ : Fin 15 → sProp 𝕄} {s : Finset (Fin 15)} {r : Fin 15} (h : r ∈ s) : iprop(Φ r ∗ bigSep sᶜ Φ) ⊢ bigSep (s.erase r)ᶜ Φ := by
  rw [Finset.compl_erase]
  exact Entails.of_eq (bigSep_insert (by rw [Finset.mem_compl, not_not]; exact h)).symm

/-! ## The barrier -/

/-- The peers of index in `s` are still to be signalled. -/
def Sig (c : Dev nD) (s : Finset (Fin 15)) : sProp 𝕄 :=
  iprop(ow c (oweB c s + (oweR 1 c Finset.univ + oweR 3 c Finset.univ)) ∗ bigSep s (fun r => dutyTok ER (barCell (peer c r)) 0 (rev r))
    ∗ bigSep s (fun r => iprop(∃ f, slotP c (rev r) f)))

/-- A signal to the `r`-th peer: it hands over the slot that the peer will write. -/
theorem signal_step (r : Fin 15) {s : Finset (Fin 15)} (hr : r ∈ s) {n : Dev nD} (hn : n = peer c r) :
    Tr I K c (Sig c s) (semSignalWord n barS 1#32) (fun _ => Sig c (s.erase r)) := by
  subst hn
  unfold Tr Sig ow
  rw [oweB_erase c hr]
  simp only [semSignalWord]
  iintro ⟨#HC, ⟨%W, HO⟩, Hts, Hss⟩
  ihave Hts := (take hr) $$ Hts
  icases Hts with ⟨Ht, Hts⟩
  ihave Hss := (take hr) $$ Hss
  icases Hss with ⟨Hs, Hss⟩
  ihave #Hb := (ctx_bar I K c (peer c r)) $$ HC
  ihave #H1 := (ctx_open I K c 1 (rev r)) $$ HC
  ihave #H3 := (ctx_open I K c 3 (rev r)) $$ HC
  icases Hb with ⟨#Hi, #Hr⟩
  iapply (Rounds.wp_signal 𝒱₀ ER (sched I) (c : Thread nD τ) none (dst := (peer c r : Thread nD τ)) (κ := K (barCell (peer c r))) (d := rev r)
      (by rw [duties_bar]; exact Finset.mem_univ _) ((amount_bar I (peer c r) (rev r)).trans (by decide)) ()
      (oweB c (s.erase r) + (oweR 1 c Finset.univ + oweR 3 c Finset.univ)) (add_right_comm _ _ _)) $$ [HO Ht Hs]
  · isplitr; · iexact Hi
    isplitl [HO]; · iexact HO
    isplitl [Ht]; · iexact Ht
    isplitl [Hs]
    · rw [payload_bar]; unfold barPay; rw [peer_rev]
      isplitl [Hs]; · iexact Hs
      isplitr; · iexact H1
      iexact H3
    · iexact Hr
  iintro HO
  iapply (le_wp_ret _ _ _ _ _)
  isplitl [HO]; · iexists W; iexact HO
  isplitl [Hts]; · iexact Hts
  iexact Hss

/-- The barrier's wait: every peer's slot comes with it. -/
theorem bar_step {sm : Sem sig} (hsm : sm = barS) :
    Tr I K c iprop(ow c (oweR 1 c Finset.univ + oweR 3 c Finset.univ) ∗ cred (tallyAt (barCell c) () 15) ∗ atPos ER (barCell c) 0 ∅ 0)
      (semWaitWord sm 15#32)
      (fun _ => iprop(ow c (oweR 1 c Finset.univ + oweR 3 c Finset.univ) ∗ atPos ER (barCell c) 1 ∅ 0 ∗ bigSep Finset.univ fun r => barPay (F := F) c r)) := by
  subst hsm
  unfold Tr ow
  simp only [semWaitWord]
  iintro ⟨#HC, ⟨%W, HO⟩, Hc, Ha⟩
  ihave #Hb := (ctx_bar I K c c) $$ HC
  icases Hb with ⟨#Hi, -⟩
  ihave #Hl := (ctx_lev I K c) $$ HC
  iapply (Rounds.wp_wait_rest_token 𝒱₀ ER (sched I) (c : Thread nD τ) none (κ := K (barCell c))
      (wpE_semWait_eq 𝒱₀ (c : Thread nD τ) none Set.univ) (Set.mem_univ _) () (O := oweR 1 c Finset.univ + oweR 3 c Finset.univ) (W := W) (R := 0) (m := 0) (T := ∅)
      (by rw [expect_bar]; decide)) $$ [Hc HO Ha]
  · isplitr; · iexact Hi
    isplitl [Hc]; · iexact Hc
    isplitl [HO]; · iexact HO
    isplitr; · iapply (mayWait_bar c); iexact Hl
    iexact Ha
  iintro ⟨HO, Ha, -, Hp⟩
  ihave Hp := (Entails.of_eq (rest_bar I c)) $$ Hp
  iapply (le_wp_ret _ _ _ _ _)
  isplitl [HO]; · iexists _; iexact HO
  isplitl [Ha]; · iexact Ha
  iexact Hp

/-! ## The copies -/

/-- The first phase: the peers of index in `s` are still to be sent their chunk. -/
def Snd (c : Dev nD) (s : Finset (Fin 15)) : sProp 𝕄 :=
  iprop(ow c (oweR 1 c s + oweR 3 c Finset.univ)
    ∗ bigSep s (fun r => iprop(dutyTok ER (dmaCell c 0 r) 0 0 ∗ dutyTok ER (dmaCell (peer c r) 1 r) 0 0 ∗ (∃ f, slotP (peer c r) r f) ∗ reached ER (dmaCell (peer c r) 1 r) 0))
    ∗ bigSep sᶜ (fun r => cred (tallyAt (dmaCell c 0 r) () N)))

/-- What a copy into a slot counts. -/
theorem amount_slot (r : Fin 15) (q : DmaSem sig) : (slotV r).view.amount (.dma q) = N := rfl

/-- What a landing in a peer's slot hands over. -/
theorem pay_slot (c : Dev nD) (r : Fin 15) (f : StageC F) :
    iprop(((slotV r).view.loc (peer c r : Thread nD τ) ↦[(slotV r).view.set]{fullShare}
          ((slotV r).view.write (Elt F) f ((chunkV (peer c r)).view.read (Elt F) (accB I c)) Finset.univ))
        ∗ ((chunkV (peer c r)).view.loc (c : Thread nD τ) ↦[(chunkV (peer c r)).view.set]{fullShare} (accB I c)))
      ⊢ (sched I).payload (dmaCell (peer c r) 1 r) 0 0 := by
  rw [payload_dma]
  show _ ⊢ iprop(slotP (peer c r) r (stageB I (peer c r)) ∗ accQ (src (peer c r) r) (peer c r) fullShare (accB I (src (peer c r) r)))
  rw [src_peer]; unfold slotP accQ; rw [← slotV_set, ← chunkV_set]
  refine BIClass.sep_mono (Entails.of_eq (pointsTo_congr fun i hi => ?_)) (BI.Entails.refl _)
  rw [slotV_set] at hi
  have := landed_stage I (peer c r) r f i hi
  rw [src_peer] at this; exact this

/-- A copy of the first phase: it takes the chunk and the slot and leaves the wait's fuel. -/
theorem send_step (r : Fin 15) {s : Finset (Fin 15)} (hr : r ∈ s) {n : Dev nD} (hn : n = peer c r)
    {from' : Memref sig .tc .vmem S16x512 .bf16} (hf : from' = chunkV (peer c r))
    {sm sm' : DmaSem sig} (h0 : sm = dmaQ 0 r) (h1 : sm' = dmaQ 1 r) {dst : Memref sig .tc .vmem S16x512 .bf16} (hd : dst = slotV r)
    {hsc : (dst : Memref sig (Dev.tc n : Thread nD τ).2.kind .vmem S16x512 .bf16).view.ref.isScScratch = false}
    {hsrc : from'.view.WordExact} {hdst : dst.view.WordExact}
    {hsem : DmaTarget.Typed .vmem (.dma sm') (.remote (Dev.tc n : Thread nD τ) (dst : Memref sig (Dev.tc n : Thread nD τ).2.kind .vmem S16x512 .bf16) (.dma sm) hsc)} :
    Tr I K c iprop(Snd c s ∗ accQ c (peer c r) fullShare (accB I c))
      (Prog.lift (.enqueueDma from' (.remote (Dev.tc n : Thread nD τ) dst (.dma sm) hsc) (.dma sm') hsrc hdst hsem))
      (fun _ => Snd c (s.erase r)) := by
  subst hn h0 h1 hd hf
  unfold Tr Snd ow
  rw [oweR_erase 1 c hr]
  iintro ⟨#HC, ⟨⟨%W, HO⟩, Hts, Hcs⟩, Hq⟩
  ihave Hts := (take hr) $$ Hts
  icases Hts with ⟨⟨Ht0, Ht1, ⟨%f, Hs⟩, #Hr1⟩, Hts⟩
  ihave #Hi0 := (ctx_dma I K c c 0 r) $$ HC
  ihave #Hi1 := (ctx_dma I K c (peer c r) 1 r) $$ HC
  ihave #Hr0 := (ctx_open I K c 0 r) $$ HC
  unfold slotP accQ
  rw [← slotV_set, ← chunkV_set]
  iapply (Rounds.wp_send_landing_pointsTo 𝒱₀ ER (sched I) (c : Thread nD τ) none (κ₁ := K (dmaCell c 0 r)) (κ₂ := K (dmaCell (peer c r) 1 r))
      (r₁ := 0) (r₂ := 0) (d₁ := 0) (d₂ := 0) (fd := f)
      (by rw [duties_dma]; exact Finset.mem_singleton_self _) (by rw [duties_dma]; exact Finset.mem_singleton_self _)
      () () N (amount_slot r _) (amount_dma I c 0 r 0) (amount_dma I (peer c r) 1 r 0) (oweR 1 c (s.erase r) + oweR 3 c Finset.univ) (add_right_comm _ _ _) (W := W)
      (by rw [payload_dma]; exact BI.Entails.refl _)
      (pay_slot c r f)) $$ [HO Ht0 Ht1 Hs Hq]
  · isplitr; · iexact Hi0
    isplitr; · iexact Hi1
    isplitl [Hq]; · iexact Hq
    isplitl [Hs]; · iexact Hs
    isplitl [HO]; · iexact HO
    isplitl [Ht0]; · iexact Ht0
    isplitr; · iexact Hr0
    isplitl [Ht1]; · iexact Ht1
    iexact Hr1
  iintro ⟨Hc, HO⟩
  iapply (le_wp_ret _ _ _ _ _)
  isplitl [HO]; · iexists W; iexact HO
  isplitl [Hts]; · iexact Hts
  iapply (give hr)
  isplitl [Hc]; · iexact Hc
  iexact Hcs

/-- The second phase: the peers of index in `s` are still to be sent the sum. -/
def Snd2 (I : Ins F) (c : Dev nD) (s : Finset (Fin 15)) : sProp 𝕄 :=
  iprop(ow c (oweR 3 c s)
    ∗ bigSep s (fun r => iprop(dutyTok ER (dmaCell c 2 r) 0 0 ∗ dutyTok ER (dmaCell (peer c r) 3 r) 0 0 ∗ reached ER (dmaCell (peer c r) 3 r) 0))
    ∗ bigSep s (fun r => accQ c c (tok r) (finB I))
    ∗ bigSep s (fun r => accQ (peer c r) c fullShare (accB I (peer c r)))
    ∗ bigSep sᶜ (fun r => cred (tallyAt (dmaCell c 2 r) () N)))

/-- What a copy into a chunk counts. -/
theorem amount_chunk (d : Dev nD) (q : DmaSem sig) : (chunkV d).view.amount (.dma q) = N := rfl

/-- What a finished copy of the sum gives back to its sender. -/
theorem pay_src (c : Dev nD) (r : Fin 15) :
    ((chunkV c).view.loc (c : Thread nD τ) ↦[(chunkV c).view.set]{tok r} (finB I : AccC F) : sProp 𝕄) ⊢ (sched I).payload (dmaCell c 2 r) 0 0 := by
  rw [payload_dma]
  show _ ⊢ accQ c c (tok r) (finB I)
  unfold accQ; rw [← chunkV_set]

/-- What a landing of the sum hands over. -/
theorem pay_sum (c : Dev nD) (r : Fin 15) (f : AccC F) :
    ((chunkV c).view.loc (peer c r : Thread nD τ) ↦[(chunkV c).view.set]{fullShare}
          ((chunkV c).view.write (Elt F) f ((chunkV c).view.read (Elt F) (finB I)) Finset.univ) : sProp 𝕄)
      ⊢ (sched I).payload (dmaCell (peer c r) 3 r) 0 0 := by
  rw [payload_dma]
  show _ ⊢ accQ (peer c r) (src (peer c r) r) fullShare (finB I)
  rw [src_peer]; unfold accQ; rw [← chunkV_set]
  refine Entails.of_eq (pointsTo_congr fun i hi => ?_)
  rw [chunkV_set] at hi
  exact landed_acc I c f i hi

/-- A slice at a chunk's offset is the chunk. -/
theorem chunk_of {d : Dev nD} {off : Fin 2 → ℕ} (hoff : off = ![16 * d.val, 0]) (inb hst) :
    accM.slice (Rect.unit (s := S256x512) off S16x512.size inb) hst = chunkV d := by
  subst hoff; rfl

/-- A copy of the second phase: it reads a share of the chunk of the sum and takes the place where it lands. -/
theorem send2_step (r : Fin 15) {s : Finset (Fin 15)} (hr : r ∈ s) {n : Dev nD} (hn : n = peer c r)
    {sm sm' : DmaSem sig} (h0 : sm = dmaQ 2 r) (h1 : sm' = dmaQ 3 r)
    {from' to' : Memref sig .tc .vmem S16x512 .bf16} (hf : from' = chunkV c) (ht : to' = chunkV c)
    {hsc : (to' : Memref sig (Dev.tc n : Thread nD τ).2.kind .vmem S16x512 .bf16).view.ref.isScScratch = false}
    {hsrc : from'.view.WordExact} {hdst : to'.view.WordExact}
    {hsem : DmaTarget.Typed .vmem (.dma sm') (.remote (Dev.tc n : Thread nD τ) (to' : Memref sig (Dev.tc n : Thread nD τ).2.kind .vmem S16x512 .bf16) (.dma sm) hsc)} :
    Tr I K c (Snd2 I c s)
      (Prog.lift (.enqueueDma from' (.remote (Dev.tc n : Thread nD τ) to' (.dma sm) hsc) (.dma sm') hsrc hdst hsem))
      (fun _ => Snd2 I c (s.erase r)) := by
  subst hn h0 h1 hf ht
  unfold Tr Snd2 ow
  rw [oweR_erase 3 c hr]
  iintro ⟨#HC, ⟨%W, HO⟩, Hts, Hqs, Hds, Hcs⟩
  ihave Hts := (take hr) $$ Hts
  icases Hts with ⟨⟨Ht0, Ht1, #Hr1⟩, Hts⟩
  ihave Hqs := (take hr) $$ Hqs
  icases Hqs with ⟨Hq, Hqs⟩
  ihave Hds := (take hr) $$ Hds
  icases Hds with ⟨Hd, Hds⟩
  ihave #Hi0 := (ctx_dma I K c c 2 r) $$ HC
  ihave #Hi1 := (ctx_dma I K c (peer c r) 3 r) $$ HC
  ihave #Hr0 := (ctx_open I K c 2 r) $$ HC
  unfold accQ
  rw [← chunkV_set]
  iapply (Rounds.wp_send_pointsTo 𝒱₀ ER (sched I) (c : Thread nD τ) none (κ₁ := K (dmaCell c 2 r)) (κ₂ := K (dmaCell (peer c r) 3 r))
      (c' := (peer c r : Thread nD τ)) (src := chunkV c) (dst := (chunkV c : Memref sig (peer c r : Thread nD τ).2.kind .vmem S16x512 .bf16)) (r₁ := 0) (r₂ := 0) (d₁ := 0) (d₂ := 0) (fd := accB I (peer c r))
      (by rw [duties_dma]; exact Finset.mem_singleton_self _) (by rw [duties_dma]; exact Finset.mem_singleton_self _)
      () () N (amount_chunk c _) (amount_dma I c 2 r 0) (amount_dma I (peer c r) 3 r 0) (oweR 3 c (s.erase r)) rfl (W := W)
      (pay_src c r) (pay_sum c r (accB I (peer c r)))) $$ [HO Ht0 Ht1 Hd Hq]
  · isplitr; · iexact Hi0
    isplitr; · iexact Hi1
    isplitl [Hq]; · iexact Hq
    isplitl [Hd]; · iexact Hd
    isplitl [HO]; · iexact HO
    isplitl [Ht0]; · iexact Ht0
    isplitr; · iexact Hr0
    isplitl [Ht1]; · iexact Ht1
    iexact Hr1
  iintro ⟨Hc, HO⟩
  iapply (le_wp_ret _ _ _ _ _)
  isplitl [HO]; · iexists W; iexact HO
  isplitl [Hts]; · iexact Hts
  isplitl [Hqs]; · iexact Hqs
  isplitl [Hds]; · iexact Hds
  iapply (give hr)
  isplitl [Hc]; · iexact Hc
  iexact Hcs

/-! ## The waits -/

/-- The completions on array `k` of index in `s` are still to be waited for. -/
def Wtg (I : Ins F) (c : Dev nD) (k : Fin 4) (s : Finset (Fin 15)) : sProp 𝕄 :=
  iprop(bigSep s (fun r => iprop(atPos ER (dmaCell c k r) 0 ∅ 0 ∗ cred (tallyAt (dmaCell c k r) () N)))
    ∗ bigSep sᶜ (fun r => iprop(atPos ER (dmaCell c k r) 1 ∅ 0 ∗ dmaPay I k c r)))

/-- A wait on a DMA cell: it brings what the copy hands over. -/
theorem wait_step (k : Fin 4) (r : Fin 15) {O : CellTallies nD τ sig Unit}
    (hO : (levAts L lv : sProp 𝕄) ⊢ MayWait (c : Thread nD τ) (.dma (dmaQ k r)) () O)
    {s : Finset (Fin 15)} (hr : r ∈ s) {sm : DmaSem sig} (hsm : sm = dmaQ k r)
    {src dst : Memref sig .tc .vmem S16x512 .bf16} (hN : dst.view.dmaCredit = N) {h1 h2} :
    Tr I K c iprop(ow c O ∗ Wtg I c k s) (Prog.lift (.waitDma2 sm src dst h1 h2)) (fun _ => iprop(ow c O ∗ Wtg I c k (s.erase r))) := by
  subst hsm
  unfold Tr Wtg ow
  iintro ⟨#HC, ⟨%W, HO⟩, Has, Hps⟩
  ihave Has := (take hr) $$ Has
  icases Has with ⟨⟨Ha, Hc⟩, Has⟩
  ihave #Hi := (ctx_dma I K c c k r) $$ HC
  ihave #Hl := (ctx_lev I K c) $$ HC
  iapply (Rounds.wp_wait_rest_token 𝒱₀ ER (sched I) (c : Thread nD τ) none (κ := K (dmaCell c k r))
      (wpE_waitDma2_eq 𝒱₀ (c : Thread nD τ) none Set.univ) (Set.mem_univ _) () (O := O) (W := W) (R := 0) (m := 0) (T := ∅)
      (by rw [Nat.zero_add, expect_dma])) $$ [Hc HO Ha]
  · isplitr; · iexact Hi
    isplitl [Hc]; · iexact Hc
    isplitl [HO]; · iexact HO
    isplitr; · iapply hO; iexact Hl
    iexact Ha
  iintro ⟨HO, Ha, -, Hp⟩
  ihave Hp := (Entails.of_eq (rest_dma I c k r)) $$ Hp
  iapply (le_wp_ret _ _ _ _ _)
  isplitl [HO]; · iexists _; iexact HO
  isplitl [Has]; · iexact Has
  iapply (give hr)
  isplitl [Ha Hp]
  · isplitl [Ha]; · iexact Ha
    iexact Hp
  iexact Hps

end Cert.KernelIdeal.AllReduce

end
-- ==== Proof.Moves.lean ====
/-
# The all-reduce's steps, in the order the kernel takes them

The kernel serves the peers in order of index, so each state is indexed by how many are served. The sets of elements the chunks, the slots and
the halves of the rows hold, split and joined.
-/
module

public import proofs.«01_k».proof.Proof.Steps

@[expose] public section

set_option maxRecDepth 16384

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable {I : Ins F} {K : GSem nD τ sig → ℕ} {c : Dev nD}

/-! ## In order of index -/

/-- The indices from `k` on. -/
def ge (k : ℕ) : Finset (Fin 15) := Finset.univ.filter fun r => k ≤ r.val

/-- Membership in the indices from `k` on. -/
theorem mem_ge {k : ℕ} {r : Fin 15} : r ∈ ge k ↔ k ≤ r.val := by
  rw [ge, Finset.mem_filter]; exact and_iff_right (Finset.mem_univ r)
/-- `k` is the first of them. -/
theorem ge_self (k : ℕ) (hk : k < 15) : (⟨k, hk⟩ : Fin 15) ∈ ge k := mem_ge.mpr (le_refl k)
/-- Without it they start at `k + 1`. -/
theorem ge_next (k : ℕ) (hk : k < 15) : (ge k).erase ⟨k, hk⟩ = ge (k + 1) := by
  ext r; rw [Finset.mem_erase, mem_ge, mem_ge, Ne, Fin.ext_iff]; show ¬ r.val = k ∧ k ≤ r.val ↔ k + 1 ≤ r.val; omega
/-- From zero on they are all. -/
theorem ge_zero : ge 0 = Finset.univ := Finset.filter_true_of_mem fun r _ => Nat.zero_le _
/-- From 15 on there are none. -/
theorem ge_end : ge 15 = ∅ := Finset.filter_false_of_mem fun r _ h => by have := r.isLt; omega

/-- The device `k + 1` places on is peer `k`. -/
theorem peer_of {k : ℕ} (hk : k < 15) {n : Dev nD} (hn : n.val = (c.val + (k + 1)) % 16) : n = peer c ⟨k, hk⟩ := Fin.ext hn

/-- The signal of index `k`. -/
theorem signal_at (k : ℕ) (hk : k < 15) {n : Dev nD} (hn : n.val = (c.val + (k + 1)) % 16) :
    Tr I K c (Sig c (ge k)) (semSignalWord n barS 1#32) (fun _ => Sig c (ge (k + 1))) := by
  rw [← ge_next k hk]; exact signal_step _ (ge_self k hk) (peer_of hk hn)

/-- The second phase's copy of index `k`. -/
theorem send2_at (k : ℕ) (hk : k < 15) {n : Dev nD} (hn : n.val = (c.val + (k + 1)) % 16)
    {sm sm' : DmaSem sig} (h0 : sm = dmaQ 2 ⟨k, hk⟩) (h1 : sm' = dmaQ 3 ⟨k, hk⟩)
    {off off' : Fin 2 → ℕ} (hf : off = ![16 * c.val, 0]) (ht : off' = ![16 * c.val, 0]) {inb hst inb' hst'}
    {hsc : ((accM.slice (Rect.unit (s := S256x512) off' S16x512.size inb') hst') : Memref sig (Dev.tc n : Thread nD τ).2.kind .vmem S16x512 .bf16).view.ref.isScScratch = false}
    {hsrc : (accM.slice (Rect.unit (s := S256x512) off S16x512.size inb) hst).view.WordExact} {hdst : (accM.slice (Rect.unit (s := S256x512) off' S16x512.size inb') hst').view.WordExact}
    {hsem : DmaTarget.Typed .vmem (.dma sm') (.remote (Dev.tc n : Thread nD τ) ((accM.slice (Rect.unit (s := S256x512) off' S16x512.size inb') hst') : Memref sig (Dev.tc n : Thread nD τ).2.kind .vmem S16x512 .bf16) (.dma sm) hsc)} :
    Tr I K c (Snd2 I c (ge k))
      (Prog.lift (.enqueueDma (accM.slice (Rect.unit (s := S256x512) off S16x512.size inb) hst) (.remote (Dev.tc n : Thread nD τ) (accM.slice (Rect.unit (s := S256x512) off' S16x512.size inb') hst') (.dma sm) hsc) (.dma sm') hsrc hdst hsem))
      (fun _ => Snd2 I c (ge (k + 1))) := by
  rw [← ge_next k hk]; exact send2_step _ (ge_self k hk) (peer_of hk hn) h0 h1 (chunk_of hf inb hst) (chunk_of ht inb' hst')

/-- The wait of index `k`. -/
theorem wait_at (j : Fin 4) (k : ℕ) (hk : k < 15) {O : CellTallies nD τ sig Unit}
    (hO : ∀ r, (levAts L lv : sProp 𝕄) ⊢ MayWait (c : Thread nD τ) (.dma (dmaQ j r)) () O)
    {sm : DmaSem sig} (hsm : sm = dmaQ j ⟨k, hk⟩)
    {src dst : Memref sig .tc .vmem S16x512 .bf16} (hN : dst.view.dmaCredit = N) {h1 h2} :
    Tr I K c iprop(ow c O ∗ Wtg I c j (ge k)) (Prog.lift (.waitDma2 sm src dst h1 h2)) (fun _ => iprop(ow c O ∗ Wtg I c j (ge (k + 1)))) := by
  rw [← ge_next k hk]; exact wait_step j _ (hO _) (ge_self k hk) hsm hN

/-- Nothing owed: any wait is safe. -/
theorem mayWait_last (j : Fin 4) (r : Fin 15) : (levAts L lv : sProp 𝕄) ⊢ MayWait (c : Thread nD τ) (.dma (dmaQ j r)) () 0 := by
  rw [MayWait_zero]; iintro -; iempintro

/-! ## The first phase's copies, half by half -/

/-- The peers from index `k` on whose chunk lies in half `b`. -/
def now (c : Dev nD) (b : Fin 2) (k : ℕ) : Finset (Fin 15) := Finset.univ.filter fun r => k ≤ r.val ∧ half (peer c r) = b
/-- The peers still to be sent their chunk, when those of half `b` are served from index `k` on. -/
def rem (c : Dev nD) (b : Fin 2) (k : ℕ) : Finset (Fin 15) := if b = 0 then now c 0 k ∪ now c 1 0 else now c 1 k

/-- Membership in the peers of half `b` from `k` on. -/
theorem mem_now {b : Fin 2} {k : ℕ} {r : Fin 15} : r ∈ now c b k ↔ k ≤ r.val ∧ half (peer c r) = b := by
  rw [now, Finset.mem_filter]; exact and_iff_right (Finset.mem_univ r)
/-- Membership in the peers still to be served. -/
theorem mem_rem {b : Fin 2} {k : ℕ} {r : Fin 15} : r ∈ rem c b k ↔ (k ≤ r.val ∧ half (peer c r) = b) ∨ (b = 0 ∧ half (peer c r) = 1) := by
  unfold rem
  by_cases h : b = 0
  · subst h; rw [if_pos rfl, Finset.mem_union, mem_now, mem_now]
    exact or_congr Iff.rfl ⟨fun h => ⟨rfl, h.2⟩, fun h => ⟨Nat.zero_le _, h.2⟩⟩
  · have : b = 1 := by revert b; decide
    subst this; rw [if_neg h, mem_now]
    exact ⟨Or.inl, fun h' => h'.elim id fun h' => absurd h'.1 h⟩

/-- Peer `k` served: those of its half from `k + 1` on are left. -/
theorem now_next {b : Fin 2} {k : ℕ} (hk : k < 15) (h : half (peer c ⟨k, hk⟩) = b) : (now c b k).erase ⟨k, hk⟩ = now c b (k + 1) := by
  ext r; rw [Finset.mem_erase, mem_now, mem_now, Ne, Fin.ext_iff]
  show ¬ r.val = k ∧ k ≤ r.val ∧ _ ↔ k + 1 ≤ r.val ∧ _
  constructor
  · rintro ⟨h1, h2, h3⟩; exact ⟨by omega, h3⟩
  · rintro ⟨h1, h2⟩; exact ⟨by omega, by omega, h2⟩
/-- The same of all that are left. -/
theorem rem_next {b : Fin 2} {k : ℕ} (hk : k < 15) (h : half (peer c ⟨k, hk⟩) = b) : (rem c b k).erase ⟨k, hk⟩ = rem c b (k + 1) := by
  ext r; rw [Finset.mem_erase, mem_rem, mem_rem, Ne, Fin.ext_iff]
  show ¬ r.val = k ∧ (k ≤ r.val ∧ _ ∨ _) ↔ k + 1 ≤ r.val ∧ _ ∨ _
  constructor
  · rintro ⟨h1, h2 | h2⟩
    · exact .inl ⟨by omega, h2.2⟩
    · exact .inr h2
  · rintro (h2 | h2)
    · exact ⟨by omega, .inl ⟨by omega, h2.2⟩⟩
    · refine ⟨fun e => ?_, .inr h2⟩
      have : r = ⟨k, hk⟩ := Fin.ext e
      rw [this, h, h2.1] at h2
      exact absurd h2.2 (by decide)
/-- Peer `k` of the other half: nothing changes. -/
theorem now_skip {b : Fin 2} {k : ℕ} (hk : k < 15) (h : ¬ half (peer c ⟨k, hk⟩) = b) : now c b k = now c b (k + 1) := by
  ext r; rw [mem_now, mem_now]
  refine and_congr_left fun h' => ⟨fun hr => ?_, fun hr => by omega⟩
  refine Nat.lt_of_le_of_ne hr fun e => h ?_
  have : r = ⟨k, hk⟩ := Fin.ext e.symm
  rw [← this]; exact h'
/-- The same of all that are left. -/
theorem rem_skip {b : Fin 2} {k : ℕ} (hk : k < 15) (h : ¬ half (peer c ⟨k, hk⟩) = b) : rem c b k = rem c b (k + 1) := by
  ext r; rw [mem_rem, mem_rem]
  refine or_congr_left ?_
  have := congrArg (fun s => r ∈ s) (now_skip (c := c) hk h)
  simpa only [mem_now, eq_iff_iff] using this
/-- At the start all peers are left. -/
theorem rem_start : rem c 0 0 = Finset.univ := by
  ext r; rw [mem_rem]
  refine iff_of_true ?_ (Finset.mem_univ r)
  generalize half (peer c r) = b
  revert b; decide +revert
/-- After the first half's pass those of the second half are left. -/
theorem rem_turn : rem c 0 15 = rem c 1 0 := by
  ext r; rw [mem_rem, mem_rem]
  have := r.isLt
  constructor
  · rintro (h | h)
    · omega
    · exact .inl ⟨Nat.zero_le _, h.2⟩
  · rintro (h | h)
    · exact .inr ⟨rfl, h.2⟩
    · exact absurd h.1 (by decide)
/-- After the second's none are. -/
theorem rem_end : rem c 1 15 = ∅ := by
  ext r; rw [mem_rem]
  refine iff_of_false ?_ (Finset.notMem_empty r)
  have := r.isLt
  rintro (h | h)
  · omega
  · exact absurd h.1 (by decide)
/-- After a pass none of its half are left. -/
theorem now_end {b : Fin 2} : now c b 15 = ∅ := by
  ext r; rw [mem_now]
  exact iff_of_false (fun h => by have := r.isLt; omega) (Finset.notMem_empty r)

/-- Half `b`'s copies, from index `k` on. -/
def Pass (I : Ins F) (c : Dev nD) (b : Fin 2) (k : ℕ) : sProp 𝕄 :=
  iprop(Snd c (rem c b k) ∗ bigSep (now c b k) (fun r => accQ c (peer c r) fullShare (accB I c)))

/-- The copy to peer `k`, made if its chunk lies in the half at hand. -/
theorem pass_at (b : Fin 2) (k : ℕ) (hk : k < 15) {φ : Prop} [Decidable φ] (hφ : φ ↔ half (peer c ⟨k, hk⟩) = b)
    {n : φ → Dev nD} (hn : ∀ h, (n h).val = (c.val + (k + 1)) % 16)
    {off : Fin 2 → ℕ} (hoff : off = ![16 * ((c.val + (k + 1)) % 16), 0]) {inb : φ → ∀ a, off a + S16x512.size a ≤ S256x512.size a} {hst : ∀ h, ∀ a, (Rect.unit (s := S256x512) off S16x512.size (inb h)).stride a = 1}
    {sm sm' : DmaSem sig} (h0 : sm = dmaQ 0 ⟨k, hk⟩) (h1 : sm' = dmaQ 1 ⟨k, hk⟩) {dst : Memref sig .tc .vmem S16x512 .bf16} (hd : dst = slotV ⟨k, hk⟩)
    {hsc : ∀ h, (dst : Memref sig (Dev.tc (n h) : Thread nD τ).2.kind .vmem S16x512 .bf16).view.ref.isScScratch = false}
    {hsrc : ∀ h : φ, (accM.slice (Rect.unit (s := S256x512) off S16x512.size (inb h)) (hst h)).view.WordExact} {hdst : φ → dst.view.WordExact}
    {hsem : ∀ h, DmaTarget.Typed .vmem (.dma sm') (.remote (Dev.tc (n h) : Thread nD τ) (dst : Memref sig (Dev.tc (n h) : Thread nD τ).2.kind .vmem S16x512 .bf16) (.dma sm) (hsc h))}
    {α : Type} {kont : Prog (TpuEff nD τ sig (Elt F) Λ₀ .tc) α} {Q : α → sProp 𝕄} {R : sProp 𝕄}
    (hQ : Tr I K c iprop(Pass I c b (k + 1) ∗ R) kont Q) :
    Tr I K c iprop(Pass I c b k ∗ R)
      (if h : φ then (Prog.lift (.enqueueDma (accM.slice (Rect.unit (s := S256x512) off S16x512.size (inb h)) (hst h)) (.remote (Dev.tc (n h) : Thread nD τ) dst (.dma sm) (hsc h)) (.dma sm') (hsrc h) (hdst h) (hsem h)) >>= fun _ => kont) else kont) Q := by
  refine Tr.cond (P' := iprop(Pass I c b (k + 1) ∗ R)) (fun h => ?_) (fun h => ?_) hQ
  · have hb := hφ.mp h
    have hm : (⟨k, hk⟩ : Fin 15) ∈ now c b k := mem_now.mpr ⟨le_refl k, hb⟩
    have hm' : (⟨k, hk⟩ : Fin 15) ∈ rem c b k := mem_rem.mpr (.inl ⟨le_refl k, hb⟩)
    have hs := send_step (I := I) (K := K) (c := c) ⟨k, hk⟩ hm' (peer_of hk (hn h)) (chunk_of (d := peer c ⟨k, hk⟩) hoff (inb h) (hst h)) h0 h1 hd
      (hsc := hsc h) (hsrc := hsrc h) (hdst := hdst h) (hsem := hsem h)
    have hs := hs.frame iprop(bigSep ((now c b k).erase ⟨k, hk⟩) (fun r => accQ c (peer c r) fullShare (accB I c)) ∗ R)
    rw [now_next hk hb, rem_next hk hb] at hs
    refine Tr.pre ?_ (hs.post fun _ => ?_)
    · unfold Pass
      rw [← now_next hk hb]
      iintro ⟨⟨H, Hq⟩, HR⟩
      ihave Hq := (take hm) $$ Hq
      icases Hq with ⟨Hq, Hqs⟩
      isplitl [H Hq]
      · isplitl [H]; · iexact H
        iexact Hq
      isplitl [Hqs]; · iexact Hqs
      iexact HR
    · unfold Pass
      iintro ⟨H, Hq, HR⟩
      isplitl [H Hq]
      · isplitl [H]; · iexact H
        iexact Hq
      iexact HR
  · have hb := fun h' => h (hφ.mpr h')
    unfold Pass; rw [now_skip hk hb, rem_skip hk hb]

/-! ## The loads and stores of the partial result -/

/-- A load of the device's own chunk. -/
theorem own_load {f : AccC F} {q : PosShare TreeShare} {off : Fin 2 → ℕ} (hoff : off = ![16 * c.val, 0]) {inb hl} :
    Tr I K c (accQ c c q f) (Prog.lift (.load accM (Rect.unit (s := S256x512) off S16x512.size inb).toLoadRect hl))
      (fun v => iprop(⌜v = chunkOf c f⌝ ∗ accQ c c q f)) := by
  subst hoff
  have h : Tr I K c (accQ c c q f) (Prog.lift (.load accM (chunkR c).toLoadRect hl))
      (fun v => iprop(⌜v = accM.view.readAt (Elt F) (chunkR c).toLoadRect f⌝ ∗ accQ c c q f)) :=
    load_step (m := accM) (r := (chunkR c).toLoadRect) (S := accS c) (q := q) (f := f) (Finset.map_refl (s := (chunkR c).set)).le
  refine h.post fun v => ?_
  iintro ⟨%h, H⟩
  isplitr
  · ipureintro
    exact h.trans (read_chunk c f)
  · iexact H

/-- The store of the sum to the device's own chunk. -/
theorem own_store {f : AccC F} {off : Fin 2 → ℕ} (hoff : off = ![16 * c.val, 0]) {w : FVec F S16x512 .bf16} (hw : w = redB I c) {inb hs ht} :
    Tr I K c (accQ c c fullShare f) (Prog.lift (.store accM (Rect.unit (s := S256x512) off S16x512.size inb) w Finset.univ hs ht))
      (fun _ => accQ c c fullShare (finB I)) := by
  subst hoff hw
  refine Tr.post (store_step (m := accM) (r := chunkR c) (S := accS c) (f := f) ?_) fun v => ?_
  · exact (chunkV_set c).le
  · exact Entails.of_eq (pointsTo_congr (stored_red I c f))

/-- The first half. -/
theorem partB_zero : partB I c 0 = topB I c := if_pos rfl
/-- The second half. -/
theorem partB_one : partB I c 1 = botB I c := if_neg (by decide)

/-- A load of a half, of which the value is not used. -/
theorem half_load {b : Fin 2} {f : AccC F} {off : Fin 2 → ℕ} (hoff : off = ![128 * b.val, 0]) {inb hl} :
    Tr I K c (halfP c b f) (Prog.lift (.load accM (Rect.unit (s := S256x512) off S128x512.size inb).toLoadRect hl))
      (fun _ => halfP c b f) := by
  subst hoff
  have h : Tr I K c (halfP c b f) (Prog.lift (.load accM (halfR b).toLoadRect hl))
      (fun v => iprop(⌜v = accM.view.readAt (Elt F) (halfR b).toLoadRect f⌝ ∗ halfP c b f)) :=
    load_step (m := accM) (r := (halfR b).toLoadRect) (S := halfS b) (q := fullShare) (f := f) (Finset.map_refl (s := (halfR b).set)).le
  refine h.post fun v => ?_
  iintro ⟨-, H⟩
  iexact H

/-- The store of a half of the partial result. -/
theorem half_store {b : Fin 2} {f : AccC F} {off : Fin 2 → ℕ} (hoff : off = ![128 * b.val, 0]) {w : FVec F S128x512 .bf16} (hw : w = partB I c b) {inb hs ht} :
    Tr I K c (halfP c b f) (Prog.lift (.store accM (Rect.unit (s := S256x512) off S128x512.size inb) w Finset.univ hs ht))
      (fun _ => halfP c b (accB I c)) := by
  subst hoff hw
  refine Tr.post (store_step (m := accM) (r := halfR b) (S := halfS b) (f := f) ?_) fun v => ?_
  · exact ((View.set_slice (View.whole cc0_scratch0) (halfR b)).trans Finset.map_refl).le
  · exact Entails.of_eq (pointsTo_congr (stored_half I c b f))

/-! ## Splitting and joining the buffers -/

/-- A family with one more member. -/
theorem bigSep_option (Φ : Option (Fin 15) → sProp 𝕄) : bigSep Finset.univ Φ = iprop(Φ none ∗ bigSep Finset.univ fun r => Φ (some r)) := by
  rw [bigSep_univ_at Φ none]
  have e : (Finset.univ : Finset (Option (Fin 15))).erase none = Finset.univ.map Function.Embedding.some := by
    ext x; cases x <;> simp
  rw [e, bigSep_map]; rfl

/-- Over the devices: `c` itself, then its peers. -/
theorem bigSep_devs (c : Dev nD) (Φ : Dev nD → sProp 𝕄) : bigSep Finset.univ Φ = iprop(Φ c ∗ bigSep Finset.univ fun r => Φ (peer c r)) :=
  (bigSep_univ_equiv (others c) Φ).trans (bigSep_option fun o => Φ (others c o))

/-- Different chunks are disjoint. -/
theorem accS_disj (d d' : Dev nD) (h : d ≠ d') : Disjoint (accS d) (accS d') := by
  rw [Finset.disjoint_left]; intro i hi hi'
  exact h (((accS_mem d i).mp hi).symm.trans ((accS_mem d' i).mp hi'))
/-- Different slots are disjoint. -/
theorem stageS_disj (r r' : Fin 15) (h : r ≠ r') : Disjoint (stageS r) (stageS r') := by
  rw [Finset.disjoint_left]; intro i hi hi'
  exact h (((stageS_mem r i).mp hi).symm.trans ((stageS_mem r' i).mp hi'))
/-- Different halves are disjoint. -/
theorem halfS_disj (b b' : Fin 2) (h : b ≠ b') : Disjoint (halfS b) (halfS b') := by
  rw [Finset.disjoint_left]; intro i hi hi'
  exact h (((halfS_mem b i).mp hi).symm.trans ((halfS_mem b' i).mp hi'))
/-- The partial result is its two halves. -/
theorem acc_halves (f : AccC F) : accP c f = iprop(halfP c 0 f ∗ halfP c 1 f) := by
  have hc : (Finset.univ.biUnion halfS : Finset (Idx ((c : Thread nD τ).loc cc0_scratch0))) = Finset.univ :=
    Finset.ext fun i => iff_of_true (Finset.mem_biUnion.mpr ⟨half (rowChunk i), Finset.mem_univ _, (halfS_mem _ i).mpr rfl⟩) (Finset.mem_univ i)
  have h := Ring.pointsTo_blocks (nD := nD) (τ := τ) (sig := sig) (Ix := Unit) (Val := Elt F) (Name := ℕ) (U := UU) (Lvl := ℕ)
    (ℓ := (c : Thread nD τ).loc cc0_scratch0) (q := fullShare) halfS halfS_disj hc f
  rw [bigSep_univ_two] at h
  exact h
/-- The partial result is the device's own chunk and its peers'. -/
theorem acc_chunks (f : AccC F) : accP c f = iprop(accQ c c fullShare f ∗ bigSep Finset.univ fun r => accQ c (peer c r) fullShare f) := by
  have hc : (Finset.univ.biUnion accS : Finset (Idx ((c : Thread nD τ).loc cc0_scratch0))) = Finset.univ :=
    Finset.ext fun i => iff_of_true (Finset.mem_biUnion.mpr ⟨rowChunk i, Finset.mem_univ _, (accS_mem _ i).mpr rfl⟩) (Finset.mem_univ i)
  have h := Ring.pointsTo_blocks (nD := nD) (τ := τ) (sig := sig) (Ix := Unit) (Val := Elt F) (Name := ℕ) (U := UU) (Lvl := ℕ)
    (ℓ := (c : Thread nD τ).loc cc0_scratch0) (q := fullShare) accS accS_disj hc f
  rw [bigSep_devs c] at h
  exact h
/-- The stage is its fifteen slots. -/
theorem stage_slots (f : StageC F) : stageP c f = bigSep Finset.univ fun r => slotP c r f := by
  have hc : (Finset.univ.biUnion stageS : Finset (Idx ((c : Thread nD τ).loc cc0_scratch1))) = Finset.univ :=
    Finset.ext fun i => iff_of_true (Finset.mem_biUnion.mpr ⟨i 0, Finset.mem_univ _, (stageS_mem _ i).mpr rfl⟩) (Finset.mem_univ i)
  exact Ring.pointsTo_blocks (nD := nD) (τ := τ) (sig := sig) (Ix := Unit) (Val := Elt F) (Name := ℕ) (U := UU) (Lvl := ℕ)
    (ℓ := (c : Thread nD τ).loc cc0_scratch1) (q := fullShare) stageS stageS_disj hc f
/-- A half, as the chunks in it. -/
theorem half_split (b : Fin 2) (f : AccC F) :
    halfP c b f = iprop((if half c = b then accQ c c fullShare f else emp) ∗ bigSep (now c b 0) fun r => accQ c (peer c r) fullShare f) := by
  have hc : (halfS b : Finset (Idx ((c : Thread nD τ).loc cc0_scratch0))) = (Finset.univ.filter fun d => half d = b).biUnion accS :=
    Finset.ext fun i => ((halfS_mem b i).trans
      ⟨fun h => ⟨rowChunk i, Finset.mem_filter.mpr ⟨Finset.mem_univ _, h⟩, (accS_mem _ i).mpr rfl⟩,
        fun ⟨d, hd, hi⟩ => by rw [(accS_mem d i).mp hi]; exact (Finset.mem_filter.mp hd).2⟩).trans Finset.mem_biUnion.symm
  have h := pointsTo_biUnion (nD := nD) (τ := τ) (sig := sig) (Ix := Unit) (Val := Elt F) (Name := ℕ) (U := UU) (Lvl := ℕ)
    (ℓ := (c : Thread nD τ).loc cc0_scratch0) (q := fullShare) (f := f) (Finset.univ.filter fun d => half d = b) accS fun d _ d' _ h => accS_disj d d' h
  rw [← hc, bigSep_filter, bigSep_devs c] at h
  have e : now c b 0 = Finset.univ.filter fun r => half (peer c r) = b := by
    ext r; rw [mem_now, Finset.mem_filter]; exact ⟨fun h => ⟨Finset.mem_univ _, h.2⟩, fun h => ⟨Nat.zero_le _, h.2⟩⟩
  rw [e, bigSep_filter]
  exact h

/-- The device's own chunk lies in one of the halves. -/
theorem own_half {P : sProp (MT nD τ sig Unit (Elt F) ℕ UU ℕ)} : iprop((if half c = 0 then P else emp) ∗ (if half c = 1 then P else emp)) ⊢ P := by
  have h : half c = 0 ∨ half c = 1 := by generalize half c = b; revert b; decide
  rcases h with h | h
  · rw [if_pos h, if_neg (by rw [h]; decide)]; iintro ⟨H, -⟩; iexact H
  · rw [if_pos h, if_neg (by rw [h]; decide)]; iintro ⟨-, H⟩; iexact H

/-- The peers, met in the reverse order. -/
theorem by_rev (Φ : Fin 15 → sProp 𝕄) : (bigSep Finset.univ fun r => Φ (rev r)) = bigSep Finset.univ Φ := (bigSep_univ_equiv revE Φ).symm

end Cert.KernelIdeal.AllReduce

end
-- ==== Proof.Parts.lean ====
/-
# The kernel, part by part: up to the end of the first phase's copies

The kernel is printed as parts called in sequence. Each part, on the launch's buffers, is a triple from one state of the protocol to a later one.
-/
module

public import proofs.«01_k».proof.Proof.Moves

@[expose] public section

set_option maxRecDepth 65536

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Ins F} {K : GSem nD τ sig → ℕ} {c : Dev nD}

/-! ## The launch's buffers -/

/-- `f` on the buffers the kernel is launched on. -/
abbrev onBufs {β : Type 1} (f : (arg0 : Memref sig .tc .vmem S2x128x512 .f32) → arg0.IsWhole → (arg1 : Memref sig .tc .vmem S512x512 .f32) → arg1.IsWhole
    → (arg2 : Memref sig .tc .vmem S512x512 .f32) → arg2.IsWhole → (arg3 : Memref sig .tc .vmem S512x128 .f32) → arg3.IsWhole
    → (arg4 : Memref sig .tc .vmem S512x128 .f32) → arg4.IsWhole → (arg5 : Memref sig .tc .vmem S2x128x512 .f32) → arg5.IsWhole
    → (arg6 : Memref sig .tc .vmem S256x512 .bf16) → arg6.IsWhole → (arg7 : Memref sig .tc .vmem S15x16x512 .bf16) → arg7.IsWhole
    → DmaSems sig S15 → DmaSems sig S15 → DmaSems sig S15 → DmaSems sig S15 → β) : β :=
  f (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    cc0_scratch2 cc0_scratch3 cc0_scratch4 cc0_scratch5

/-- Buffer `b` of device `c`, whole. -/
abbrev bufP (c : Dev nD) (b : Ref sig .tc) (f : Buf (Elt F) ((c : Thread nD τ).loc b)) : sProp 𝕄 := ((c : Thread nD τ).loc b) ↦{fullShare} f

/-- The offsets of a whole matrix. -/
theorem zero2 : (![0, 0] : Fin 2 → ℕ) = fun _ => 0 := funext fun a => by fin_cases a <;> rfl
/-- The offsets of a whole array of three axes. -/
theorem zero3 : (![0, 0, 0] : Fin 3 → ℕ) = fun _ => 0 := funext fun a => by fin_cases a <;> rfl

/-- A load of a whole buffer. -/
theorem whole_load {i : Fin (sig.nNear .tc .vmem)} {hκ : sig.names .tc .vmem i = true}
    {off : Fin (Ref.ty (sig := sig) (κ := .tc) ⟨.vmem, i, hκ⟩).shape.rank → ℕ} (hz : off = fun _ => 0) {inb hl}
    {f : Buf (Elt F) ((c : Thread nD τ).loc ⟨.vmem, i, hκ⟩)} :
    Tr I K c (bufP c ⟨.vmem, i, hκ⟩ f)
      (Prog.lift (.load (Memref.whole ⟨.vmem, i, hκ⟩) (Rect.unit off (Ref.ty (sig := sig) (κ := .tc) ⟨.vmem, i, hκ⟩).shape.size inb).toLoadRect hl))
      (fun v => iprop(⌜v = f⌝ ∗ bufP c ⟨.vmem, i, hκ⟩ f)) := by
  have h := load_step (I := I) (K := K) (c := c) (m := Memref.whole ⟨.vmem, i, hκ⟩)
    (r := (Rect.unit off (Ref.ty (sig := sig) (κ := .tc) ⟨.vmem, i, hκ⟩).shape.size inb).toLoadRect) (hl := hl) (S := Finset.univ) (q := fullShare) (f := f) (Finset.subset_univ _)
  rw [Memref.readAt_unit_zero (Elt F) ⟨.vmem, i, hκ⟩ hz inb f] at h
  exact h

/-! ## The barrier, and the projections -/

/-- The device reads its place and signals five peers. -/
theorem part1_spec : Tr I K c (Sig c (ge 0)) (onBufs (k0_part1 (F := F))) (fun a => iprop(⌜a.1 = c ∧ a.2.2.1 = SemArray.scalar (sig.barrier 0 rfl)⌝ ∗ Sig c (ge 5))) := by
  unfold onBufs
  rw [k0_part1_eq_skeleton]; unfold k0_part1_skel
  refine Tr.bindv (x := c) (Q := Sig c (ge 0)) ?_ ?_
  · unfold Tr
    iintro ⟨-, H⟩
    simp only [Prog.lift, wp_deviceId]
    iapply (le_wp_ret _ _ _ _ _)
    isplitr; · ipureintro; rfl
    iexact H
  refine Tr.bind (signal_at 0 (by decide) (k0_dev1_eq c)) fun _ => ?_
  refine Tr.bind (signal_at 1 (by decide) (k0_dev2_eq c)) fun _ => ?_
  refine Tr.bind (signal_at 2 (by decide) (k0_dev3_eq c)) fun _ => ?_
  refine Tr.bind (signal_at 3 (by decide) (k0_dev4_eq c)) fun _ => ?_
  refine Tr.bind (signal_at 4 (by decide) (k0_dev5_eq c)) fun _ => ?_
  refine Tr.ret ?_
  iintro H
  isplitr; · ipureintro; exact ⟨rfl, rfl⟩
  iexact H

/-- It signals six more. -/
theorem part2_spec {v2 v24 v : BitVec 32} : Tr I K c (Sig c (ge 5)) (onBufs (k0_part2 (F := F)) c v2 (SemArray.scalar (sig.barrier 0 rfl)) v24 v) (fun _ => Sig c (ge 11)) := by
  unfold onBufs
  rw [k0_part2_eq_skeleton]; unfold k0_part2_skel
  refine Tr.bind (signal_at 5 (by decide) (k0_dev6_eq c)) fun _ => ?_
  refine Tr.bind (signal_at 6 (by decide) (k0_dev7_eq c)) fun _ => ?_
  refine Tr.bind (signal_at 7 (by decide) (k0_dev8_eq c)) fun _ => ?_
  refine Tr.bind (signal_at 8 (by decide) (k0_dev9_eq c)) fun _ => ?_
  refine Tr.bind (signal_at 9 (by decide) (k0_dev10_eq c)) fun _ => ?_
  refine Tr.bind (signal_at 10 (by decide) (k0_dev11_eq c)) fun _ => ?_
  exact Tr.ret (BI.Entails.refl _)

/-- All signals sent: the copies are still owed. -/
theorem sig_end : Sig (F := F) c (ge 15) ⊢ ow c (oweR 1 c Finset.univ + oweR 3 c Finset.univ) := by
  unfold Sig; rw [ge_end, oweB_empty, zero_add]
  iintro ⟨H, -, -⟩; iexact H

/-- It signals the last four and waits at its barrier, which brings the slots on its peers; then it loads tokens and weights. -/
theorem part3_spec {v2 v48 v : BitVec 32} :
    Tr I K c iprop((Sig c (ge 11) ∗ cred (tallyAt (barCell c) () 15) ∗ atPos ER (barCell c) 0 ∅ 0) ∗ bufP c cc0_stg0_0 (I.X c) ∗ bufP c cc0_stg1_0 (I.Q c) ∗ bufP c cc0_stg3_0 (I.K c))
      (onBufs (k0_part3 (F := F)) c v2 (SemArray.scalar (sig.barrier 0 rfl)) v48 v)
      (fun a => iprop(⌜a = ⟨xB I c, qB I c, k0_pay3 (I.K c), constant S256x128 .f32 0x00000000#32⟩⌝
        ∗ (ow c (oweR 1 c Finset.univ + oweR 3 c Finset.univ) ∗ atPos ER (barCell c) 1 ∅ 0 ∗ bigSep Finset.univ fun r => barPay (F := F) c r)
        ∗ bufP c cc0_stg0_0 (I.X c) ∗ bufP c cc0_stg1_0 (I.Q c) ∗ bufP c cc0_stg3_0 (I.K c))) := by
  unfold onBufs
  rw [k0_part3_eq_skeleton]; unfold k0_part3_skel
  refine Tr.bind ((((signal_at 11 (by decide) (k0_dev12_eq c)).frame _).frame _)) fun _ => ?_
  refine Tr.bind ((((signal_at 12 (by decide) (k0_dev13_eq c)).frame _).frame _)) fun _ => ?_
  refine Tr.bind ((((signal_at 13 (by decide) (k0_dev14_eq c)).frame _).frame _)) fun _ => ?_
  refine Tr.bind ((((signal_at 14 (by decide) (k0_dev15_eq c)).frame _).frame _)) fun _ => ?_
  refine Tr.bind ((((bar_step rfl).pre (sep_mono_left sig_end)).frame _)) fun _ => ?_
  refine Tr.pre (P' := iprop(bufP c cc0_stg0_0 (I.X c) ∗ bufP c cc0_stg1_0 (I.Q c) ∗ bufP c cc0_stg3_0 (I.K c)
    ∗ (ow c (oweR 1 c Finset.univ + oweR 3 c Finset.univ) ∗ atPos ER (barCell c) 1 ∅ 0 ∗ bigSep Finset.univ fun r => barPay (F := F) c r))) ?_ ?_
  · iintro ⟨H, H0, H1, H3⟩
    isplitl [H0]; · iexact H0
    isplitl [H1]; · iexact H1
    isplitl [H3]; · iexact H3
    iexact H
  refine Tr.bindv (Tr.framev (whole_load zero3)) ?_
  refine Tr.pre (P' := iprop(bufP c cc0_stg1_0 (I.Q c) ∗ bufP c cc0_stg0_0 (I.X c) ∗ bufP c cc0_stg3_0 (I.K c)
    ∗ (ow c (oweR 1 c Finset.univ + oweR 3 c Finset.univ) ∗ atPos ER (barCell c) 1 ∅ 0 ∗ bigSep Finset.univ fun r => barPay (F := F) c r))) ?_ ?_
  · iintro ⟨H0, H1, H3, H⟩
    isplitl [H1]; · iexact H1
    isplitl [H0]; · iexact H0
    isplitl [H3]; · iexact H3
    iexact H
  refine Tr.bindv (Tr.framev (whole_load zero2)) ?_
  refine Tr.pre (P' := iprop(bufP c cc0_stg3_0 (I.K c) ∗ bufP c cc0_stg0_0 (I.X c) ∗ bufP c cc0_stg1_0 (I.Q c)
    ∗ (ow c (oweR 1 c Finset.univ + oweR 3 c Finset.univ) ∗ atPos ER (barCell c) 1 ∅ 0 ∗ bigSep Finset.univ fun r => barPay (F := F) c r))) ?_ ?_
  · iintro ⟨H1, H0, H3, H⟩
    isplitl [H3]; · iexact H3
    isplitl [H0]; · iexact H0
    isplitl [H1]; · iexact H1
    iexact H
  refine Tr.bindv (Tr.framev (whole_load zero2)) ?_
  refine Tr.retv rfl ?_
  iintro ⟨H3, H0, H1, H⟩
  isplitl [H]; · iexact H
  isplitl [H0]; · iexact H0
  isplitl [H1]; · iexact H1
  iexact H3

/-- The words that the fourth part computes play no role in what it leaves. -/
theorem part4_spec {v2 : BitVec 32} :
    Tr I K c iprop(bufP c cc0_stg4_0 (I.V c) ∗ bufP c cc0_stg2_0 (I.O c))
      (onBufs (k0_part4 (F := F)) v2 (xB I c) (k0_pay3 (I.K c)) (constant S256x128 .f32 0x00000000#32))
      (fun a => iprop(⌜a.1 = kB I c ∧ a.2.1 = vB I c ∧ a.2.2.1 = oB I c⌝ ∗ bufP c cc0_stg4_0 (I.V c) ∗ bufP c cc0_stg2_0 (I.O c))) := by
  unfold onBufs
  rw [k0_part4_eq_skeleton]; unfold k0_part4_skel
  refine Tr.bindv (Tr.framev (whole_load zero2)) ?_
  refine Tr.pre (P' := iprop(bufP c cc0_stg2_0 (I.O c) ∗ bufP c cc0_stg4_0 (I.V c))) (sep_comm (PROP := sProp 𝕄)).1 ?_
  refine Tr.bindv (Tr.framev (whole_load zero2)) ?_
  refine Tr.ret ?_
  iintro ⟨H2, H4⟩
  isplitr; · ipureintro; exact ⟨rfl, rfl, rfl⟩
  isplitl [H4]; · iexact H4
  iexact H2

/-- The first sequence's scores and values, nothing touched. -/
theorem part5_spec {v2 v105 v : BitVec 32} :
    Tr I K c iprop(emp) (onBufs (k0_part5 (F := F)) v2 (qB I c) (kB I c) (vB I c) v105 v)
      (fun a => iprop(⌜a.2.2.2.2.2.2.2.1 = k0_pay7 (vB I c) ∧ a.2.2.2.2.2.2.2.2.1 = k0_pay8 (qB I c) (kB I c) ∧ a.2.2.2.2.2.2.2.2.2 = k0_pay9 (qB I c) (kB I c)⌝)) := by
  unfold onBufs
  rw [k0_part5_eq_skeleton]; unfold k0_part5_skel
  refine Tr.ret ?_
  iintro -
  ipureintro
  refine ⟨rfl, rfl, ?_⟩
  dsimp only

/-- The first sequence's half, as the program's steps give it. -/
theorem top_eq : k0_pay10 (qB I c) (kB I c) (vB I c) (oB I c) (k0_pay7 (vB I c)) (k0_pay8 (qB I c) (kB I c)) (k0_pay9 (qB I c) (kB I c)) = partB I c 0 := by
  rw [partB_zero, topB]
/-- The second sequence's half, as the program's steps give it. -/
theorem bot_eq : k0_pay18 (oB I c) (k0_pay12 (qB I c) (kB I c) (vB I c)) (k0_pay13 (qB I c) (kB I c) (vB I c)) (k0_pay14 (qB I c) (kB I c) (vB I c))
    (k0_pay15 (qB I c) (kB I c) (vB I c)) (k0_pay16 (vB I c)) (k0_pay17 (qB I c) (kB I c)) = partB I c 1 := by
  rw [partB_one, botB]

/-- It stores the first half of its partial result. -/
theorem part6_spec {f : AccC F} :
    Tr I K c (halfP c 0 f) (onBufs (k0_part6 (F := F)) (qB I c) (kB I c) (vB I c) (oB I c) (k0_pay7 (vB I c)) (k0_pay8 (qB I c) (kB I c)) (k0_pay9 (qB I c) (kB I c)))
      (fun _ => halfP c 0 (accB I c)) := by
  unfold onBufs
  rw [k0_part6_eq_skeleton]; unfold k0_part6_skel
  refine Tr.bind (half_load (b := 0) rfl) fun _ => ?_
  refine Tr.bind (half_store (b := 0) rfl top_eq) fun _ => ?_
  exact Tr.ret (BI.Entails.refl _)

/-! ## The first phase's copies -/

section Passes
variable {R : sProp (MT nD τ sig Unit (Elt F) ℕ UU ℕ)}

/-- The first half's copies: index 0. -/
theorem part7_spec {w0 w1 : BitVec 32} :
    Tr I K c iprop(Pass I c 0 0 ∗ R) (onBufs (k0_part7 (F := F)) c w0 w1) (fun _ => iprop(Pass I c 0 1 ∗ R)) := by
  unfold onBufs
  rw [k0_part7_eq_skeleton]; unfold k0_part7_skel
  refine pass_at 0 0 (by decide) (by revert c; decide +kernel) (fun _ => k0_dev16_eq c) (k0_off1_eq c) rfl rfl rfl ?_
  exact Tr.ret (BI.Entails.refl _)

/-- The first half's copies: indices 1 to 2. -/
theorem part8_spec {w0 w1 w2 w3 : BitVec 32} :
    Tr I K c iprop(Pass I c 0 1 ∗ R) (onBufs (k0_part8 (F := F)) c w0 w1 w2 w3) (fun _ => iprop(Pass I c 0 3 ∗ R)) := by
  unfold onBufs
  rw [k0_part8_eq_skeleton]; unfold k0_part8_skel
  refine pass_at 0 1 (by decide) (by revert c; decide +kernel) (fun _ => k0_dev17_eq c) (k0_off2_eq c) rfl rfl rfl ?_
  refine pass_at 0 2 (by decide) (by revert c; decide +kernel) (fun _ => k0_dev18_eq c) (k0_off3_eq c) rfl rfl rfl ?_
  exact Tr.ret (BI.Entails.refl _)

/-- The first half's copies: indices 3 to 4. -/
theorem part9_spec {w0 w1 w2 w3 : BitVec 32} {w4 : BitVec 1} :
    Tr I K c iprop(Pass I c 0 3 ∗ R) (onBufs (k0_part9 (F := F)) c w0 w1 w2 w3 w4) (fun _ => iprop(Pass I c 0 5 ∗ R)) := by
  unfold onBufs
  rw [k0_part9_eq_skeleton]; unfold k0_part9_skel
  refine pass_at 0 3 (by decide) (by revert c; decide +kernel) (fun _ => k0_dev19_eq c) (k0_off4_eq c) rfl rfl rfl ?_
  refine pass_at 0 4 (by decide) (by revert c; decide +kernel) (fun _ => k0_dev20_eq c) (k0_off5_eq c) rfl rfl rfl ?_
  exact Tr.ret (BI.Entails.refl _)

/-- The first half's copies: indices 5 to 6. -/
theorem part10_spec {w0 w1 w2 w3 w4 w5 w6 w7 : BitVec 32} :
    Tr I K c iprop(Pass I c 0 5 ∗ R) (onBufs (k0_part10 (F := F)) c w0 w1 w2 w3 w4 w5 w6 w7) (fun _ => iprop(Pass I c 0 7 ∗ R)) := by
  unfold onBufs
  rw [k0_part10_eq_skeleton]; unfold k0_part10_skel
  refine pass_at 0 5 (by decide) (by revert c; decide +kernel) (fun _ => k0_dev21_eq c) (k0_off6_eq c) rfl rfl rfl ?_
  refine pass_at 0 6 (by decide) (by revert c; decide +kernel) (fun _ => k0_dev22_eq c) (k0_off7_eq c) rfl rfl rfl ?_
  exact Tr.ret (BI.Entails.refl _)

/-- The first half's copies: indices 7 to 8. -/
theorem part11_spec {w0 w1 w2 w3 w4 w5 : BitVec 32} :
    Tr I K c iprop(Pass I c 0 7 ∗ R) (onBufs (k0_part11 (F := F)) c w0 w1 w2 w3 w4 w5) (fun _ => iprop(Pass I c 0 9 ∗ R)) := by
  unfold onBufs
  rw [k0_part11_eq_skeleton]; unfold k0_part11_skel
  refine pass_at 0 7 (by decide) (by revert c; decide +kernel) (fun _ => k0_dev23_eq c) (k0_off8_eq c) rfl rfl rfl ?_
  refine pass_at 0 8 (by decide) (by revert c; decide +kernel) (fun _ => k0_dev24_eq c) (k0_off9_eq c) rfl rfl rfl ?_
  exact Tr.ret (BI.Entails.refl _)

/-- The first half's copies: index 9. -/
theorem part12_spec {w0 w1 w2 w3 w4 : BitVec 32} :
    Tr I K c iprop(Pass I c 0 9 ∗ R) (onBufs (k0_part12 (F := F)) c w0 w1 w2 w3 w4) (fun _ => iprop(Pass I c 0 10 ∗ R)) := by
  unfold onBufs
  rw [k0_part12_eq_skeleton]; unfold k0_part12_skel
  refine pass_at 0 9 (by decide) (by revert c; decide +kernel) (fun _ => k0_dev25_eq c) (k0_off10_eq c) rfl rfl rfl ?_
  exact Tr.ret (BI.Entails.refl _)

/-- The first half's copies: indices 10 to 11. -/
theorem part13_spec {w0 w1 w2 w3 : BitVec 32} :
    Tr I K c iprop(Pass I c 0 10 ∗ R) (onBufs (k0_part13 (F := F)) c w0 w1 w2 w3) (fun _ => iprop(Pass I c 0 12 ∗ R)) := by
  unfold onBufs
  rw [k0_part13_eq_skeleton]; unfold k0_part13_skel
  refine pass_at 0 10 (by decide) (by revert c; decide +kernel) (fun _ => k0_dev26_eq c) (k0_off11_eq c) rfl rfl rfl ?_
  refine pass_at 0 11 (by decide) (by revert c; decide +kernel) (fun _ => k0_dev27_eq c) (k0_off12_eq c) rfl rfl rfl ?_
  exact Tr.ret (BI.Entails.refl _)

/-- The first half's copies: indices 12 to 13. -/
theorem part14_spec {w0 w1 w2 w3 : BitVec 32} :
    Tr I K c iprop(Pass I c 0 12 ∗ R) (onBufs (k0_part14 (F := F)) c w0 w1 w2 w3) (fun _ => iprop(Pass I c 0 14 ∗ R)) := by
  unfold onBufs
  rw [k0_part14_eq_skeleton]; unfold k0_part14_skel
  refine pass_at 0 12 (by decide) (by revert c; decide +kernel) (fun _ => k0_dev28_eq c) (k0_off13_eq c) rfl rfl rfl ?_
  refine pass_at 0 13 (by decide) (by revert c; decide +kernel) (fun _ => k0_dev29_eq c) (k0_off14_eq c) rfl rfl rfl ?_
  exact Tr.ret (BI.Entails.refl _)

/-- The first half's copies: index 14; and the second sequence's scores and values. -/
theorem part15_spec {w0 w1 w3 : BitVec 32} {w2 : BitVec 1} :
    Tr I K c iprop(Pass I c 0 14 ∗ R) (onBufs (k0_part15 (F := F)) c (qB I c) (kB I c) (vB I c) w0 w1 w2 w3)
      (fun a => iprop(⌜a = ⟨k0_pay12 (qB I c) (kB I c) (vB I c), k0_pay13 (qB I c) (kB I c) (vB I c), k0_pay14 (qB I c) (kB I c) (vB I c), k0_pay15 (qB I c) (kB I c) (vB I c), k0_pay16 (vB I c), k0_pay17 (qB I c) (kB I c)⟩⌝
        ∗ Pass I c 0 15 ∗ R)) := by
  unfold onBufs
  rw [k0_part15_eq_skeleton]; unfold k0_part15_skel
  refine pass_at 0 14 (by decide) (by revert c; decide +kernel) (fun _ => k0_dev30_eq c) (k0_off15_eq c) rfl rfl rfl ?_
  exact Tr.retv rfl (BI.Entails.refl _)

/-- It stores the second half of its partial result. -/
theorem part16_spec {w : BitVec 32} {f : AccC F} :
    Tr I K c (halfP c 1 f) (onBufs (k0_part16 (F := F)) (oB I c) w (k0_pay12 (qB I c) (kB I c) (vB I c)) (k0_pay13 (qB I c) (kB I c) (vB I c)) (k0_pay14 (qB I c) (kB I c) (vB I c)) (k0_pay15 (qB I c) (kB I c) (vB I c)) (k0_pay16 (vB I c)) (k0_pay17 (qB I c) (kB I c)))
      (fun _ => halfP c 1 (accB I c)) := by
  unfold onBufs
  rw [k0_part16_eq_skeleton]; unfold k0_part16_skel
  refine Tr.bind (half_load (b := 1) rfl) fun _ => ?_
  refine Tr.bind (half_store (b := 1) rfl bot_eq) fun _ => ?_
  exact Tr.ret (BI.Entails.refl _)

/-- The second half's copies: indices 0 to 1. -/
theorem part17_spec {w0 w1 w2 w3 : BitVec 32} :
    Tr I K c iprop(Pass I c 1 0 ∗ R) (onBufs (k0_part17 (F := F)) c w0 w1 w2 w3) (fun _ => iprop(Pass I c 1 2 ∗ R)) := by
  unfold onBufs
  rw [k0_part17_eq_skeleton]; unfold k0_part17_skel
  refine pass_at 1 0 (by decide) (by revert c; decide +kernel) (fun _ => k0_dev31_eq c) (k0_off16_eq c) rfl rfl rfl ?_
  refine pass_at 1 1 (by decide) (by revert c; decide +kernel) (fun _ => k0_dev32_eq c) (k0_off17_eq c) rfl rfl rfl ?_
  exact Tr.ret (BI.Entails.refl _)

/-- The second half's copies: indices 2 to 3. -/
theorem part18_spec {w0 w1 w2 w3 w5 : BitVec 32} {w4 : BitVec 1} :
    Tr I K c iprop(Pass I c 1 2 ∗ R) (onBufs (k0_part18 (F := F)) c w0 w1 w2 w3 w4 w5) (fun _ => iprop(Pass I c 1 4 ∗ R)) := by
  unfold onBufs
  rw [k0_part18_eq_skeleton]; unfold k0_part18_skel
  refine pass_at 1 2 (by decide) (by revert c; decide +kernel) (fun _ => k0_dev33_eq c) (k0_off18_eq c) rfl rfl rfl ?_
  refine pass_at 1 3 (by decide) (by revert c; decide +kernel) (fun _ => k0_dev34_eq c) (k0_off19_eq c) rfl rfl rfl ?_
  exact Tr.ret (BI.Entails.refl _)

/-- The second half's copies: indices 4 to 5. -/
theorem part19_spec {w0 w1 w2 w3 w4 w5 w6 : BitVec 32} :
    Tr I K c iprop(Pass I c 1 4 ∗ R) (onBufs (k0_part19 (F := F)) c w0 w1 w2 w3 w4 w5 w6) (fun _ => iprop(Pass I c 1 6 ∗ R)) := by
  unfold onBufs
  rw [k0_part19_eq_skeleton]; unfold k0_part19_skel
  refine pass_at 1 4 (by decide) (by revert c; decide +kernel) (fun _ => k0_dev35_eq c) (k0_off20_eq c) rfl rfl rfl ?_
  refine pass_at 1 5 (by decide) (by revert c; decide +kernel) (fun _ => k0_dev36_eq c) (k0_off21_eq c) rfl rfl rfl ?_
  exact Tr.ret (BI.Entails.refl _)

/-- The second half's copies: indices 6 to 7. -/
theorem part20_spec {w0 w1 w2 w3 w4 w5 w6 : BitVec 32} :
    Tr I K c iprop(Pass I c 1 6 ∗ R) (onBufs (k0_part20 (F := F)) c w0 w1 w2 w3 w4 w5 w6) (fun _ => iprop(Pass I c 1 8 ∗ R)) := by
  unfold onBufs
  rw [k0_part20_eq_skeleton]; unfold k0_part20_skel
  refine pass_at 1 6 (by decide) (by revert c; decide +kernel) (fun _ => k0_dev37_eq c) (k0_off22_eq c) rfl rfl rfl ?_
  refine pass_at 1 7 (by decide) (by revert c; decide +kernel) (fun _ => k0_dev38_eq c) (k0_off23_eq c) rfl rfl rfl ?_
  exact Tr.ret (BI.Entails.refl _)

/-- The second half's copies: index 8. -/
theorem part21_spec {w0 w1 w2 w3 : BitVec 32} {w4 : BitVec 1} :
    Tr I K c iprop(Pass I c 1 8 ∗ R) (onBufs (k0_part21 (F := F)) c w0 w1 w2 w3 w4) (fun _ => iprop(Pass I c 1 9 ∗ R)) := by
  unfold onBufs
  rw [k0_part21_eq_skeleton]; unfold k0_part21_skel
  refine pass_at 1 8 (by decide) (by revert c; decide +kernel) (fun _ => k0_dev39_eq c) (k0_off24_eq c) rfl rfl rfl ?_
  exact Tr.ret (BI.Entails.refl _)

/-- The second half's copies: indices 9 to 10. -/
theorem part22_spec {w0 w1 w2 w3 w4 : BitVec 32} :
    Tr I K c iprop(Pass I c 1 9 ∗ R) (onBufs (k0_part22 (F := F)) c w0 w1 w2 w3 w4) (fun _ => iprop(Pass I c 1 11 ∗ R)) := by
  unfold onBufs
  rw [k0_part22_eq_skeleton]; unfold k0_part22_skel
  refine pass_at 1 9 (by decide) (by revert c; decide +kernel) (fun _ => k0_dev40_eq c) (k0_off25_eq c) rfl rfl rfl ?_
  refine pass_at 1 10 (by decide) (by revert c; decide +kernel) (fun _ => k0_dev41_eq c) (k0_off26_eq c) rfl rfl rfl ?_
  exact Tr.ret (BI.Entails.refl _)

/-- The second half's copies: indices 11 to 12. -/
theorem part23_spec {w0 w1 w2 w3 w4 : BitVec 32} :
    Tr I K c iprop(Pass I c 1 11 ∗ R) (onBufs (k0_part23 (F := F)) c w0 w1 w2 w3 w4) (fun _ => iprop(Pass I c 1 13 ∗ R)) := by
  unfold onBufs
  rw [k0_part23_eq_skeleton]; unfold k0_part23_skel
  refine pass_at 1 11 (by decide) (by revert c; decide +kernel) (fun _ => k0_dev42_eq c) (k0_off27_eq c) rfl rfl rfl ?_
  refine pass_at 1 12 (by decide) (by revert c; decide +kernel) (fun _ => k0_dev43_eq c) (k0_off28_eq c) rfl rfl rfl ?_
  exact Tr.ret (BI.Entails.refl _)

end Passes

/-- The second half's copies: the last two; then it loads its own chunk. -/
theorem part24_spec {w0 w1 w2 w3 w4 w6 w7 : BitVec 32} {w5 : BitVec 1} :
    Tr I K c iprop(Pass I c 1 13 ∗ accQ c c fullShare (accB I c)) (onBufs (k0_part24 (F := F)) c w0 w1 w2 w3 w4 w5 w6 w7)
      (fun a => iprop(⌜a = k0_pay19 (chunkOf c (accB I c))⌝ ∗ accQ c c fullShare (accB I c) ∗ Pass I c 1 15)) := by
  unfold onBufs
  rw [k0_part24_eq_skeleton]; unfold k0_part24_skel
  refine pass_at 1 13 (by decide) (by revert c; decide +kernel) (fun _ => k0_dev44_eq c) (k0_off29_eq c) rfl rfl rfl ?_
  refine pass_at 1 14 (by decide) (by revert c; decide +kernel) (fun _ => k0_dev45_eq c) (k0_off30_eq c) rfl rfl rfl ?_
  refine Tr.pre (sep_comm (PROP := sProp 𝕄)).1 ?_
  refine Tr.bindv (Tr.framev (own_load (k0_off31_eq c))) ?_
  exact Tr.retv rfl (BI.Entails.refl _)

end Cert.KernelIdeal.AllReduce

end
-- ==== Proof.Parts2.lean ====
/-
# The kernel, part by part: the first phase's waits, the sum, and the second phase

The slots that landed are read together and added to the device's own chunk; the sum is stored there and lent, share by share, to the copies that
send it to the other devices.
-/
module

public import proofs.«01_k».proof.Proof.Parts

@[expose] public section

set_option maxRecDepth 65536

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F]

local notation "𝕄" => MT nD τ sig Unit (Elt F) ℕ UU ℕ

variable {I : Ins F} {K : GSem nD τ sig → ℕ} {c : Dev nD}

/-! ## What the waits bring -/

/-- What is left of the device's duties when the second phase's copies are started, -/
def duties2 (c : Dev nD) : sProp 𝕄 := bigSep Finset.univ fun r =>
  iprop(dutyTok ER (dmaCell c 2 r) 0 0 ∗ dutyTok ER (dmaCell (peer c r) 3 r) 0 0 ∗ reached ER (dmaCell (peer c r) 3 r) 0)
/-- the cells of array `k` with their round behind them, -/
def done (c : Dev nD) (k : Fin 4) : sProp 𝕄 := bigSep Finset.univ fun r => atPos ER (dmaCell c k r) 1 ∅ 0
/-- the fuel of the waits on array `k`, -/
def fuel (c : Dev nD) (k : Fin 4) : sProp 𝕄 := bigSep Finset.univ fun r => cred (tallyAt (dmaCell c k r) () N)
/-- and where the copies of the sum go. -/
def dests (I : Ins F) (c : Dev nD) : sProp 𝕄 := bigSep Finset.univ fun r => accQ (peer c r) c fullShare (accB I (peer c r))

/-- All the waits on array `k` are done: the cells' positions, and what came. -/
theorem wtg_done (k : Fin 4) : Wtg I c k (ge 15) ⊢ iprop(done c k ∗ bigSep Finset.univ fun r => dmaPay I k c r) := by
  unfold Wtg done; rw [ge_end, Finset.compl_empty, bigSep_sep' (s := (Finset.univ : Finset (Fin 15)))]
  iintro ⟨-, H⟩; iexact H
/-- Before the first wait on array `k`. -/
theorem wtg_start (k : Fin 4) :
    iprop((bigSep Finset.univ fun r => atPos ER (dmaCell c k r) 0 ∅ 0) ∗ fuel c k) ⊢ Wtg I c k (ge 0) := by
  unfold Wtg fuel; rw [ge_zero, Finset.compl_univ, bigSep_empty, bigSep_sep']
  iintro H
  isplitl [H]; · iexact H
  iempintro

/-- The first phase's landings: the stage, and the chunks the peers copied from. -/
theorem landed : (bigSep Finset.univ fun r => dmaPay I 1 c r)
    ⊢ iprop(bufP c cc0_scratch1 (stageB I c) ∗ dests I c) := by
  have h : bufP c cc0_scratch1 (stageB I c) = bigSep Finset.univ fun r => slotP c r (stageB I c) := stage_slots (stageB I c)
  unfold dests; rw [h, ← by_rev fun r => accQ (peer c r) c fullShare (accB I (peer c r)), ← bigSep_sep']
  exact BI.Entails.refl _

/-- The second phase's landings: the other chunks of the sum. -/
theorem landed2 : (bigSep Finset.univ fun r => dmaPay I 3 c r) ⊢ bigSep Finset.univ fun r => accQ c (peer c r) fullShare (finB I) := by
  rw [← by_rev fun r => accQ c (peer c r) fullShare (finB I)]
  exact BI.Entails.refl _

/-- The device's own chunk, lent out in fifteen shares, -/
theorem lend : accQ c c fullShare (finB I) ⊢ iprop(accQ c c rest (finB I) ∗ bigSep Finset.univ fun r => accQ c c (tok r) (finB I)) := by
  have h := pointsTo_toks_split (nD := nD) (τ := τ) (sig := sig) (Ix := Unit) (Val := Elt F) (Name := ℕ) (U := UU) (Lvl := ℕ)
    (ℓ := (c : Thread nD τ).loc cc0_scratch0) (S := accS c) (f := finB I) fullShare 15
  exact h
/-- and got back. -/
theorem unlend : iprop(accQ c c rest (finB I) ∗ bigSep Finset.univ fun r => dmaPay I 2 c r) ⊢ accQ c c fullShare (finB I) := by
  have h := pointsTo_toks_join (nD := nD) (τ := τ) (sig := sig) (Ix := Unit) (Val := Elt F) (Name := ℕ) (U := UU) (Lvl := ℕ)
    (ℓ := (c : Thread nD τ).loc cc0_scratch0) (S := accS c) (f := finB I) fullShare 15
  exact h

/-- Before the second phase's first copy, -/
theorem snd2_start : iprop(ow c (oweR 3 c Finset.univ) ∗ duties2 c ∗ (bigSep Finset.univ fun r => accQ c c (tok r) (finB I)) ∗ dests I c) ⊢ Snd2 I c (ge 0) := by
  unfold Snd2 duties2 dests; rw [ge_zero, Finset.compl_univ, bigSep_empty]
  iintro ⟨HO, Hd, Hs, Ht⟩
  isplitl [HO]; · iexact HO
  isplitl [Hd]; · iexact Hd
  isplitl [Hs]; · iexact Hs
  isplitl [Ht]; · iexact Ht
  iempintro
/-- and after its last. -/
theorem snd2_end : Snd2 I c (ge 15) ⊢ iprop(ow c 0 ∗ fuel c 2) := by
  unfold Snd2 fuel; rw [ge_end, Finset.compl_empty, oweR_empty]
  iintro ⟨HO, -, -, -, H⟩
  isplitl [HO]; · iexact HO
  iexact H

section Next
variable {R : sProp (MT nD τ sig Unit (Elt F) ℕ UU ℕ)} {β : Type} {Q : β → sProp (MT nD τ sig Unit (Elt F) ℕ UU ℕ)}

/-- A wait, and what follows it. -/
theorem await (j : Fin 4) (k : ℕ) (hk : k < 15) {O : CellTallies nD τ sig Unit}
    (hO : ∀ r, (levAts L lv : sProp 𝕄) ⊢ MayWait (c : Thread nD τ) (.dma (dmaQ j r)) () O)
    {sm : DmaSem sig} {src dst : Memref sig .tc .vmem S16x512 .bf16} {h1 h2} {e : PUnit → Prog (TpuEff nD τ sig (Elt F) Λ₀ .tc) β}
    (hsm : sm = dmaQ j ⟨k, hk⟩) (hN : dst.view.dmaCredit = N)
    (H : Tr I K c iprop(ow c O ∗ Wtg I c j (ge (k + 1)) ∗ R) (e ⟨⟩) Q) :
    Tr I K c iprop(ow c O ∗ Wtg I c j (ge k) ∗ R) (Prog.lift (.waitDma2 sm src dst h1 h2) >>= e) Q :=
  Tr.pre (sep_assoc (PROP := sProp 𝕄)).2
    (Tr.bind ((wait_at j k hk hO hsm hN).frame R) fun _ => Tr.pre (sep_assoc (PROP := sProp 𝕄)).1 H)

/-- A copy of the second phase, and what follows it. -/
theorem send2_next (k : ℕ) (hk : k < 15) {n : Dev nD} (hn : n.val = (c.val + (k + 1)) % 16)
    {sm sm' : DmaSem sig} {off off' : Fin 2 → ℕ} {inb hst inb' hst'}
    {hsc : ((accM.slice (Rect.unit (s := S256x512) off' S16x512.size inb') hst') : Memref sig (Dev.tc n : Thread nD τ).2.kind .vmem S16x512 .bf16).view.ref.isScScratch = false}
    {hsrc : (accM.slice (Rect.unit (s := S256x512) off S16x512.size inb) hst).view.WordExact} {hdst : (accM.slice (Rect.unit (s := S256x512) off' S16x512.size inb') hst').view.WordExact}
    {hsem : DmaTarget.Typed .vmem (.dma sm') (.remote (Dev.tc n : Thread nD τ) ((accM.slice (Rect.unit (s := S256x512) off' S16x512.size inb') hst') : Memref sig (Dev.tc n : Thread nD τ).2.kind .vmem S16x512 .bf16) (.dma sm) hsc)}
    {e : PUnit → Prog (TpuEff nD τ sig (Elt F) Λ₀ .tc) β}
    (hf : off = ![16 * c.val, 0]) (ht : off' = ![16 * c.val, 0]) (h0 : sm = dmaQ 2 ⟨k, hk⟩) (h1 : sm' = dmaQ 3 ⟨k, hk⟩)
    (H : Tr I K c iprop(Snd2 I c (ge (k + 1)) ∗ R) (e ⟨⟩) Q) :
    Tr I K c iprop(Snd2 I c (ge k) ∗ R)
      (Prog.lift (.enqueueDma (accM.slice (Rect.unit (s := S256x512) off S16x512.size inb) hst) (.remote (Dev.tc n : Thread nD τ) (accM.slice (Rect.unit (s := S256x512) off' S16x512.size inb') hst') (.dma sm) hsc) (.dma sm') hsrc hdst hsem) >>= e) Q :=
  Tr.bind ((send2_at k hk hn h0 h1 hf ht).frame R) fun _ => H

/-- All the chunks of the sum. -/
theorem gather : iprop(accQ c c fullShare (finB I) ∗ bigSep Finset.univ fun r => accQ c (peer c r) fullShare (finB I)) ⊢ bufP c cc0_scratch0 (finB I) :=
  Entails.of_eq (acc_chunks (finB I)).symm

/-! ## The parts -/

/-- Waits for the first landings: indices 0 to 3. -/
theorem part25_spec {w0 w1 w2 : BitVec 32} :
    Tr I K c iprop(ow c (oweR 3 c Finset.univ) ∗ Wtg I c 1 (ge 0) ∗ R)
      (onBufs (k0_part25 (F := F)) c w0 w1 w2)
      (fun _ => iprop(ow c (oweR 3 c Finset.univ) ∗ Wtg I c 1 (ge 4) ∗ R)) := by
  unfold onBufs
  rw [k0_part25_eq_skeleton]; unfold k0_part25_skel
  refine await 1 0 (by decide) (mayWait_first c 1 (by decide)) (by rfl) (by rfl) ?_
  refine await 1 1 (by decide) (mayWait_first c 1 (by decide)) (by rfl) (by rfl) ?_
  refine await 1 2 (by decide) (mayWait_first c 1 (by decide)) (by rfl) (by rfl) ?_
  refine await 1 3 (by decide) (mayWait_first c 1 (by decide)) (by rfl) (by rfl) ?_
  exact Tr.ret (BI.Entails.refl _)

/-- Waits for the first landings: indices 4 to 6. -/
theorem part26_spec {w0 w1 w2 w3 : BitVec 32} :
    Tr I K c iprop(ow c (oweR 3 c Finset.univ) ∗ Wtg I c 1 (ge 4) ∗ R)
      (onBufs (k0_part26 (F := F)) c w0 w1 w2 w3)
      (fun _ => iprop(ow c (oweR 3 c Finset.univ) ∗ Wtg I c 1 (ge 7) ∗ R)) := by
  unfold onBufs
  rw [k0_part26_eq_skeleton]; unfold k0_part26_skel
  refine await 1 4 (by decide) (mayWait_first c 1 (by decide)) (by rfl) (by rfl) ?_
  refine await 1 5 (by decide) (mayWait_first c 1 (by decide)) (by rfl) (by rfl) ?_
  refine await 1 6 (by decide) (mayWait_first c 1 (by decide)) (by rfl) (by rfl) ?_
  exact Tr.ret (BI.Entails.refl _)

/-- Waits for the first landings: indices 7 to 10. -/
theorem part27_spec {w0 w1 w2 w3 : BitVec 32} :
    Tr I K c iprop(ow c (oweR 3 c Finset.univ) ∗ Wtg I c 1 (ge 7) ∗ R)
      (onBufs (k0_part27 (F := F)) c w0 w1 w2 w3)
      (fun _ => iprop(ow c (oweR 3 c Finset.univ) ∗ Wtg I c 1 (ge 11) ∗ R)) := by
  unfold onBufs
  rw [k0_part27_eq_skeleton]; unfold k0_part27_skel
  refine await 1 7 (by decide) (mayWait_first c 1 (by decide)) (by rfl) (by rfl) ?_
  refine await 1 8 (by decide) (mayWait_first c 1 (by decide)) (by rfl) (by rfl) ?_
  refine await 1 9 (by decide) (mayWait_first c 1 (by decide)) (by rfl) (by rfl) ?_
  refine await 1 10 (by decide) (mayWait_first c 1 (by decide)) (by rfl) (by rfl) ?_
  exact Tr.ret (BI.Entails.refl _)

/-- The last four waits for the first landings; the stage then holds what all peers sent, and is loaded. -/
theorem part28_spec {w0 w1 w2 : BitVec 32} :
    Tr I K c iprop(ow c (oweR 3 c Finset.univ) ∗ Wtg I c 1 (ge 11) ∗ R)
      (onBufs (k0_part28 (F := F)) c w0 w1 w2)
      (fun a => iprop(⌜a = k0_pay20 (stageB I c)⌝ ∗ bufP c cc0_scratch1 (stageB I c) ∗ ow c (oweR 3 c Finset.univ) ∗ done c 1 ∗ dests I c ∗ R)) := by
  unfold onBufs
  rw [k0_part28_eq_skeleton]; unfold k0_part28_skel
  refine await 1 11 (by decide) (mayWait_first c 1 (by decide)) (by rfl) (by rfl) ?_
  refine await 1 12 (by decide) (mayWait_first c 1 (by decide)) (by rfl) (by rfl) ?_
  refine await 1 13 (by decide) (mayWait_first c 1 (by decide)) (by rfl) (by rfl) ?_
  refine await 1 14 (by decide) (mayWait_first c 1 (by decide)) (by rfl) (by rfl) ?_
  refine Tr.pre (P' := iprop(bufP c cc0_scratch1 (stageB I c) ∗ ow c (oweR 3 c Finset.univ) ∗ done c 1 ∗ dests I c ∗ R)) ?_ ?_
  · iintro ⟨HO, HW, HR⟩
    ihave HW := (wtg_done 1) $$ HW
    icases HW with ⟨Hd, Hp⟩
    ihave Hp := landed $$ Hp
    icases Hp with ⟨Hs, Hp⟩
    isplitl [Hs]; · iexact Hs
    isplitl [HO]; · iexact HO
    isplitl [Hd]; · iexact Hd
    isplitl [Hp]; · iexact Hp
    iexact HR
  refine Tr.bindv (Tr.framev (whole_load zero3)) ?_
  exact Tr.retv rfl (BI.Entails.refl _)

/-- The chunk of the sum is computed; waits for the first phase's sends: indices 0 to 3. -/
theorem part29_spec {u v : FVec F S16x512 .f32} :
    Tr I K c iprop(ow c (oweR 3 c Finset.univ) ∗ Wtg I c 0 (ge 0) ∗ R)
      (onBufs (k0_part29 (F := F)) c u v)
      (fun a => iprop(⌜a = k0_pay21 u v⌝ ∗ ow c (oweR 3 c Finset.univ) ∗ Wtg I c 0 (ge 4) ∗ R)) := by
  unfold onBufs
  rw [k0_part29_eq_skeleton]; unfold k0_part29_skel
  refine await 0 0 (by decide) (mayWait_first c 0 (by decide)) (by rfl) (by rfl) ?_
  refine await 0 1 (by decide) (mayWait_first c 0 (by decide)) (by rfl) (by rfl) ?_
  refine await 0 2 (by decide) (mayWait_first c 0 (by decide)) (by rfl) (by rfl) ?_
  refine await 0 3 (by decide) (mayWait_first c 0 (by decide)) (by rfl) (by rfl) ?_
  exact Tr.retv rfl (BI.Entails.refl _)

/-- Waits for the first phase's sends: indices 4 to 8. -/
theorem part30_spec :
    Tr I K c iprop(ow c (oweR 3 c Finset.univ) ∗ Wtg I c 0 (ge 4) ∗ R)
      (onBufs (k0_part30 (F := F)) c)
      (fun _ => iprop(ow c (oweR 3 c Finset.univ) ∗ Wtg I c 0 (ge 9) ∗ R)) := by
  unfold onBufs
  rw [k0_part30_eq_skeleton]; unfold k0_part30_skel
  refine await 0 4 (by decide) (mayWait_first c 0 (by decide)) (by rfl) (by rfl) ?_
  refine await 0 5 (by decide) (mayWait_first c 0 (by decide)) (by rfl) (by rfl) ?_
  refine await 0 6 (by decide) (mayWait_first c 0 (by decide)) (by rfl) (by rfl) ?_
  refine await 0 7 (by decide) (mayWait_first c 0 (by decide)) (by rfl) (by rfl) ?_
  refine await 0 8 (by decide) (mayWait_first c 0 (by decide)) (by rfl) (by rfl) ?_
  exact Tr.ret (BI.Entails.refl _)

/-- Waits for the first phase's sends: indices 9 to 12. -/
theorem part31_spec :
    Tr I K c iprop(ow c (oweR 3 c Finset.univ) ∗ Wtg I c 0 (ge 9) ∗ R)
      (onBufs (k0_part31 (F := F)) c)
      (fun _ => iprop(ow c (oweR 3 c Finset.univ) ∗ Wtg I c 0 (ge 13) ∗ R)) := by
  unfold onBufs
  rw [k0_part31_eq_skeleton]; unfold k0_part31_skel
  refine await 0 9 (by decide) (mayWait_first c 0 (by decide)) (by rfl) (by rfl) ?_
  refine await 0 10 (by decide) (mayWait_first c 0 (by decide)) (by rfl) (by rfl) ?_
  refine await 0 11 (by decide) (mayWait_first c 0 (by decide)) (by rfl) (by rfl) ?_
  refine await 0 12 (by decide) (mayWait_first c 0 (by decide)) (by rfl) (by rfl) ?_
  exact Tr.ret (BI.Entails.refl _)

/-- The last two such waits; the chunk of the sum is stored and lent out, and its first copy starts. -/
theorem part32_spec {w0 : BitVec 32} :
    Tr I K c iprop(ow c (oweR 3 c Finset.univ) ∗ Wtg I c 0 (ge 13) ∗ accQ c c fullShare (accB I c) ∗ duties2 c ∗ dests I c ∗ R)
      (onBufs (k0_part32 (F := F)) c w0 (k0_pay21 (k0_pay19 (chunkOf c (accB I c))) (k0_pay20 (stageB I c))))
      (fun _ => iprop(Snd2 I c (ge 1) ∗ accQ c c rest (finB I) ∗ done c 0 ∗ R)) := by
  unfold onBufs
  rw [k0_part32_eq_skeleton]; unfold k0_part32_skel
  refine await 0 13 (by decide) (mayWait_first c 0 (by decide)) (by rfl) (by rfl) ?_
  refine await 0 14 (by decide) (mayWait_first c 0 (by decide)) (by rfl) (by rfl) ?_
  refine Tr.pre (P' := iprop(accQ c c fullShare (accB I c) ∗ ow c (oweR 3 c Finset.univ) ∗ done c 0 ∗ duties2 c ∗ dests I c ∗ R)) ?_ ?_
  · iintro ⟨HO, HW, Ha, H⟩
    ihave HW := (wtg_done 0) $$ HW
    icases HW with ⟨Hd, -⟩
    isplitl [Ha]; · iexact Ha
    isplitl [HO]; · iexact HO
    isplitl [Hd]; · iexact Hd
    iexact H
  refine Tr.bindv (Tr.framev (own_load (k0_off31_eq c))) ?_
  refine Tr.bind (Tr.frame _ (own_store (k0_off31_eq c) rfl)) fun _ => ?_
  refine Tr.pre (P' := iprop(Snd2 I c (ge 0) ∗ accQ c c rest (finB I) ∗ done c 0 ∗ R)) ?_ ?_
  · iintro ⟨Ha, HO, Hd, Hu, Hp, HR⟩
    ihave Ha := lend $$ Ha
    icases Ha with ⟨Hr, Ht⟩
    isplitl [HO Hu Hp Ht]
    · iapply snd2_start
      isplitl [HO]; · iexact HO
      isplitl [Hu]; · iexact Hu
      isplitl [Ht]; · iexact Ht
      iexact Hp
    isplitl [Hr]; · iexact Hr
    isplitl [Hd]; · iexact Hd
    iexact HR
  refine send2_next 0 (by decide) (k0_dev46_eq c) (k0_off33_eq c) (k0_off33_eq c) (by rfl) (by rfl) ?_
  exact Tr.ret (BI.Entails.refl _)

/-- The second phase's copies: indices 1 to 3. -/
theorem part33_spec {w0 w1 : BitVec 32} :
    Tr I K c iprop(Snd2 I c (ge 1) ∗ R)
      (onBufs (k0_part33 (F := F)) c w0 w1)
      (fun _ => iprop(Snd2 I c (ge 4) ∗ R)) := by
  unfold onBufs
  rw [k0_part33_eq_skeleton]; unfold k0_part33_skel
  refine send2_next 1 (by decide) (k0_dev47_eq c) (k0_off33_eq c) (k0_off33_eq c) (by rfl) (by rfl) ?_
  refine send2_next 2 (by decide) (k0_dev48_eq c) (k0_off33_eq c) (k0_off33_eq c) (by rfl) (by rfl) ?_
  refine send2_next 3 (by decide) (k0_dev49_eq c) (k0_off33_eq c) (k0_off33_eq c) (by rfl) (by rfl) ?_
  exact Tr.ret (BI.Entails.refl _)

/-- The second phase's copies: indices 4 to 5. -/
theorem part34_spec {w0 w1 w2 : BitVec 32} :
    Tr I K c iprop(Snd2 I c (ge 4) ∗ R)
      (onBufs (k0_part34 (F := F)) c w0 w1 w2)
      (fun _ => iprop(Snd2 I c (ge 6) ∗ R)) := by
  unfold onBufs
  rw [k0_part34_eq_skeleton]; unfold k0_part34_skel
  refine send2_next 4 (by decide) (k0_dev50_eq c) (k0_off33_eq c) (k0_off33_eq c) (by rfl) (by rfl) ?_
  refine send2_next 5 (by decide) (k0_dev51_eq c) (k0_off33_eq c) (k0_off33_eq c) (by rfl) (by rfl) ?_
  exact Tr.ret (BI.Entails.refl _)

/-- The second phase's copies: indices 6 to 8. -/
theorem part35_spec {w0 : BitVec 32} :
    Tr I K c iprop(Snd2 I c (ge 6) ∗ R)
      (onBufs (k0_part35 (F := F)) c w0)
      (fun _ => iprop(Snd2 I c (ge 9) ∗ R)) := by
  unfold onBufs
  rw [k0_part35_eq_skeleton]; unfold k0_part35_skel
  refine send2_next 6 (by decide) (k0_dev52_eq c) (k0_off33_eq c) (k0_off33_eq c) (by rfl) (by rfl) ?_
  refine send2_next 7 (by decide) (k0_dev53_eq c) (k0_off33_eq c) (k0_off33_eq c) (by rfl) (by rfl) ?_
  refine send2_next 8 (by decide) (k0_dev54_eq c) (k0_off33_eq c) (k0_off33_eq c) (by rfl) (by rfl) ?_
  exact Tr.ret (BI.Entails.refl _)

/-- The second phase's copies: indices 9 to 10. -/
theorem part36_spec {w0 w1 : BitVec 32} :
    Tr I K c iprop(Snd2 I c (ge 9) ∗ R)
      (onBufs (k0_part36 (F := F)) c w0 w1)
      (fun _ => iprop(Snd2 I c (ge 11) ∗ R)) := by
  unfold onBufs
  rw [k0_part36_eq_skeleton]; unfold k0_part36_skel
  refine send2_next 9 (by decide) (k0_dev55_eq c) (k0_off33_eq c) (k0_off33_eq c) (by rfl) (by rfl) ?_
  refine send2_next 10 (by decide) (k0_dev56_eq c) (k0_off33_eq c) (k0_off33_eq c) (by rfl) (by rfl) ?_
  exact Tr.ret (BI.Entails.refl _)

/-- The second phase's copies: indices 11 to 13. -/
theorem part37_spec {w0 : BitVec 32} :
    Tr I K c iprop(Snd2 I c (ge 11) ∗ R)
      (onBufs (k0_part37 (F := F)) c w0)
      (fun _ => iprop(Snd2 I c (ge 14) ∗ R)) := by
  unfold onBufs
  rw [k0_part37_eq_skeleton]; unfold k0_part37_skel
  refine send2_next 11 (by decide) (k0_dev57_eq c) (k0_off33_eq c) (k0_off33_eq c) (by rfl) (by rfl) ?_
  refine send2_next 12 (by decide) (k0_dev58_eq c) (k0_off33_eq c) (k0_off33_eq c) (by rfl) (by rfl) ?_
  refine send2_next 13 (by decide) (k0_dev59_eq c) (k0_off33_eq c) (k0_off33_eq c) (by rfl) (by rfl) ?_
  exact Tr.ret (BI.Entails.refl _)

/-- The second phase's last copy; waits for the second landings: indices 0 to 2. -/
theorem part38_spec {w0 w1 w2 w3 w4 w5 : BitVec 32} :
    Tr I K c iprop(Snd2 I c (ge 14) ∗ Wtg I c 3 (ge 0) ∗ R)
      (onBufs (k0_part38 (F := F)) c w0 w1 w2 w3 w4 w5)
      (fun _ => iprop(ow c 0 ∗ Wtg I c 3 (ge 3) ∗ fuel c 2 ∗ R)) := by
  unfold onBufs
  rw [k0_part38_eq_skeleton]; unfold k0_part38_skel
  refine send2_next 14 (by decide) (k0_dev60_eq c) (k0_off33_eq c) (k0_off33_eq c) (by rfl) (by rfl) ?_
  refine Tr.pre (P' := iprop(ow c 0 ∗ Wtg I c 3 (ge 0) ∗ fuel c 2 ∗ R)) ?_ ?_
  · iintro ⟨HS, HW, HR⟩
    ihave HS := snd2_end $$ HS
    icases HS with ⟨HO, Hf⟩
    isplitl [HO]; · iexact HO
    isplitl [HW]; · iexact HW
    isplitl [Hf]; · iexact Hf
    iexact HR
  refine await 3 0 (by decide) (mayWait_last 3) (by rfl) (by rfl) ?_
  refine await 3 1 (by decide) (mayWait_last 3) (by rfl) (by rfl) ?_
  refine await 3 2 (by decide) (mayWait_last 3) (by rfl) (by rfl) ?_
  exact Tr.ret (BI.Entails.refl _)

/-- Waits for the second landings: indices 3 to 7. -/
theorem part39_spec {w0 w1 w2 w3 w4 : BitVec 32} :
    Tr I K c iprop(ow c 0 ∗ Wtg I c 3 (ge 3) ∗ R)
      (onBufs (k0_part39 (F := F)) c w0 w1 w2 w3 w4)
      (fun _ => iprop(ow c 0 ∗ Wtg I c 3 (ge 8) ∗ R)) := by
  unfold onBufs
  rw [k0_part39_eq_skeleton]; unfold k0_part39_skel
  refine await 3 3 (by decide) (mayWait_last 3) (by rfl) (by rfl) ?_
  refine await 3 4 (by decide) (mayWait_last 3) (by rfl) (by rfl) ?_
  refine await 3 5 (by decide) (mayWait_last 3) (by rfl) (by rfl) ?_
  refine await 3 6 (by decide) (mayWait_last 3) (by rfl) (by rfl) ?_
  refine await 3 7 (by decide) (mayWait_last 3) (by rfl) (by rfl) ?_
  exact Tr.ret (BI.Entails.refl _)

/-- Waits for the second landings: indices 8 to 12. -/
theorem part40_spec {w0 w1 w2 w3 : BitVec 32} :
    Tr I K c iprop(ow c 0 ∗ Wtg I c 3 (ge 8) ∗ R)
      (onBufs (k0_part40 (F := F)) c w0 w1 w2 w3)
      (fun _ => iprop(ow c 0 ∗ Wtg I c 3 (ge 13) ∗ R)) := by
  unfold onBufs
  rw [k0_part40_eq_skeleton]; unfold k0_part40_skel
  refine await 3 8 (by decide) (mayWait_last 3) (by rfl) (by rfl) ?_
  refine await 3 9 (by decide) (mayWait_last 3) (by rfl) (by rfl) ?_
  refine await 3 10 (by decide) (mayWait_last 3) (by rfl) (by rfl) ?_
  refine await 3 11 (by decide) (mayWait_last 3) (by rfl) (by rfl) ?_
  refine await 3 12 (by decide) (mayWait_last 3) (by rfl) (by rfl) ?_
  exact Tr.ret (BI.Entails.refl _)

/-- The last two such waits; waits for the second phase's sends: indices 0 to 2. -/
theorem part41_spec {w0 w1 : BitVec 32} :
    Tr I K c iprop(ow c 0 ∗ Wtg I c 3 (ge 13) ∗ Wtg I c 2 (ge 0) ∗ R)
      (onBufs (k0_part41 (F := F)) c w0 w1)
      (fun _ => iprop(ow c 0 ∗ Wtg I c 2 (ge 3) ∗ Wtg I c 3 (ge 15) ∗ R)) := by
  unfold onBufs
  rw [k0_part41_eq_skeleton]; unfold k0_part41_skel
  refine await 3 13 (by decide) (mayWait_last 3) (by rfl) (by rfl) ?_
  refine await 3 14 (by decide) (mayWait_last 3) (by rfl) (by rfl) ?_
  refine Tr.pre (sep_mono_right (sep_left_comm (PROP := sProp 𝕄)).1) ?_
  refine await 2 0 (by decide) (mayWait_last 2) (by rfl) (by rfl) ?_
  refine await 2 1 (by decide) (mayWait_last 2) (by rfl) (by rfl) ?_
  refine await 2 2 (by decide) (mayWait_last 2) (by rfl) (by rfl) ?_
  exact Tr.ret (BI.Entails.refl _)

/-- Waits for the second phase's sends: indices 3 to 8. -/
theorem part42_spec :
    Tr I K c iprop(ow c 0 ∗ Wtg I c 2 (ge 3) ∗ R)
      (onBufs (k0_part42 (F := F)) c)
      (fun _ => iprop(ow c 0 ∗ Wtg I c 2 (ge 9) ∗ R)) := by
  unfold onBufs
  rw [k0_part42_eq_skeleton]; unfold k0_part42_skel
  refine await 2 3 (by decide) (mayWait_last 2) (by rfl) (by rfl) ?_
  refine await 2 4 (by decide) (mayWait_last 2) (by rfl) (by rfl) ?_
  refine await 2 5 (by decide) (mayWait_last 2) (by rfl) (by rfl) ?_
  refine await 2 6 (by decide) (mayWait_last 2) (by rfl) (by rfl) ?_
  refine await 2 7 (by decide) (mayWait_last 2) (by rfl) (by rfl) ?_
  refine await 2 8 (by decide) (mayWait_last 2) (by rfl) (by rfl) ?_
  exact Tr.ret (BI.Entails.refl _)

/-- The last waits for the sends; the whole sum is then there, and is loaded as the result. -/
theorem part43_spec :
    Tr I K c iprop(ow c 0 ∗ Wtg I c 2 (ge 9) ∗ Wtg I c 3 (ge 15) ∗ accQ c c rest (finB I) ∗ R)
      (onBufs (k0_part43 (F := F)) c)
      (fun a => iprop(⌜a = outB I⌝ ∗ bufP c cc0_scratch0 (finB I) ∗ ow c 0 ∗ done c 2 ∗ done c 3 ∗ R)) := by
  unfold onBufs
  rw [k0_part43_eq_skeleton]; unfold k0_part43_skel
  refine await 2 9 (by decide) (mayWait_last 2) (by rfl) (by rfl) ?_
  refine await 2 10 (by decide) (mayWait_last 2) (by rfl) (by rfl) ?_
  refine await 2 11 (by decide) (mayWait_last 2) (by rfl) (by rfl) ?_
  refine await 2 12 (by decide) (mayWait_last 2) (by rfl) (by rfl) ?_
  refine await 2 13 (by decide) (mayWait_last 2) (by rfl) (by rfl) ?_
  refine await 2 14 (by decide) (mayWait_last 2) (by rfl) (by rfl) ?_
  refine Tr.pre (P' := iprop(bufP c cc0_scratch0 (finB I) ∗ ow c 0 ∗ done c 2 ∗ done c 3 ∗ R)) ?_ ?_
  · iintro ⟨HO, H2, H3, Hr, HR⟩
    ihave H2 := (wtg_done 2) $$ H2
    icases H2 with ⟨Hd, Hp⟩
    ihave H3 := (wtg_done 3) $$ H3
    icases H3 with ⟨Hd3, Hp3⟩
    isplitl [Hr Hp Hp3]
    · iapply gather
      isplitl [Hr Hp]
      · iapply unlend
        isplitl [Hr]; · iexact Hr
        iexact Hp
      iapply landed2; iexact Hp3
    isplitl [HO]; · iexact HO
    isplitl [Hd]; · iexact Hd
    isplitl [Hd3]; · iexact Hd3
    iexact HR
  refine Tr.bindv (Tr.framev (whole_load zero2)) ?_
  exact Tr.retv rfl (BI.Entails.refl _)

end Next

end Cert.KernelIdeal.AllReduce

end
-- ==== Proof.Body.lean ====
/-
# The kernel, from the launch's resources to its result
-/
module

public import proofs.«01_k».proof.Proof.Parts2

@[expose] public section

set_option maxRecDepth 65536

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F]

local notation "𝕄" => MT nD τ sig Unit (Elt F) ℕ UU ℕ

variable {I : Ins F} {K : GSem nD τ sig → ℕ} {c : Dev nD}

/-! ## Steps that learn a fact -/

section Facts
variable {α β : Type} {P Q R : sProp (MT nD τ sig Unit (Elt F) ℕ UU ℕ)} {e : Prog (TpuEff nD τ sig (Elt F) Λ₀ .tc) α}

/-- A triple that learns `φ` of its result, next to other resources. -/
theorem framep {φ : α → Prop} (R : sProp (MT nD τ sig Unit (Elt F) ℕ UU ℕ)) (H : Tr I K c P e (fun v => iprop(⌜φ v⌝ ∗ Q))) :
    Tr I K c iprop(P ∗ R) e (fun v => iprop(⌜φ v⌝ ∗ Q ∗ R)) :=
  (H.frame R).post fun v => (sep_assoc (PROP := sProp 𝕄)).1

/-- The fact is at hand in what follows. -/
theorem bindp {φ : α → Prop} {k : α → Prog (TpuEff nD τ sig (Elt F) Λ₀ .tc) β} {Q' : β → sProp 𝕄}
    (H : Tr I K c P e (fun v => iprop(⌜φ v⌝ ∗ Q))) (Hk : ∀ a, φ a → Tr I K c Q (k a) Q') : Tr I K c P (e >>= k) Q' :=
  Tr.bind H fun a => Tr.pureL fun h => Hk a h
end Facts

/-- A store over a whole buffer. -/
theorem whole_store {i : Fin (sig.nNear .tc .vmem)} {hκ : sig.names .tc .vmem i = true}
    {off : Fin (Ref.ty (sig := sig) (κ := .tc) ⟨.vmem, i, hκ⟩).shape.rank → ℕ} (hz : off = fun _ => 0) {inb hs ht}
    {f w : Buf (Elt F) ((c : Thread nD τ).loc ⟨.vmem, i, hκ⟩)} :
    Tr I K c (bufP c ⟨.vmem, i, hκ⟩ f)
      (Prog.lift (.store (Memref.whole ⟨.vmem, i, hκ⟩) (Rect.unit off (Ref.ty (sig := sig) (κ := .tc) ⟨.vmem, i, hκ⟩).shape.size inb) w Finset.univ hs ht))
      (fun _ => bufP c ⟨.vmem, i, hκ⟩ w) := by
  have h := store_step (I := I) (K := K) (c := c) (m := Memref.whole ⟨.vmem, i, hκ⟩)
    (r := Rect.unit off (Ref.ty (sig := sig) (κ := .tc) ⟨.vmem, i, hκ⟩).shape.size inb) (w := w) (hs := hs) (ht := ht) (S := Finset.univ) (f := f) (Finset.subset_univ _)
  rw [Memref.write_access_unit_zero_univ (Elt F) ⟨.vmem, i, hκ⟩ hz inb f w] at h
  exact h

/-! ## What the device holds -/

/-- The tokens of the first phase's copies, -/
def duties1 (c : Dev nD) : sProp 𝕄 := bigSep Finset.univ fun r => iprop(dutyTok ER (dmaCell c 0 r) 0 0 ∗ dutyTok ER (dmaCell (peer c r) 1 r) 0 0)
/-- of the second's, -/
def tokens2 (c : Dev nD) : sProp 𝕄 := bigSep Finset.univ fun r => iprop(dutyTok ER (dmaCell c 2 r) 0 0 ∗ dutyTok ER (dmaCell (peer c r) 3 r) 0 0)
/-- and of its signals; -/
def dutiesB (c : Dev nD) : sProp 𝕄 := bigSep Finset.univ fun r => dutyTok ER (barCell (peer c r)) 0 (rev r)
/-- the positions of array `k`'s cells; -/
def start (c : Dev nD) (k : Fin 4) : sProp 𝕄 := bigSep Finset.univ fun r => atPos ER (dmaCell c k r) 0 ∅ 0
/-- and the five arguments' buffers. -/
def insP (I : Ins F) (c : Dev nD) : sProp 𝕄 :=
  iprop((bufP c cc0_stg0_0 (I.X c) ∗ bufP c cc0_stg1_0 (I.Q c) ∗ bufP c cc0_stg3_0 (I.K c)) ∗ (bufP c cc0_stg4_0 (I.V c) ∗ bufP c cc0_stg2_0 (I.O c)))

/-- Before the waits on array `k`. -/
theorem wtg_go (k : Fin 4) : iprop(start c k ∗ fuel c k) ⊢ Wtg I c k (ge 0) := wtg_start k

/-- Before the signals. -/
theorem sig_start {g : StageC F} : iprop(ow c (O₀ c) ∗ dutiesB c ∗ stageP c g) ⊢ Sig c (ge 0) := by
  have h : stageP c g ⊢ bigSep Finset.univ fun r => iprop(∃ f, slotP c (rev r) f) := by
    rw [stage_slots g, ← by_rev fun r => slotP c r g]
    exact bigSep_mono fun r _ => exists_intro (PROP := sProp 𝕄) g
  unfold Sig dutiesB; rw [ge_zero]
  iintro ⟨HO, Ht, Hs⟩
  isplitl [HO]; · iexact HO
  isplitl [Ht]; · iexact Ht
  iapply h; iexact Hs

/-- What the barrier brings is what the copies need. -/
theorem after_bar : iprop(ow c (oweR 1 c Finset.univ + oweR 3 c Finset.univ) ∗ (bigSep Finset.univ fun r => barPay (F := F) c r) ∗ duties1 c ∗ tokens2 c)
    ⊢ iprop(Snd c (rem c 0 0) ∗ duties2 c) := by
  unfold Snd duties1 tokens2 duties2 barPay
  rw [rem_start, Finset.compl_univ, bigSep_empty]
  simp only [bigSep_sep']
  iintro ⟨HO, ⟨Hs, H1, H3⟩, ⟨Ht0, Ht1⟩, Ht2, Ht3⟩
  isplitr [Ht2 Ht3 H3]
  · isplitl [HO]; · iexact HO
    isplitl
    · isplitl [Ht0]; · iexact Ht0
      isplitl [Ht1]; · iexact Ht1
      isplitl [Hs]; · iexact Hs
      iexact H1
    iempintro
  isplitl [Ht2]; · iexact Ht2
  isplitl [Ht3]; · iexact Ht3
  iexact H3

/-- The first half, copied chunk by chunk, -/
theorem pass_start : iprop(Snd c (rem c 0 0) ∗ halfP c 0 (accB I c)) ⊢ iprop(Pass I c 0 0 ∗ (if half c = 0 then accQ c c fullShare (accB I c) else emp)) := by
  rw [half_split]; unfold Pass
  iintro ⟨HS, Ho, Hn⟩
  isplitl [HS Hn]
  · isplitl [HS]; · iexact HS
    iexact Hn
  iexact Ho
/-- between the halves, -/
theorem pass_turn : Pass I c 0 15 ⊢ Snd c (rem c 1 0) := by
  unfold Pass; rw [rem_turn, now_end]; iintro ⟨H, -⟩; iexact H
/-- the second half, -/
theorem pass_again : iprop(Snd c (rem c 1 0) ∗ halfP c 1 (accB I c) ∗ (if half c = 0 then accQ c c fullShare (accB I c) else emp))
    ⊢ iprop(Pass I c 1 0 ∗ accQ c c fullShare (accB I c)) := by
  rw [half_split]; unfold Pass
  iintro ⟨HS, ⟨Ho, Hn⟩, H⟩
  isplitl [HS Hn]
  · isplitl [HS]; · iexact HS
    iexact Hn
  iapply own_half; isplitl [H]; · iexact H
  iexact Ho
/-- and after both. -/
theorem pass_end : Pass I c 1 15 ⊢ iprop(ow c (oweR 3 c Finset.univ) ∗ fuel c 0) := by
  unfold Pass Snd fuel; rw [rem_end, now_end, Finset.compl_empty, oweR_empty, zero_add]
  iintro ⟨⟨HO, -, H⟩, -⟩
  isplitl [HO]; · iexact HO
  iexact H

/-! ## The parts, one after the other -/

/-- The kernel on the launch's buffers: its arguments' buffers stay, the result is the sum of the devices' parts, and every cell has its round
behind it. -/
theorem body_spec {f : AccC F} {g : StageC F} {o : Vec F S2x128x512 .f32} :
    Tr I K c
      iprop(ow c (O₀ c) ∗ (dutiesB c ∗ duties1 c ∗ tokens2 c) ∗ (cred (tallyAt (barCell c) () 15) ∗ fuel c 1 ∗ fuel c 3)
        ∗ (atPos ER (barCell c) 0 ∅ 0 ∗ start c 0 ∗ start c 1 ∗ start c 2 ∗ start c 3)
        ∗ insP I c ∗ accP c f ∗ stageP c g ∗ bufP c cc0_stg5_0 o)
      (onBufs (cc0_body (F := F)))
      (fun _ => iprop(ow c 0 ∗ (atPos ER (barCell c) 1 ∅ 0 ∗ done c 0 ∗ done c 1 ∗ done c 2 ∗ done c 3)
        ∗ insP I c ∗ bufP c cc0_scratch0 (finB I) ∗ bufP c cc0_scratch1 (stageB I c) ∗ bufP c cc0_stg5_0 (outB I))) := by
  unfold onBufs
  rw [cc0_body_eq_skeleton]; unfold cc0_body_skel
  refine Tr.pre (P' := iprop(Sig c (ge 0) ∗ (cred (tallyAt (barCell c) () 15) ∗ atPos ER (barCell c) 0 ∅ 0) ∗ insP I c ∗ accP c f ∗ (duties1 c ∗ tokens2 c) ∗ (fuel c 1 ∗ fuel c 3) ∗ (start c 0 ∗ start c 1 ∗ start c 2 ∗ start c 3) ∗ bufP c cc0_stg5_0 o)) ?_ ?_
  · iintro ⟨HO, ⟨HB, HD, HT⟩, ⟨Hc, Hf⟩, ⟨Ha, Hp⟩, Hin, Hacc, Hst, Hout⟩
    isplitl [HO HB Hst]
    · iapply sig_start
      isplitl [HO]; · iexact HO
      isplitl [HB]; · iexact HB
      iexact Hst
    isplitl [Hc Ha]
    · isplitl [Hc]; · iexact Hc
      iexact Ha
    isplitl [Hin]; · iexact Hin
    isplitl [Hacc]; · iexact Hacc
    isplitl [HD HT]
    · isplitl [HD]; · iexact HD
      iexact HT
    isplitl [Hf]; · iexact Hf
    isplitl [Hp]; · iexact Hp
    iexact Hout
  refine bindp (framep _ part1_spec) fun ⟨d0, v2, v3, v24, w0⟩ h => ?_
  have h1 : d0 = c := h.1
  have h2 : v3 = SemArray.scalar (sig.barrier 0 rfl) := h.2
  clear h; subst d0 v3
  refine Tr.bind (Tr.frame _ part2_spec) fun ⟨v48, w1⟩ => ?_
  refine Tr.pre (P' := iprop(((Sig c (ge 11) ∗ cred (tallyAt (barCell c) () 15) ∗ atPos ER (barCell c) 0 ∅ 0) ∗ bufP c cc0_stg0_0 (I.X c) ∗ bufP c cc0_stg1_0 (I.Q c) ∗ bufP c cc0_stg3_0 (I.K c)) ∗ (bufP c cc0_stg4_0 (I.V c) ∗ bufP c cc0_stg2_0 (I.O c)) ∗ accP c f ∗ (duties1 c ∗ tokens2 c) ∗ (fuel c 1 ∗ fuel c 3) ∗ (start c 0 ∗ start c 1 ∗ start c 2 ∗ start c 3) ∗ bufP c cc0_stg5_0 o)) ?_ ?_
  · unfold insP; iintro ⟨HS, Hb, ⟨Hx, Hv⟩, H⟩
    isplitl [HS Hb Hx]
    · isplitl [HS Hb]
      · isplitl [HS]; · iexact HS
        iexact Hb
      iexact Hx
    isplitl [Hv]; · iexact Hv
    iexact H
  refine Tr.bindv (Tr.framev part3_spec) ?_
  refine Tr.pre (P' := iprop((bufP c cc0_stg4_0 (I.V c) ∗ bufP c cc0_stg2_0 (I.O c)) ∗ (bufP c cc0_stg0_0 (I.X c) ∗ bufP c cc0_stg1_0 (I.Q c) ∗ bufP c cc0_stg3_0 (I.K c)) ∗ atPos ER (barCell c) 1 ∅ 0 ∗ (Snd c (rem c 0 0) ∗ duties2 c) ∗ accP c f ∗ (fuel c 1 ∗ fuel c 3) ∗ (start c 0 ∗ start c 1 ∗ start c 2 ∗ start c 3) ∗ bufP c cc0_stg5_0 o)) ?_ ?_
  · iintro ⟨⟨⟨HO, Ha, Hb⟩, Hx⟩, Hv, Hacc, ⟨HD, HT⟩, H⟩
    isplitl [Hv]; · iexact Hv
    isplitl [Hx]; · iexact Hx
    isplitl [Ha]; · iexact Ha
    isplitl [HO Hb HD HT]
    · iapply after_bar
      isplitl [HO]; · iexact HO
      isplitl [Hb]; · iexact Hb
      isplitl [HD]; · iexact HD
      iexact HT
    isplitl [Hacc]; · iexact Hacc
    iexact H
  refine bindp (framep _ part4_spec) fun ⟨v75, v79, v82, v84, v87, v90, v93, v96, v99, v102, v105, w2⟩ h => ?_
  obtain ⟨rfl, rfl, rfl⟩ := h
  refine Tr.pre (P' := iprop(emp ∗ halfP c 0 f ∗ halfP c 1 f ∗ (Snd c (rem c 0 0) ∗ duties2 c) ∗ insP I c ∗ atPos ER (barCell c) 1 ∅ 0 ∗ (fuel c 1 ∗ fuel c 3) ∗ (start c 0 ∗ start c 1 ∗ start c 2 ∗ start c 3) ∗ bufP c cc0_stg5_0 o)) ?_ ?_
  · iintro ⟨Hv, Hx, Ha, HS, Hacc, H⟩
    ihave Hacc := (Entails.of_eq (acc_halves f)) $$ Hacc
    icases Hacc with ⟨H0, H1⟩
    isplitr; · iempintro
    isplitl [H0]; · iexact H0
    isplitl [H1]; · iexact H1
    isplitl [HS]; · iexact HS
    isplitl [Hv Hx]
    · unfold insP; isplitl [Hx]; · iexact Hx
      iexact Hv
    isplitl [Ha]; · iexact Ha
    iexact H
  refine bindp (part5_spec.frame _) fun ⟨v108, v111, v114, v117, v120, v123, v126, v137, v140, v141⟩ h => ?_
  obtain ⟨rfl, rfl, rfl⟩ := h
  refine Tr.bind (part6_spec.frame _) fun _ => ?_
  refine Tr.pre (P' := iprop(Pass I c 0 0 ∗ (if half c = 0 then accQ c c fullShare (accB I c) else emp) ∗ halfP c 1 f ∗ duties2 c ∗ insP I c ∗ atPos ER (barCell c) 1 ∅ 0 ∗ (fuel c 1 ∗ fuel c 3) ∗ (start c 0 ∗ start c 1 ∗ start c 2 ∗ start c 3) ∗ bufP c cc0_stg5_0 o)) ?_ ?_
  · iintro ⟨H0, H1, ⟨HS, Hd⟩, H⟩
    ihave HS := (pass_start (I := I) (c := c)) $$ [HS H0]
    · isplitl [HS]; · iexact HS
      iexact H0
    icases HS with ⟨HP, Ho⟩
    isplitl [HP]; · iexact HP
    isplitl [Ho]; · iexact Ho
    isplitl [H1]; · iexact H1
    isplitl [Hd]; · iexact Hd
    iexact H
  refine Tr.bind part7_spec fun _ => ?_
  refine Tr.bind part8_spec fun ⟨u8_0, u8_1⟩ => ?_
  refine Tr.bind part9_spec fun ⟨u9_0, u9_1, u9_2, u9_3, u9_4⟩ => ?_
  refine Tr.bind part10_spec fun ⟨u10_0, u10_1, u10_2⟩ => ?_
  refine Tr.bind part11_spec fun ⟨u11_0, u11_1, u11_2⟩ => ?_
  refine Tr.bind part12_spec fun _ => ?_
  refine Tr.bind part13_spec fun _ => ?_
  refine Tr.bind part14_spec fun ⟨u14_0, u14_1, u14_2⟩ => ?_
  refine Tr.bindv part15_spec ?_
  refine Tr.pre (P' := iprop(halfP c 1 f ∗ Snd c (rem c 1 0) ∗ (if half c = 0 then accQ c c fullShare (accB I c) else emp) ∗ duties2 c ∗ insP I c ∗ atPos ER (barCell c) 1 ∅ 0 ∗ (fuel c 1 ∗ fuel c 3) ∗ (start c 0 ∗ start c 1 ∗ start c 2 ∗ start c 3) ∗ bufP c cc0_stg5_0 o)) ?_ ?_
  · iintro ⟨HP, Ho, H1, H⟩
    ihave HP := pass_turn $$ HP
    isplitl [H1]; · iexact H1
    isplitl [HP]; · iexact HP
    isplitl [Ho]; · iexact Ho
    iexact H
  refine Tr.bind (part16_spec.frame _) fun _ => ?_
  refine Tr.pre (P' := iprop(Pass I c 1 0 ∗ accQ c c fullShare (accB I c) ∗ duties2 c ∗ insP I c ∗ atPos ER (barCell c) 1 ∅ 0 ∗ (fuel c 1 ∗ fuel c 3) ∗ (start c 0 ∗ start c 1 ∗ start c 2 ∗ start c 3) ∗ bufP c cc0_stg5_0 o)) ?_ ?_
  · iintro ⟨H1, HS, Ho, H⟩
    ihave HS := (pass_again (I := I) (c := c)) $$ [HS H1 Ho]
    · isplitl [HS]; · iexact HS
      isplitl [H1]; · iexact H1
      iexact Ho
    icases HS with ⟨HP, Ho⟩
    isplitl [HP]; · iexact HP
    isplitl [Ho]; · iexact Ho
    iexact H
  refine Tr.bind part17_spec fun ⟨u17_0, u17_1, u17_2⟩ => ?_
  refine Tr.bind part18_spec fun ⟨u18_0, u18_1, u18_2, u18_3⟩ => ?_
  refine Tr.bind part19_spec fun ⟨u19_0, u19_1, u19_2, u19_3⟩ => ?_
  refine Tr.bind part20_spec fun ⟨u20_0, u20_1, u20_2⟩ => ?_
  refine Tr.bind part21_spec fun ⟨u21_0, u21_1⟩ => ?_
  refine Tr.bind part22_spec fun ⟨u22_0, u22_1⟩ => ?_
  refine Tr.bind part23_spec fun ⟨u23_0, u23_1, u23_2, u23_3⟩ => ?_
  refine Tr.pre (sep_assoc (PROP := sProp 𝕄)).2 ?_
  refine Tr.bindv (Tr.framev part24_spec) ?_
  refine Tr.pre (P' := iprop(ow c (oweR 3 c Finset.univ) ∗ Wtg I c 1 (ge 0) ∗ Wtg I c 0 (ge 0) ∗ accQ c c fullShare (accB I c) ∗ duties2 c ∗ insP I c ∗ atPos ER (barCell c) 1 ∅ 0 ∗ start c 2 ∗ start c 3 ∗ fuel c 3 ∗ bufP c cc0_stg5_0 o)) ?_ ?_
  · iintro ⟨⟨Ho, HP⟩, Hd, Hin, Ha, ⟨Hf1, Hf3⟩, ⟨Hs0, Hs1, Hs2, Hs3⟩, Hout⟩
    ihave HP := pass_end $$ HP
    icases HP with ⟨HO, Hf0⟩
    isplitl [HO]; · iexact HO
    isplitl [Hs1 Hf1]
    · iapply (wtg_go 1); isplitl [Hs1]; · iexact Hs1
      iexact Hf1
    isplitl [Hs0 Hf0]
    · iapply (wtg_go 0); isplitl [Hs0]; · iexact Hs0
      iexact Hf0
    isplitl [Ho]; · iexact Ho
    isplitl [Hd]; · iexact Hd
    isplitl [Hin]; · iexact Hin
    isplitl [Ha]; · iexact Ha
    isplitl [Hs2]; · iexact Hs2
    isplitl [Hs3]; · iexact Hs3
    isplitl [Hf3]; · iexact Hf3
    iexact Hout
  refine Tr.bind part25_spec fun _ => ?_
  refine Tr.bind part26_spec fun _ => ?_
  refine Tr.bind part27_spec fun _ => ?_
  refine Tr.bindv part28_spec ?_
  refine Tr.pre (P' := iprop(ow c (oweR 3 c Finset.univ) ∗ Wtg I c 0 (ge 0) ∗ accQ c c fullShare (accB I c) ∗ duties2 c ∗ dests I c ∗ bufP c cc0_scratch1 (stageB I c) ∗ done c 1 ∗ insP I c ∗ atPos ER (barCell c) 1 ∅ 0 ∗ start c 2 ∗ start c 3 ∗ fuel c 3 ∗ bufP c cc0_stg5_0 o)) ?_ ?_
  · iintro ⟨Hs, HO, Hd1, Hp, HW, Ho, Hd, H⟩
    isplitl [HO]; · iexact HO
    isplitl [HW]; · iexact HW
    isplitl [Ho]; · iexact Ho
    isplitl [Hd]; · iexact Hd
    isplitl [Hp]; · iexact Hp
    isplitl [Hs]; · iexact Hs
    isplitl [Hd1]; · iexact Hd1
    iexact H
  refine Tr.bindv part29_spec ?_
  refine Tr.bind part30_spec fun _ => ?_
  refine Tr.bind part31_spec fun _ => ?_
  refine Tr.bind part32_spec fun ⟨u32_0, u32_1, u32_2⟩ => ?_
  refine Tr.bind part33_spec fun ⟨u33_0, u33_1, u33_2, u33_3⟩ => ?_
  refine Tr.bind part34_spec fun ⟨u34_0, u34_1, u34_2⟩ => ?_
  refine Tr.bind part35_spec fun ⟨u35_0, u35_1, u35_2⟩ => ?_
  refine Tr.bind part36_spec fun ⟨u36_0, u36_1⟩ => ?_
  refine Tr.bind part37_spec fun ⟨u37_0, u37_1, u37_2, u37_3, u37_4⟩ => ?_
  refine Tr.pre (P' := iprop(Snd2 I c (ge 14) ∗ Wtg I c 3 (ge 0) ∗ accQ c c rest (finB I) ∗ done c 0 ∗ bufP c cc0_scratch1 (stageB I c) ∗ done c 1 ∗ insP I c ∗ atPos ER (barCell c) 1 ∅ 0 ∗ start c 2 ∗ bufP c cc0_stg5_0 o)) ?_ ?_
  · iintro ⟨HS, Hr, Hd0, Hs, Hd1, Hin, Ha, Hs2, Hs3, Hf3, Hout⟩
    isplitl [HS]; · iexact HS
    isplitl [Hs3 Hf3]
    · iapply (wtg_go 3); isplitl [Hs3]; · iexact Hs3
      iexact Hf3
    isplitl [Hr]; · iexact Hr
    isplitl [Hd0]; · iexact Hd0
    isplitl [Hs]; · iexact Hs
    isplitl [Hd1]; · iexact Hd1
    isplitl [Hin]; · iexact Hin
    isplitl [Ha]; · iexact Ha
    isplitl [Hs2]; · iexact Hs2
    iexact Hout
  refine Tr.bind part38_spec fun _ => ?_
  refine Tr.bind part39_spec fun _ => ?_
  refine Tr.bind part40_spec fun _ => ?_
  refine Tr.pre (P' := iprop(ow c 0 ∗ Wtg I c 3 (ge 13) ∗ Wtg I c 2 (ge 0) ∗ accQ c c rest (finB I) ∗ done c 0 ∗ bufP c cc0_scratch1 (stageB I c) ∗ done c 1 ∗ insP I c ∗ atPos ER (barCell c) 1 ∅ 0 ∗ bufP c cc0_stg5_0 o)) ?_ ?_
  · iintro ⟨HO, HW, Hf, Hr, Hd0, Hs, Hd1, Hin, Ha, Hs2, Hout⟩
    isplitl [HO]; · iexact HO
    isplitl [HW]; · iexact HW
    isplitl [Hs2 Hf]
    · iapply (wtg_go 2); isplitl [Hs2]; · iexact Hs2
      iexact Hf
    isplitl [Hr]; · iexact Hr
    isplitl [Hd0]; · iexact Hd0
    isplitl [Hs]; · iexact Hs
    isplitl [Hd1]; · iexact Hd1
    isplitl [Hin]; · iexact Hin
    isplitl [Ha]; · iexact Ha
    iexact Hout
  refine Tr.bind part41_spec fun _ => ?_
  refine Tr.bind part42_spec fun _ => ?_
  refine Tr.bindv part43_spec ?_
  refine Tr.pre (P' := iprop(bufP c cc0_stg5_0 o ∗ ow c 0 ∗ (atPos ER (barCell c) 1 ∅ 0 ∗ done c 0 ∗ done c 1 ∗ done c 2 ∗ done c 3) ∗ insP I c ∗ bufP c cc0_scratch0 (finB I) ∗ bufP c cc0_scratch1 (stageB I c))) ?_ ?_
  · iintro ⟨Hacc, HO, Hd2, Hd3, Hd0, Hs, Hd1, Hin, Ha, Hout⟩
    isplitl [Hout]; · iexact Hout
    isplitl [HO]; · iexact HO
    isplitl [Ha Hd0 Hd1 Hd2 Hd3]
    · isplitl [Ha]; · iexact Ha
      isplitl [Hd0]; · iexact Hd0
      isplitl [Hd1]; · iexact Hd1
      isplitl [Hd2]; · iexact Hd2
      iexact Hd3
    isplitl [Hin]; · iexact Hin
    isplitl [Hacc]; · iexact Hacc
    iexact Hs
  refine Tr.bindv (Tr.framev (whole_load zero3)) ?_
  refine Tr.bind (Tr.frame _ (whole_store zero3)) fun _ => ?_
  refine Tr.ret ?_
  iintro ⟨Hout, HO, Hd, Hin, Hacc, Hs⟩
  isplitl [HO]; · iexact HO
  isplitl [Hd]; · iexact Hd
  isplitl [Hin]; · iexact Hin
  isplitl [Hacc]; · iexact Hacc
  isplitl [Hs]; · iexact Hs
  iexact Hout

end Cert.KernelIdeal.AllReduce

end
-- ==== Proof.Launch.lean ====
/-
# The kernel's region: what it is entered with, its body, and what it leaves
-/
module

public import proofs.«01_k».proof.Proof.Body
public import proofs.«01_k».proof.Proof.Gen.KernelIdeal.Regions
public import Idealize.ShloMosaic.Lib.Pipeline.RegionTalk
public import Idealize.ShloMosaic.Lib.Pipeline.Regions
public import Idealize.ShloMosaic.Lib.Pipeline.Value

@[expose] public section

set_option maxRecDepth 16384

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-! ## The kernel's own semaphores -/

/-- The DMA semaphores the kernel uses, four arrays of fifteen. -/
abbrev osem : Fin 4 × Fin 15 → SemLoc sig := fun x => .dma (dmaQ x.1 x.2)
/-- The kernel's own semaphores, beside the pipeline's. -/
theorem ownSemFacts : Pipeline.OwnSemFacts spec0 osem where
  isScoped := by decide +kernel
  inj := fun x y h => by
    have := dmaQ_inj (SemLoc.dma.inj h)
    exact Prod.ext this.1 this.2
  disj := by decide +kernel

/-- What every device may consult from the launch on: the cells' invariants, and that the barriers are open. -/
def invs (I : Ins F) (K : GSem nD τ sig → ℕ) : sProp 𝕄 :=
  iprop(bigSep (barCells ∪ dmaCells) (fun g => cellInv ER (sched I) (K g) g) ∗ bigSep Finset.univ (fun d : Dev nD => reached ER (barCell d) 0))
instance invs_persistent (I : Ins F) (K : GSem nD τ sig → ℕ) : BI.Persistent (invs I K) := by unfold invs; infer_instance

/-- The right to open each of a device's DMA cells, -/
def openToks (c : Dev nD) : sProp 𝕄 := bigSep Finset.univ fun x : Fin 4 × Fin 15 => openTok ER (dmaCell c x.1 x.2)
/-- the duties it pays, -/
def toks (c : Dev nD) : sProp 𝕄 := iprop(dutiesB c ∗ duties1 c ∗ tokens2 c)
/-- and the fuel of its waits. -/
def fuels (c : Dev nD) : sProp 𝕄 := iprop(cred (tallyAt (barCell c) () 15) ∗ fuel c 1 ∗ fuel c 3)
/-- What a device keeps for the kernel from the launch, -/
def kept (I : Ins F) (c : Dev nD) : sProp 𝕄 :=
  iprop((∃ K, invs I K ∗ openToks c ∗ atPos ER (barCell c) 0 ∅ 0 ∗ toks c) ∗ fuels c)
/-- what the kernel is entered with, -/
def ready (I : Ins F) (c : Dev nD) : sProp 𝕄 :=
  iprop(∃ K, ctx I K c ∗ toks c ∗ fuels c ∗ (atPos ER (barCell c) 0 ∅ 0 ∗ start c 0 ∗ start c 1 ∗ start c 2 ∗ start c 3))
/-- and what of its semaphores it leaves. -/
def zeros (c : Dev nD) : sProp 𝕄 := iprop(semVal (barCell c) 0 ∗ Pipeline.ownSems0 osem c)

/-- Four families of fifteen, as one of sixty. -/
theorem fin_four (Φ : Fin 4 → Fin 15 → sProp 𝕄) :
    (bigSep Finset.univ fun x : Fin 4 × Fin 15 => Φ x.1 x.2)
      = iprop((bigSep Finset.univ (Φ 0)) ∗ (bigSep Finset.univ (Φ 1)) ∗ (bigSep Finset.univ (Φ 2)) ∗ bigSep Finset.univ (Φ 3)) := by
  rw [bigSep_univ_prod]
  exact bigSep_univ_eq_bigSepL [0, 1, 2, 3] (by decide) (by decide) _

section
variable (I : Ins F) (c : Dev nD)

/-- A DMA cell of the device is opened from its counter at zero. -/
theorem open_one (K : GSem nD τ sig → ℕ) (x : Fin 4 × Fin 15) :
    iprop(invs I K ∗ (openTok ER (dmaCell c x.1 x.2) ∗ semVal ((c : Thread nD τ), osem x) 0))
      ⊢ (|={Set.univ}=> iprop(atPos ER (dmaCell c x.1 x.2) 0 ∅ 0 ∗ reached ER (dmaCell c x.1 x.2) 0) : sProp 𝕄) := by
  have h1 : (bigSep (barCells ∪ dmaCells) (fun g => cellInv ER (sched I) (K g) g) : sProp 𝕄)
      ⊢ cellInv ER (sched I) (K (dmaCell c x.1 x.2)) (dmaCell c x.1 x.2) := bigSep_elim (dma_mem c x.1 x.2)
  unfold invs
  iintro ⟨⟨#H, -⟩, Ho, Hs⟩
  iapply (Rounds.cell_open ER (sched I) (g := dmaCell c x.1 x.2) (Set.mem_univ (K (dmaCell c x.1 x.2))))
  isplitr; · iapply h1; iexact H
  isplitl [Ho]; · iexact Ho
  iexact Hs

/-- All of them. -/
theorem open_all : iprop(kept I c ∗ Pipeline.ownSems0 osem c ∗ levAts L lv) ⊢ (|={Set.univ}=> ready I c : sProp 𝕄) := by
  have h (K : GSem nD τ sig → ℕ) : iprop(invs I K ∗ (bigSep Finset.univ fun x : Fin 4 × Fin 15 =>
        iprop(openTok ER (dmaCell c x.1 x.2) ∗ semVal ((c : Thread nD τ), osem x) 0)))
      ⊢ (|={Set.univ}=> bigSep Finset.univ fun x : Fin 4 × Fin 15 =>
        iprop(atPos ER (dmaCell c x.1 x.2) 0 ∅ 0 ∗ reached ER (dmaCell c x.1 x.2) 0) : sProp 𝕄) :=
    (bigSep_with_persistent (R := invs I K) fun x _ => open_one I c K x).trans (bigSep_fupd _ _)
  unfold kept ready Pipeline.ownSems0 openToks
  iintro ⟨⟨⟨%K, #HI, Ho, Hb, Ht⟩, Hf⟩, Hs, #Hl⟩
  imod (h K) $$ [Ho Hs] with HX
  · isplitr; · iexact HI
    iapply (Entails.of_eq (bigSep_sep' (Finset.univ : Finset (Fin 4 × Fin 15)) _ _).symm)
    isplitl [Ho]; · iexact Ho
    iexact Hs
  ihave HX := (Entails.of_eq (bigSep_sep' (Finset.univ : Finset (Fin 4 × Fin 15)) _ _)) $$ HX
  icases HX with ⟨Ha, #Hr⟩
  imodintro
  iexists K
  isplitr
  · unfold ctx invs
    icases HI with ⟨#H1, #H2⟩
    isplitr; · iexact H1
    isplitr; · iexact H2
    isplitr; · iexact Hr
    iexact Hl
  isplitl [Ht]; · iexact Ht
  isplitl [Hf]; · iexact Hf
  isplitl [Hb]; · iexact Hb
  ihave Ha := (Entails.of_eq (fin_four (F := F) fun k r => atPos ER (dmaCell c k r) 0 ∅ 0)) $$ Ha
  unfold start
  iexact Ha

variable (K : GSem nD τ sig → ℕ)

/-- A cell whose round is over is closed: its counter is at zero. -/
theorem close_one (g : GSem nD τ sig) (hg : g ∈ barCells ∪ dmaCells) :
    iprop(ctx I K c ∗ atPos ER g 1 ∅ 0) ⊢ (|={Set.univ}=> semVal g 0 : sProp 𝕄) := by
  have h1 : (bigSep (barCells ∪ dmaCells) (fun g => cellInv ER (sched I) (K g) g) : sProp 𝕄) ⊢ cellInv ER (sched I) (K g) g := bigSep_elim hg
  unfold ctx
  iintro ⟨⟨#H, -, -, -⟩, Ha⟩
  iapply (Rounds.cell_close ER (sched I) (Set.mem_univ (K g)) (fun h => h) (R := 1) (duties_later I g))
  isplitr; · iapply h1; iexact H
  iexact Ha

/-- At the end every cell of the device is closed. -/
theorem close_all : iprop(ctx I K c ∗ (atPos ER (barCell c) 1 ∅ 0 ∗ done c 0 ∗ done c 1 ∗ done c 2 ∗ done c 3)) ⊢ (|={Set.univ}=> zeros c : sProp 𝕄) := by
  have h : iprop(ctx I K c ∗ (bigSep Finset.univ fun x : Fin 4 × Fin 15 => (atPos ER (dmaCell c x.1 x.2) 1 ∅ 0 : sProp 𝕄)))
      ⊢ (|={Set.univ}=> bigSep Finset.univ fun x : Fin 4 × Fin 15 => semVal (dmaCell c x.1 x.2) 0 : sProp 𝕄) :=
    (bigSep_with_persistent (R := ctx I K c) fun x _ => close_one I c K _ (dma_mem c x.1 x.2)).trans (bigSep_fupd _ _)
  unfold zeros Pipeline.ownSems0
  iintro ⟨#HC, Hb, Hd⟩
  imod (close_one I c K (barCell c) (bar_mem c)) $$ [Hb] with Hb
  · isplitr; · iexact HC
    iexact Hb
  imod h $$ [Hd] with Hd
  · isplitr; · iexact HC
    iapply (Entails.of_eq (fin_four (F := F) fun k r => atPos ER (dmaCell c k r) 1 ∅ 0).symm)
    unfold done
    iexact Hd
  imodintro
  isplitl [Hb]; · iexact Hb
  iexact Hd
end

/-! ## The region's data -/

section Whole
variable {G : Pipeline.Grid} {sp : Space} {s : Shape} {e : EltTy}

/-- An index of a whole-array window's block is the array's own. -/
theorem whole_emb (w : Fin 6) (t : Fin grid0.N) (y : ((win0 w).xblock (grid0.coords t)).Idx) (a) : (((win0 w).rect t).emb y a : ℕ) = y a :=
  Window.rect_emb_val_of_index_zero (win0 w) t a (by fin_cases w <;> rfl) y
end Whole

variable (m : (ℓ : Loc nD τ sig) → Buf (Elt F) ℓ)

/-- The blocks the kernel finds on the devices. -/
def insOf : Ins F where
  X c := V1 m c main_arg0
  Q c := V1 m c main_arg1
  O c := V1 m c main_arg4
  K c := V1 m c main_v9
  V c := V1 m c main_v13

/-- The region's data: the arguments' blocks stay, the result's window is left with the result. -/
def dat (c : Dev nD) : Dat τ (Elt F) Unit ℕ UU ℕ cfg0 c where
  A w := V1 m c (Proc.devRef .tc (Pipeline.arrRef spec0 w))
  after w _ := match w with
    | ⟨0, _⟩ => (insOf m).X c
    | ⟨1, _⟩ => (insOf m).Q c
    | ⟨2, _⟩ => (insOf m).O c
    | ⟨3, _⟩ => (insOf m).K c
    | ⟨4, _⟩ => (insOf m).V c
    | ⟨5, _⟩ => outB (insOf m)
  Φ t := match t with
    | ⟨0, _⟩ => iprop(ready (insOf m) c ∗ Pipeline.scopedRest spec0 c ∗ ∃ r, prngReg c r)
    | ⟨_ + 1, _⟩ => iprop(zeros c ∗ Pipeline.scopedRest spec0 c ∗ ∃ r, prngReg c r)
  q _ := fullShare
  owed t := if t.val = 0 then O₀ c else 0

abbrev pdats (_ : Fin 1) (c : Dev nD) : Dat τ (Elt F) Unit ℕ UU ℕ cfg0 c := dat m c

section
variable (c : Dev nD)

/-- The body finds the tokens in its first buffer. -/
theorem before_0 (t : Fin grid0.N) (d) : (dat m c).before 0 t d = (insOf m).X c :=
  ((dat m c).before_fetched 0 t (fetch0_0 t) d).trans
    (funext fun y => congrArg (V1 m c main_arg0) (funext fun a => Fin.ext (whole_emb 0 t y a)))
/-- The query weights in its second. -/
theorem before_1 (t : Fin grid0.N) (d) : (dat m c).before 1 t d = (insOf m).Q c :=
  ((dat m c).before_fetched 1 t (fetch0_1 t) d).trans
    (funext fun y => congrArg (V1 m c main_arg1) (funext fun a => Fin.ext (whole_emb 1 t y a)))
/-- The output weights in its third. -/
theorem before_2 (t : Fin grid0.N) (d) : (dat m c).before 2 t d = (insOf m).O c :=
  ((dat m c).before_fetched 2 t (fetch0_2 t) d).trans
    (funext fun y => congrArg (V1 m c main_arg4) (funext fun a => Fin.ext (whole_emb 2 t y a)))
/-- The key weights' columns in its fourth. -/
theorem before_3 (t : Fin grid0.N) (d) : (dat m c).before 3 t d = (insOf m).K c :=
  ((dat m c).before_fetched 3 t (fetch0_3 t) d).trans
    (funext fun y => congrArg (V1 m c main_v9) (funext fun a => Fin.ext (whole_emb 3 t y a)))
/-- The value weights' columns in its fifth. -/
theorem before_4 (t : Fin grid0.N) (d) : (dat m c).before 4 t d = (insOf m).V c :=
  ((dat m c).before_fetched 4 t (fetch0_4 t) d).trans
    (funext fun y => congrArg (V1 m c main_v13) (funext fun a => Fin.ext (whole_emb 4 t y a)))

/-- The result's array ends at the result. -/
theorem arrAt_5 : (dat m c).arrAt 5 grid0.N = outB (insOf m) :=
  (dat m c).arrAt_eq_of_cover 5 (outB (insOf m))
    (fun t _ => funext fun y => (congrArg (outB (insOf m)) (funext fun a => Fin.ext (whole_emb 5 t y a))).symm)
    (fun i => ⟨t0_0, flush0_5 t0_0, by
      have h := View.emb_mem_set ((cfg0.win 5).blk t0_0).view i
      have e : ((cfg0.win 5).blk t0_0).view.emb i = i := funext fun a => Fin.ext (whole_emb 5 t0_0 i a)
      rwa [e] at h⟩)

/-- Every window holds its array whole. -/
theorem share_eq (w : Fin 6) : (dat m c).share w = fullShare := by unfold Dat.share; split <;> rfl
/-- What the device owes before and after the body. -/
theorem owed_eq (t : Fin (cfg0.N + 1)) : (dat m c).owed t = if t.val = 0 then O₀ c else 0 := rfl
/-- It owes everything when the kernel is entered. -/
theorem owed_first : (dat m c).owed 0 = O₀ c := by rw [owed_eq]; exact if_pos rfl
/-- It owes everything when the body starts. -/
theorem owed_start : (dat m c).owed t0_0.castSucc = O₀ c := by rw [owed_eq]; exact if_pos rfl
/-- It owes nothing when the body ends. -/
theorem owed_end : (dat m c).owed t0_0.succ = 0 := by rw [owed_eq]; exact if_neg (Nat.succ_ne_zero _)
/-- It owes nothing at the end. -/
theorem owed_last : (dat m c).owed (Fin.last cfg0.N) = 0 := by
  rw [owed_eq, Fin.val_last]; exact if_neg (by rw [show cfg0.N = 1 from N_0]; decide)

/-- What is owed, as the pipeline states it. -/
theorem owes_in (t : Fin (cfg0.N + 1)) (O : CellTallies nD τ sig Unit) (h : (dat m c).owed t = O) : ow c O ⊢ ((dat m c).owesAt () t : sProp 𝕄) := by
  unfold ow Dat.owesAt Pipeline.owesWithin Dat.bound; rw [h]
  iintro ⟨%W, HO⟩; iexists W; isplitr; · ipureintro; exact fun _ _ => Or.inl trivial
  iexact HO
/-- And back. -/
theorem owes_out (t : Fin (cfg0.N + 1)) (O : CellTallies nD τ sig Unit) (h : (dat m c).owed t = O) : ((dat m c).owesAt () t : sProp 𝕄) ⊢ ow c O := by
  unfold ow Dat.owesAt Pipeline.owesWithin; rw [h]
  iintro ⟨%W, -, HO⟩; iexists W; iexact HO

/-- A whole buffer owned is its contents held. -/
theorem owns_buf (b : Ref sig .tc) (X : b.ty.Contents (Elt F)) :
    (owns (Ix := Unit) (Name := ℕ) (U := UU) (Lvl := ℕ) (c : Thread nD τ) (Memref.whole b) fullShare X : sProp 𝕄) ⊢ bufP c b X := by
  unfold owns; simp only [Memref.view_whole, View.read_whole, View.set_whole]
  iintro ⟨%f, %h, H⟩
  rw [← h]; iexact H
/-- A whole buffer held is owned. -/
theorem buf_owns (b : Ref sig .tc) (X : b.ty.Contents (Elt F)) :
    bufP c b X ⊢ (owns (Ix := Unit) (Name := ℕ) (U := UU) (Lvl := ℕ) (c : Thread nD τ) (Memref.whole b) fullShare X : sProp 𝕄) := by
  unfold owns; simp only [Memref.view_whole, View.read_whole, View.set_whole]
  iintro H
  iexists X; isplitr; · ipureintro; rfl
  iexact H

/-- The kernel from what it is entered with: it ends with its counters at zero, the result in place. -/
theorem body_run (I : Ins F) {f : AccC F} {g : StageC F} {o : Vec F S2x128x512 .f32} :
    iprop(ready I c ∗ ow c (O₀ c) ∗ insP I c ∗ accP c f ∗ stageP c g ∗ bufP c cc0_stg5_0 o)
      ⊢ wp Idealize.ShloMosaic.frame (wpE (defs₀ (F := F)) 𝒱₀ (c : Thread nD τ) none) Set.univ (onBufs (cc0_body (F := F)))
        (fun _ => iprop(zeros c ∗ ow c 0 ∗ insP I c ∗ bufP c cc0_scratch0 (finB I) ∗ bufP c cc0_scratch1 (stageB I c) ∗ bufP c cc0_stg5_0 (outB I))) := by
  unfold ready toks fuels
  iintro ⟨⟨%K, #HC, Ht, Hf, Ha⟩, HO, Hin, Hacc, Hst, Hout⟩
  iapply wp_fupd
  iapply (wp_mono _ _ _ (p := onBufs (cc0_body (F := F))) (Q := fun _ => iprop(ctx I K c ∗ ow c 0 ∗ (atPos ER (barCell c) 1 ∅ 0 ∗ done c 0 ∗ done c 1 ∗ done c 2 ∗ done c 3)
        ∗ insP I c ∗ bufP c cc0_scratch0 (finB I) ∗ bufP c cc0_scratch1 (stageB I c) ∗ bufP c cc0_stg5_0 (outB I))) fun _ => by
    iintro ⟨#HC, HO, Hd, Hin, Hacc, Hst, Hout⟩
    imod (close_all I c K) $$ [Hd] with Hz
    · isplitr; · iexact HC
      iexact Hd
    imodintro
    isplitl [Hz]; · iexact Hz
    isplitl [HO]; · iexact HO
    isplitl [Hin]; · iexact Hin
    isplitl [Hacc]; · iexact Hacc
    isplitl [Hst]; · iexact Hst
    iexact Hout)
  iapply wp_frame_l
  isplitr; · iexact HC
  have hb := body_spec (I := I) (K := K) (c := c) (f := f) (g := g) (o := o)
  unfold Tr at hb
  iapply hb
  isplitr; · iexact HC
  isplitl [HO]; · iexact HO
  isplitl [Ht]; · iexact Ht
  isplitl [Hf]; · iexact Hf
  isplitl [Ha]; · iexact Ha
  isplitl [Hin]; · iexact Hin
  isplitl [Hacc]; · iexact Hacc
  isplitl [Hst]; · iexact Hst
  iexact Hout

set_option maxHeartbeats 1000000 in
/-- The body, from what the pipeline calls it with to what it expects back. -/
theorem body_obligation : BodyObligation (dat m c) (defs₀ (F := F)) 𝒱₀ () Set.univ := fun t => by
  obtain rfl := fin_N0 t
  rw [bigSep_W0, bigSep_W0]
  rw [show (dat m c).Φ t0_0.castSucc = iprop(ready (insOf m) c ∗ Pipeline.scopedRest spec0 c ∗ ∃ r, prngReg c r) from rfl,
    show (dat m c).Φ t0_0.succ = iprop(zeros c ∗ Pipeline.scopedRest spec0 c ∗ ∃ r, prngReg c r) from rfl, scopedRest0_eq]
  simp only [before_0, before_1, before_2, before_3, before_4]
  iintro ⟨⟨Hr, ⟨⟨%f, Hacc⟩, ⟨%g, Hst⟩⟩, Hp⟩, HO, ⟨%d0, H0⟩, ⟨%d1, H1⟩, ⟨%d2, H2⟩, ⟨%d3, H3⟩, ⟨%d4, H4⟩, ⟨%d5, H5⟩⟩
  ihave HO := (owes_out m c _ (O₀ c) (owed_start m c)) $$ HO
  ihave H0 := (owns_buf c cc0_stg0_0 ((insOf m).X c)) $$ H0
  ihave H1 := (owns_buf c cc0_stg1_0 ((insOf m).Q c)) $$ H1
  ihave H2 := (owns_buf c cc0_stg2_0 ((insOf m).O c)) $$ H2
  ihave H3 := (owns_buf c cc0_stg3_0 ((insOf m).K c)) $$ H3
  ihave H4 := (owns_buf c cc0_stg4_0 ((insOf m).V c)) $$ H4
  ihave H5 := (owns_buf c cc0_stg5_0 ((dat m c).before 5 t0_0 d5)) $$ H5
  iapply (wp_wand _ _ _ (p := onBufs (cc0_body (F := F)))
    (Q := fun _ => iprop(zeros c ∗ ow c 0 ∗ insP (insOf m) c ∗ bufP c cc0_scratch0 (finB (insOf m)) ∗ bufP c cc0_scratch1 (stageB (insOf m) c) ∗ bufP c cc0_stg5_0 (outB (insOf m))))) $$ [Hr HO Hacc Hst H0 H1 H2 H3 H4 H5]
  · iapply (body_run c (insOf m) (f := f) (g := g) (o := (dat m c).before 5 t0_0 d5))
    unfold insP accP stageP
    isplitl [Hr]; · iexact Hr
    isplitl [HO]; · iexact HO
    isplitl [H0 H1 H2 H3 H4]
    · isplitl [H0 H1 H3]
      · isplitl [H0]; · iexact H0
        isplitl [H1]; · iexact H1
        iexact H3
      isplitl [H4]; · iexact H4
      iexact H2
    isplitl [Hacc]; · iexact Hacc
    isplitl [Hst]; · iexact Hst
    iexact H5
  · iintro %_ ⟨Hz, HO, Hin, Hacc, Hst, H5⟩
    unfold insP
    icases Hin with ⟨⟨H0, H1, H3⟩, ⟨H4, H2⟩⟩
    isplitl [Hz Hacc Hst Hp]
    · isplitl [Hz]; · iexact Hz
      isplitl [Hacc Hst]
      · isplitl [Hacc]; · iexists _; iexact Hacc
        iexists _; iexact Hst
      iexact Hp
    isplitl [HO]; · iapply (owes_in m c _ 0 (owed_end m c)); iexact HO
    isplitl [H0]; · iapply (buf_owns c cc0_stg0_0 ((insOf m).X c)); iexact H0
    isplitl [H1]; · iapply (buf_owns c cc0_stg1_0 ((insOf m).Q c)); iexact H1
    isplitl [H2]; · iapply (buf_owns c cc0_stg2_0 ((insOf m).O c)); iexact H2
    isplitl [H3]; · iapply (buf_owns c cc0_stg3_0 ((insOf m).K c)); iexact H3
    isplitl [H4]; · iapply (buf_owns c cc0_stg4_0 ((insOf m).V c)); iexact H4
    iapply (buf_owns c cc0_stg5_0 (outB (insOf m))); iexact H5
end

/-! ## The region -/

/-- What the region leaves in the result's array. -/
def outs : Outs (F := F) := fun _ r c => if h : r = main_v14 then h ▸ outB (insOf m) else m ((c : Thread nD τ).loc r)
/-- The region leaves the result in the result's array. -/
theorem outs_eq (k : ℕ) (c : Dev nD) : outs m k main_v14 c = outB (insOf m) := by unfold outs; rw [dif_pos rfl]

/-- What no window stages of the device's buffers. -/
abbrev besides : Finset (DevRef τ sig) := Pipeline.ucRefs τ sig \ Pipeline.arrRefs spec0

/-- What is owed has levels above zero. -/
theorem cut (c : Dev nD) (t : Fin (cfg0.N + 1)) (g : GSem nD τ sig) (i : Unit) (h : 0 < (dat m c).owed t g i) : i ∈ L g ∧ (0 : ℕ) < lv g i := by
  rw [owed_eq] at h
  split at h
  · have key : (∃ d : Dev nD, g.1 = (d : Thread nD τ)) ∧ 0 < lv g () := by
      rcases add_pos' h with h | h
      · exact ⟨(oweB_pos h).1, by rw [(oweB_pos h).2]; decide⟩
      rcases add_pos' h with h | h
      · exact ⟨(oweR_pos h).1, by rw [(oweR_pos h).2]; decide⟩
      · exact ⟨(oweR_pos h).1, by rw [(oweR_pos h).2]; decide⟩
    obtain ⟨d, hd⟩ := key.1
    exact ⟨by rw [show L g = {()} from if_pos (by rw [hd])]; exact Finset.mem_singleton_self _, key.2⟩
  · exact absurd h (Nat.lt_irrefl 0)

/-- The region leaves each window's array as the program expects it. -/
theorem leaves (c : Dev nD) (w : Fin 6) : (dat m c).arrAt w grid0.N = V2 m (outs m) c (Proc.devRef .tc (Pipeline.arrRef spec0 w)) := by
  have h (w : Fin 6) (hin : (win0 w).isOut = false) (hr : Pipeline.arrRef spec0 w ∉ ([main_v14] : List (Ref sig .tc))) :
      (dat m c).arrAt w grid0.N = V2 m (outs m) c (Proc.devRef .tc (Pipeline.arrRef spec0 w)) :=
    ((dat m c).arrAt_in w hin _).trans (V2_of m (outs m) c _ hr).symm
  fin_cases w
  · exact h 0 rfl (by decide)
  · exact h 1 rfl (by decide)
  · exact h 2 rfl (by decide)
  · exact h 3 rfl (by decide)
  · exact h 4 rfl (by decide)
  · refine (arrAt_5 m c).trans ?_
    rw [← outs_eq m 2 c]
    exact (Function.update_self (f := V1 m c) (Proc.devRef .tc main_v14) (outs m 2 main_v14 c)).symm

/-- It leaves every other buffer alone. -/
theorem stays (c : Dev nD) (b : DevRef τ sig) (hb : b ∈ besides \ ∅) : V2 m (outs m) c b = V1 m c b := by
  refine Function.update_of_ne (fun e => ?_) _ _
  subst e
  rw [Finset.sdiff_empty, Finset.mem_sdiff] at hb
  exact hb.2 (Finset.mem_map_of_mem _ (Finset.mem_image_of_mem _ (Finset.mem_univ (5 : Fin 6))))

/-- No buffers are nothing. -/
theorem held_none (c : Dev nD) (W : Valuation τ sig (Elt F)) : (StableHlo.held (c : Thread nD τ) ∅ W : sProp 𝕄) = iprop(emp) := by
  unfold StableHlo.held; exact bigSep_empty

/-- What the body starts from. -/
theorem enter (c : Dev nD) : iprop(Pipeline.scopedRest spec0 c ∗ (∃ r, prngReg c r) ∗ StableHlo.held (c : Thread nD τ) ∅ (V1 m c) ∗ ready (insOf m) c) ⊢ (dat m c).Φ 0 := by
  rw [show (dat m c).Φ 0 = iprop(ready (insOf m) c ∗ Pipeline.scopedRest spec0 c ∗ ∃ r, prngReg c r) from rfl]
  iintro ⟨Hs, Hp, -, Hr⟩
  isplitl [Hr]; · iexact Hr
  isplitl [Hs]; · iexact Hs
  iexact Hp
/-- What it leaves. -/
theorem leave (c : Dev nD) : (dat m c).Φ (Fin.last cfg0.N)
    ⊢ iprop(Pipeline.scopedRest spec0 c ∗ (∃ r, prngReg c r) ∗ StableHlo.held (c : Thread nD τ) ∅ (V2 m (outs m) c) ∗ Pipeline.ownSems0 osem c ∗ semVal (barCell c) 0) := by
  rw [show (dat m c).Φ (Fin.last cfg0.N) = iprop(zeros c ∗ Pipeline.scopedRest spec0 c ∗ ∃ r, prngReg c r) from rfl, held_none]
  unfold zeros
  iintro ⟨⟨Hb, Hz⟩, Hs, Hp⟩
  isplitl [Hs]; · iexact Hs
  isplitl [Hp]; · iexact Hp
  isplitr; · iempintro
  isplitl [Hz]; · iexact Hz
  iexact Hb

/-- The pipeline's semaphores are the first six. -/
theorem stage_sem : ∀ (w : Fin 6) (s : Fin (win0 w).nbuf), ((win0 w).sem s).val < 6 := by decide

set_option backward.isDefEq.respectTransparency.types false in
/-- The region of the kernel: entered with its windows' arrays, what the device kept for it and what it owes, left owing
    nothing, the result in place and the barrier's counter at zero. -/
def reg : Pipeline.RegionSeg (pcfgs (F := F)) adm (pdats m) () defs₀ 𝒱₀ L lv 0 :=
  Pipeline.RegionSeg.ofTalk (pcfgs (F := F)) adm (pdats m) () defs₀ 𝒱₀ L lv 0 osem ownSemFacts
    ∅ besides (Finset.empty_subset _) launch0.toP rfl (fun c => (body_obligation m c).loose)
    (fun _ => 0) O₀ (fun c => (owed_first m c).trans (zero_add _).symm) (owed_last m) (fun _ => rfl) (share_eq m)
    (V1 m) (V2 m (outs m)) (stays m)
    (kept (insOf m)) (fun c => semVal (barCell c) 0) (ready (insOf m)) (fun c => semVal (barCell c) 0)
    (open_all (insOf m)) (enter m) (leave m)
    (fun c => by iintro H; imodintro; iexact H)
    (fun _ => 0)
    ⟨fun c w s => by rw [L_tc]; exact Finset.mem_singleton_self _,
      fun c w s => le_of_eq (if_pos (stage_sem w s)), fun c t g i h => cut m c t g i h⟩
    (fun _ => iprop(emp))
    (fun _ _ => rfl) (leaves m)

end Cert.KernelIdeal.AllReduce

end
-- ==== Proof.Run.lean ====
/-
# The run: the launch deals the protocol's ghost state, every device runs the kernel, the result is the sum's contents
-/
module

public import proofs.«01_k».proof.Proof.Launch

@[expose] public section

set_option maxRecDepth 16384

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-! ## The tokens of the duties -/

/-- The tokens of the barriers' duties. -/
def barToks : Finset (GSem nD τ sig × ℕ × DD) := Finset.univ.image fun x : Dev nD × Fin 15 => (barCell x.1, 0, x.2)
/-- The tokens of the DMA cells' duties. -/
def dmaToks : Finset (GSem nD τ sig × ℕ × DD) := Finset.univ.image fun x : Dev nD × Fin 4 × Fin 15 => (dmaCell x.1 x.2.1 x.2.2, 0, 0)

/-- Different devices have different barriers. -/
theorem bar_inj {c d : Dev nD} (h : barCell c = barCell d) : c = d := congrArg (fun g : GSem nD τ sig => g.1.1) h
/-- The DMA cells are all different. -/
theorem dma_inj {c d : Dev nD} {k l : Fin 4} {r s : Fin 15} (h : dmaCell c k r = dmaCell d l s) : c = d ∧ k = l ∧ r = s :=
  ⟨congrArg (fun g : GSem nD τ sig => g.1.1) h, dmaQ_inj (SemLoc.dma.inj (congrArg Prod.snd h))⟩

/-- No barrier's token is a DMA cell's. -/
theorem toks_disjoint : Disjoint barToks dmaToks := by
  rw [Finset.disjoint_left]; intro g h h'
  obtain ⟨c, -, rfl⟩ := Finset.mem_image.mp h
  obtain ⟨x, -, e⟩ := Finset.mem_image.mp h'
  cases (congrArg (fun t : GSem nD τ sig × ℕ × DD => t.1.2) e)

/-- A family over devices and indices, each device's part at `r` handed to the device of which it is the `r`-th peer. -/
theorem around (Φ : Dev nD → Fin 15 → sProp 𝕄) :
    (bigSep Finset.univ fun c => bigSep Finset.univ fun r => Φ c r) = bigSep Finset.univ fun c => bigSep Finset.univ fun r => Φ (peer c r) r := by
  rw [bigSep_univ_comm, bigSep_congr fun r _ => bigSep_univ_equiv (peerE r) fun c => Φ c r, bigSep_univ_comm]
  rfl

/-- The barriers' tokens, dealt to the devices that signal. -/
theorem barToks_eq : (bigSep barToks (fun x => dutyTok ER x.1 x.2.1 x.2.2) : sProp 𝕄) = bigSep Finset.univ fun c : Dev nD => dutiesB c := by
  unfold barToks dutiesB
  rw [bigSep_image_of_injOn (fun x _ y _ h => Prod.ext (bar_inj (congrArg Prod.fst h)) (congrArg (fun t : GSem nD τ sig × ℕ × DD => t.2.2) h)),
    bigSep_univ_prod, bigSep_congr fun c _ => bigSep_univ_equiv revE fun r => dutyTok ER (barCell c) 0 r]
  exact around fun c r => dutyTok ER (barCell c) 0 (rev r)

/-- A token for each cell of a device's array `k`. -/
def array (c : Dev nD) (k : Fin 4) : sProp 𝕄 := bigSep Finset.univ fun r => dutyTok ER (dmaCell c k r) 0 0
/-- A token for each cell of array `k` its copies complete at on its peers. -/
def across (c : Dev nD) (k : Fin 4) : sProp 𝕄 := bigSep Finset.univ fun r => dutyTok ER (dmaCell (peer c r) k r) 0 0

/-- The DMA cells' tokens, dealt to the devices of the cells. -/
theorem dmaToks_eq : (bigSep dmaToks (fun x => dutyTok ER x.1 x.2.1 x.2.2) : sProp 𝕄)
    = bigSep Finset.univ fun c : Dev nD => iprop(array c 0 ∗ array c 1 ∗ array c 2 ∗ array c 3) := by
  unfold dmaToks
  rw [bigSep_image_of_injOn (fun x _ y _ h => by
      obtain ⟨h1, h2, h3⟩ := dma_inj (congrArg Prod.fst h)
      exact Prod.ext h1 (Prod.ext h2 h3)), bigSep_univ_prod]
  exact bigSep_congr fun c _ => fin_four fun k r => dutyTok ER (dmaCell c k r) 0 0

/-- All tokens dealt to the devices that pay the duties. -/
theorem dealt : iprop((bigSep Finset.univ fun c : Dev nD => (dutiesB c : sProp 𝕄))
      ∗ bigSep Finset.univ fun c : Dev nD => iprop(array c 0 ∗ array c 1 ∗ array c 2 ∗ array c 3))
    ⊢ bigSep Finset.univ fun c : Dev nD => toks c := by
  have e (k : Fin 4) : (bigSep Finset.univ fun c : Dev nD => (array c k : sProp 𝕄)) = bigSep Finset.univ fun c : Dev nD => across c k := by
    unfold array across; exact around fun c r => dutyTok ER (dmaCell c k r) 0 0
  have t (c : Dev nD) : (toks c : sProp 𝕄) = iprop(dutiesB c ∗ (array c 0 ∗ across c 1) ∗ (array c 2 ∗ across c 3)) := by
    unfold toks duties1 tokens2 array across
    rw [bigSep_sep', bigSep_sep']
  rw [bigSep_congr fun c _ => t c]
  simp only [bigSep_sep', e 1, e 3]
  iintro ⟨H, H0, H1, H2, H3⟩
  isplitl [H]; · iexact H
  isplitl [H0 H1]
  · isplitl [H0]; · iexact H0
    iexact H1
  isplitl [H2]; · iexact H2
  iexact H3

/-! ## The launch credit -/

/-- Fifteen signals are owed to a barrier. -/
theorem sum_bar (c : Dev nD) : ∑ d : Dev nD, oweB d Finset.univ (barCell c) () = 15 := by
  have h (d : Dev nD) (r : Fin 15) : (tallyAt (barCell (peer d r)) () 1 : CellTallies nD τ sig Unit) (barCell c) () = if d = src c r then 1 else 0 := by
    rw [tallyAt_apply]
    refine if_congr ⟨fun h => ?_, fun h => ⟨?_, rfl⟩⟩ rfl rfl
    · rw [bar_inj h.1, src_peer]
    · rw [h, peer_src]
  simp only [oweB, Finset.sum_apply, Finsupp.finset_sum_apply, h]
  rw [Finset.sum_comm]
  simp only [Finset.sum_ite_eq', Finset.mem_univ, if_true]
  rfl
/-- One copy is owed to a landing cell. -/
theorem sum_dma (c : Dev nD) (k l : Fin 4) (r : Fin 15) : ∑ d : Dev nD, oweR l d Finset.univ (dmaCell c k r) () = if l = k then N else 0 := by
  have h (d : Dev nD) (s : Fin 15) : (tallyAt (dmaCell (peer d s) l s) () N : CellTallies nD τ sig Unit) (dmaCell c k r) ()
      = if s = r then (if d = src c r then (if l = k then N else 0) else 0) else 0 := by
    rw [tallyAt_apply, ← ite_and, ← ite_and]
    refine if_congr ⟨fun h => ?_, fun h => ⟨?_, rfl⟩⟩ rfl rfl
    · obtain ⟨h1, h2, h3⟩ := dma_inj h.1
      exact ⟨⟨h3.symm, by rw [h1, h3, src_peer]⟩, h2.symm⟩
    · obtain ⟨⟨rfl, rfl⟩, rfl⟩ := h
      rw [peer_src]
  simp only [oweR, Finset.sum_apply, Finsupp.finset_sum_apply, h]
  simp only [Finset.sum_ite_eq', Finset.mem_univ, if_true]
/-- No signal is owed to a DMA cell. -/
theorem sum_bar_dma (c : Dev nD) (k : Fin 4) (r : Fin 15) : ∑ d : Dev nD, oweB d Finset.univ (dmaCell c k r) () = 0 :=
  Finset.sum_eq_zero fun d _ => Nat.eq_zero_of_not_pos fun h => by cases (congrArg Prod.snd (sum_tally_pos h).choose_spec)
/-- No copy is owed to a barrier. -/
theorem sum_dma_bar (c : Dev nD) (l : Fin 4) : ∑ d : Dev nD, oweR l d Finset.univ (barCell c) () = 0 :=
  Finset.sum_eq_zero fun d _ => Nat.eq_zero_of_not_pos fun h => by cases (congrArg Prod.snd (sum_tally_pos h).choose_spec)

/-- All that is owed to a cell, by kinds. -/
theorem sum_owed (g : GSem nD τ sig) : ∑ d : Dev nD, O₀ d g () = ∑ d : Dev nD, oweB d Finset.univ g ()
    + (∑ d : Dev nD, oweR 1 d Finset.univ g () + ∑ d : Dev nD, oweR 3 d Finset.univ g ()) := by
  rw [← Finset.sum_add_distrib, ← Finset.sum_add_distrib]; rfl

/-- A barrier's fuel at the launch. -/
theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, sum_owed, sum_bar, sum_dma_bar, sum_dma_bar]
/-- A landing cell's fuel at the launch. -/
theorem launch_dma (c : Dev nD) (k : Fin 4) (r : Fin 15) (hk : k = 1 ∨ k = 3) :
    tallyOn (dmaCell c k r) (launchCredit (Pipeline.owing O₀) 0 (dmaCell c k r)) = (tallyAt (dmaCell c k r) () N : CellTallies nD τ sig Unit) := by
  unfold tallyAt; refine congrArg _ (Finsupp.ext fun u => ?_); cases u
  rw [Pipeline.launchCredit_owing, Finsupp.single_eq_same, sum_owed, sum_bar_dma, sum_dma, sum_dma]
  rcases hk with rfl | rfl
  · rw [if_pos rfl, if_neg (by decide)]; omega
  · rw [if_pos rfl, if_neg (by decide)]; omega

/-- Of a family over a device's semaphores: the barrier's member, and those of arrays 1 and 3. -/
theorem pick (Φ : SemLoc sig → sProp 𝕄) : bigSep Finset.univ Φ
    ⊢ iprop(Φ (SemLoc.reg barS) ∗ (bigSep Finset.univ fun r : Fin 15 => Φ (osem (1, r))) ∗ bigSep Finset.univ fun r : Fin 15 => Φ (osem (3, r))) := by
  have two : bigSep ((Finset.univ : Finset (Fin 2 × Fin 15)).image fun x => osem ((![1, 3] : Fin 2 → Fin 4) x.1, x.2)) Φ
      = iprop((bigSep Finset.univ fun r : Fin 15 => Φ (osem (1, r))) ∗ bigSep Finset.univ fun r : Fin 15 => Φ (osem (3, r))) := by
    rw [bigSep_image_of_injOn (fun x _ y _ h => by
      have e := ownSemFacts.inj h
      have e1 := congrArg Prod.fst e
      have e2 := congrArg Prod.snd e
      exact Prod.ext ((by decide : Function.Injective (![1, 3] : Fin 2 → Fin 4)) e1) e2),
      bigSep_univ_prod, BI.bigSep_fin_two]
    exact rfl
  rw [bigSep_univ_at Φ (SemLoc.reg barS), ← two]
  refine sep_mono_right (bigSep_subset fun s hs => ?_)
  obtain ⟨x, -, rfl⟩ := Finset.mem_image.mp hs
  have ne : osem ((![1, 3] : Fin 2 → Fin 4) x.1, x.2) ≠ SemLoc.reg barS := fun e => by cases e
  exact Finset.mem_erase.mpr ⟨ne, Finset.mem_univ _⟩

/-- The launch credit of a device is the fuel of its waits. -/
theorem creds (c : Dev nD) : (Pipeline.launchCred O₀ c : sProp 𝕄) ⊢ fuels c := by
  have h (k : Fin 4) (hk : k = 1 ∨ k = 3) : (bigSep Finset.univ fun r : Fin 15 => (cred (tallyOn (dmaCell c k r) (launchCredit (Pipeline.owing O₀) 0 (dmaCell c k r))) : sProp 𝕄))
      = fuel c k := by
    unfold fuel
    exact bigSep_congr fun r _ => by rw [launch_dma c k r hk]
  unfold Pipeline.launchCred fuels
  refine (pick (F := F) _).trans (Entails.of_eq ?_)
  rw [← h 1 (.inl rfl), ← h 3 (.inr rfl), ← launch_bar]

/-! ## The launch -/

/-- All of a resource on device 0, nothing on the others. -/
def parked (X : sProp 𝕄) (c : Dev nD) : sProp 𝕄 := if c = 0 then X else iprop(emp)
/-- A parked resource is the resource. -/
theorem parked_eq (X : sProp 𝕄) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- The protocol's part of the launch element, parked on device 0 until the launch deals it. -/
def G : Dev nD → sProp 𝕄 := parked (BI.own (ER (launchOf barCells dmaCells (barToks ∪ dmaToks))))
/-- The launch element: the pipeline's and the protocol's. -/
def u₀ : UU := (initOf (Pipeline.cells (Pipeline.pin (pcfgs (F := F)) adm) cellOf_inj) (Pipeline.launchToks (Pipeline.pin (pcfgs (F := F)) adm) cellOf_inj),
  launchOf barCells dmaCells (barToks ∪ dmaToks))

variable (m : (ℓ : Loc nD τ sig) → Buf (Elt F) ℓ) (ρ : Dev nD → PrngReg)

/-- Only the barrier outlives the kernel. -/
theorem unscoped_eq : ∀ sm : SemLoc sig, sm.isScoped .tc = false → sm = .reg barS := by decide
/-- Its counter is the one the launch gives. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, bigSep_singleton]

/-- What beside the buffers a device has before the region. -/
def rest0 (c : Dev nD) : sProp 𝕄 := iprop(kept (insOf m) c ∗ (∃ W, owes (c : Thread nD τ) (O₀ c) W) ∗ ∃ r, prngReg c r)
/-- What it has after. -/
def rest1 (c : Dev nD) : sProp 𝕄 := iprop(semVal (barCell c) 0 ∗ (∃ W, owes (c : Thread nD τ) (0 : CellTallies nD τ sig Unit) W))
abbrev rests : Fin 2 → Dev nD → sProp 𝕄 := fun | 0 => rest0 m | 1 => rest1

/-- What of a device's launch holdings the protocol does not turn into ghost state. -/
def plain (c : Dev nD) : sProp 𝕄 :=
  iprop(StableHlo.held (c : Thread nD τ) (Pipeline.ucRefs τ sig) (V0 m c) ∗ fuels c ∗ owes (c : Thread nD τ) (O₀ c) ∅ ∗ prngReg c (ρ c))
/-- What the protocol does. -/
def ghost (c : Dev nD) : sProp 𝕄 := iprop(openToks c ∗ atPos ER (barCell c) 0 ∅ 0 ∗ toks c)

abbrev T₀ (c : Dev nD) : sProp 𝕄 := iprop(StableHlo.held (c : Thread nD τ) (Pipeline.ucRefs τ sig) (V0 m c) ∗ rests m 0 c)
abbrev Tₙ (c : Dev nD) : sProp 𝕄 := iprop(StableHlo.held (c : Thread nD τ) (Pipeline.ucRefs τ sig) (V2 m (outs m) c) ∗ semVal (barCell c) 0)

/-- What is dealt to a device makes its state before the program. -/
theorem T₀_intro (K : GSem nD τ sig → ℕ) (c : Dev nD) : iprop(invs (insOf m) K ∗ (ghost c ∗ plain m ρ c)) ⊢ T₀ m c := by
  show _ ⊢ iprop(StableHlo.held (c : Thread nD τ) (Pipeline.ucRefs τ sig) (V0 m c) ∗ rest0 m c)
  unfold ghost plain rest0 kept
  iintro ⟨#HI, ⟨Ho, Ha, Ht⟩, Hh, Hf, HO, Hp⟩
  isplitl [Hh]; · iexact Hh
  isplitl [Ho Ha Ht Hf]
  · isplitr [Hf]
    · iexists K
      isplitr; · iexact HI
      isplitl [Ho]; · iexact Ho
      isplitl [Ha]; · iexact Ha
      iexact Ht
    iexact Hf
  isplitl [HO]; · iexists ∅; iexact HO
  iexists (ρ c); iexact Hp

/-- What the launch gives a device, its ghost resources aside. -/
theorem plain_intro (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(plain m ρ c ∗ (semVal (barCell c) 0 ∗ G c)) : sProp 𝕄) := by
  rw [unscopedSems0_eq]
  unfold plain
  rw [← Pipeline.unscopedBufs_held (Ix := Unit) (Name := ℕ) (U := UU) (Lvl := ℕ) c (V0 m c)]
  iintro ⟨Hh, Hs, HO, Hc, Hp, HG⟩
  ihave Hf := (creds (F := F) c) $$ Hc
  isplitl [Hh Hf HO Hp]
  · isplitl [Hh]; · iexact Hh
    isplitl [Hf]; · iexact Hf
    isplitl [HO]; · iexact HO
    iexact Hp
  isplitl [Hs]; · iexact Hs
  iexact HG

/-- The same of all devices at once. -/
theorem plain_all : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop((bigSep Finset.univ fun c : Dev nD => plain m ρ c) ∗ (bigSep Finset.univ fun c : Dev nD => semVal (barCell c) 0) ∗ bigSep Finset.univ G) : sProp 𝕄) := by
  rw [← bigSep_sep', ← bigSep_sep']
  exact bigSep_mono fun c _ => plain_intro m ρ c

/-- A family over the barriers is one over the devices. -/
theorem bars (Φ : GSem nD τ sig → sProp 𝕄) : bigSep barCells Φ = bigSep Finset.univ fun c : Dev nD => Φ (barCell c) :=
  bigSep_image_of_injOn (fun c _ d _ h => bar_inj h) Φ
/-- The DMA cells' opening tokens, by devices. -/
theorem opens : (bigSep dmaCells (fun g => openTok ER g) : sProp 𝕄) = bigSep Finset.univ fun c : Dev nD => openToks c := by
  unfold dmaCells openToks
  rw [bigSep_image_of_injOn (fun x _ y _ h => by
    obtain ⟨h1, h2, h3⟩ := dma_inj h
    exact Prod.ext h1 (Prod.ext h2 h3)), bigSep_univ_prod]

/-- What the launch of the protocol leaves linear, dealt to the devices. -/
theorem ghosts : iprop((bigSep barCells fun g => atPos ER g 0 ∅ 0) ∗ (bigSep dmaCells fun g => openTok ER g)
      ∗ bigSep (barToks ∪ dmaToks) fun x => dutyTok ER x.1 x.2.1 x.2.2)
    ⊢ (bigSep Finset.univ fun c : Dev nD => ghost c : sProp 𝕄) := by
  have u : (bigSep (barToks ∪ dmaToks) (fun x => dutyTok ER x.1 x.2.1 x.2.2) : sProp 𝕄) ⊢ bigSep Finset.univ fun c : Dev nD => toks c :=
    (Entails.of_eq ((bigSep_union toks_disjoint).trans (by rw [barToks_eq, dmaToks_eq]; rfl))).trans (dealt (F := F))
  unfold ghost
  rw [bigSep_sep', bigSep_sep', opens, bars]
  iintro ⟨Ha, Ho, Ht⟩
  isplitl [Ho]; · iexact Ho
  isplitl [Ha]; · iexact Ha
  iapply u; iexact Ht

/-- The launch of the protocol, on any cells. -/
theorem funded (I : Ins F) (S Sd : Finset (GSem nD τ sig)) (hd : Disjoint S Sd) (T : Finset (GSem nD τ sig × ℕ × DD)) :
    iprop((bigSep S fun g => semVal g 0) ∗ BI.own (ER (launchOf S Sd T)))
      ⊢ (|={Set.univ}=> iprop(∃ K : GSem nD τ sig → ℕ, ((bigSep (S ∪ Sd) fun g => cellInv ER (sched I) (K g) g) ∗ bigSep S fun g => reached ER g 0)
        ∗ (bigSep S fun g => atPos ER g 0 ∅ 0) ∗ (bigSep Sd fun g => openTok ER g) ∗ bigSep T fun x => dutyTok ER x.1 x.2.1 x.2.2) : sProp 𝕄) := by
  iintro ⟨Hv, HG⟩
  imod (Rounds.fund_launch ER (sched I) hd (fun g _ h => h) T) $$ [Hv HG] with ⟨%K, -, #Hinv, #Hr, Hat, Hopen, Htok⟩
  · isplitl [Hv]; · iexact Hv
    iexact HG
  imodintro
  iexists K
  isplitr
  · isplitr; · iexact Hinv
    iexact Hr
  isplitl [Hat]; · iexact Hat
  isplitl [Hopen]; · iexact Hopen
  iexact Htok

/-- The launch of the protocol, on its cells, dealt to the devices. -/
theorem dealt_all (I : Ins F) : iprop((bigSep Finset.univ fun c : Dev nD => semVal (barCell c) 0) ∗ bigSep Finset.univ G)
    ⊢ (|={Set.univ}=> iprop(∃ K, invs I K ∗ bigSep Finset.univ fun c : Dev nD => ghost c) : sProp 𝕄) := by
  unfold G
  rw [parked_eq, ← bars fun g => semVal g 0]
  refine (funded I barCells dmaCells cells_disjoint (barToks ∪ dmaToks)).trans (fupd_mono ?_)
  unfold invs
  iintro ⟨%K, ⟨Hi, Hr⟩, H⟩
  iexists K
  isplitl [Hi Hr]
  · isplitl [Hi]; · iexact Hi
    iapply (Entails.of_eq (bars fun g => reached ER g 0)); iexact Hr
  iapply (ghosts (F := F)); iexact H

/-- What the launch deals makes every device's state before the program. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H := (plain_all m ρ) $$ H
  icases H with ⟨HB, Hv, HG⟩
  imod (dealt_all (insOf m)) $$ [Hv HG] with ⟨%K, #HI, Hg⟩
  · isplitl [Hv]; · iexact Hv
    iexact HG
  imodintro
  iapply (bigSep_with_persistent (R := invs (insOf m) K) (Φ := fun c => iprop(ghost c ∗ plain m ρ c)) fun c _ => T₀_intro m ρ K c)
  isplitr; · iexact HI
  iapply (Entails.of_eq (bigSep_sep' (Finset.univ : Finset (Dev nD)) _ _).symm)
  isplitl [Hg]; · iexact Hg
  iexact HB

/-! ## The run -/

/-- The state before the region, as the region expects it. -/
theorem entered (c : Dev nD) : iprop(StableHlo.held (c : Thread nD τ) (Pipeline.ucRefs τ sig) (V1 m c) ∗ rests m 0 c) ⊢ (reg m).pre c := by
  show iprop(StableHlo.held (c : Thread nD τ) (Pipeline.ucRefs τ sig) (V1 m c) ∗ rest0 m c)
    ⊢ iprop(StableHlo.held (c : Thread nD τ) (Pipeline.arrRefs spec0) (V1 m c) ∗ (∃ r, prngReg c r)
      ∗ (StableHlo.held (c : Thread nD τ) besides (V1 m c) ∗ emp) ∗ kept (insOf m) c ∗ ∃ Wd, owes (c : Thread nD τ) (0 + O₀ c) Wd)
  rw [StableHlo.held_sub_split (c : Thread nD τ) (Pipeline.arrRefs_sub_ucRefs spec0 (by decide)) (V1 m c), zero_add]
  unfold rest0
  iintro ⟨⟨Ha, Hb⟩, Hk, HO, Hp⟩
  isplitl [Ha]; · iexact Ha
  isplitl [Hp]; · iexact Hp
  isplitl [Hb]
  · isplitl [Hb]; · iexact Hb
    iempintro
  isplitl [Hk]; · iexact Hk
  iexact HO
/-- The state after the region, as the program ends. -/
theorem left (c : Dev nD) : (reg m).post c ⊢ iprop(Tₙ m c ∗ ∃ W, owes (c : Thread nD τ) (0 : CellTallies nD τ sig Unit) W) := by
  show iprop(StableHlo.held (c : Thread nD τ) (Pipeline.arrRefs spec0) (V2 m (outs m) c) ∗ (∃ r, prngReg c r)
      ∗ (StableHlo.held (c : Thread nD τ) besides (V2 m (outs m) c) ∗ emp) ∗ semVal (barCell c) 0 ∗ ∃ Wd, owes (c : Thread nD τ) (0 : CellTallies nD τ sig Unit) Wd) ⊢ _
  unfold Tₙ
  rw [StableHlo.held_sub_split (c : Thread nD τ) (Pipeline.arrRefs_sub_ucRefs spec0 (by decide)) (V2 m (outs m) c)]
  iintro ⟨Ha, -, ⟨Hb, -⟩, Hs, HO⟩
  isplitr [HO]
  · isplitl [Ha Hb]
    · isplitl [Ha]; · iexact Ha
      iexact Hb
    iexact Hs
  iexact HO

set_option backward.isDefEq.respectTransparency.types false in
/-- From any memory with zero counters, every fair run of the program on the sixteen devices ends, and at its end on every
    device the arguments are as launched, the result holds the contents `outB` of the launch's arguments, and every
    counter is at zero. -/
theorem run_main : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_v14) = outB (insOf m)) ∧ r.2.sem = fun _ => 0) := by
  refine Pipeline.θ_run_regions_kit_dev_sems (pcfgs (F := F)) adm (pdats m) () cellOf_inj EP defs₀ 𝒱₀ L lv m ρ main
    (segs m 𝒱₀ L lv (rests m) () (pdats m) (reg m))
    (fun c Q => by
      rewrite [main_chain c, Pipeline.Seg.run_eq_chain,
        show (segs m 𝒱₀ L lv (rests m) () (pdats m) (reg m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    O₀ L_of_ne G u₀
    (by
      unfold u₀ G
      iintro Hu
      ihave H := (ownU_pair _ _) $$ Hu
      icases H with ⟨HP, HX⟩
      imodintro
      isplitl [HP]; · iexact HP
      rw [parked_eq]; iexact HX)
    (T₀ := T₀ m) (Tₙ := Tₙ m)
    (hch := fun c => ⟨.rfl, entered m c, left m c⟩)
    (hinit := init m ρ)
    (QY := fun c s => (s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)
      ∧ s.mem ((c : Thread nD τ).loc main_v14) = outB (insOf m)) ∧ s.sem (barCell c) = 0)
    (hfin := fun c s' => ?_)
    (hQ := fun s h hs => ⟨fun c => (h c).1, sem_eq_zero hs fun c sm hsm => by
      obtain rfl := unscoped_eq sm hsm
      exact (h c).2⟩)
  unfold Tₙ StableHlo.held
  iintro ⟨⟨Hh, Hb⟩, HSI⟩
  icombine HSI Hb gives %hb
  ihave Hr := (pointsTo_read_all (Pipeline.ucRefs τ sig) (fun b => ((c : Thread nD τ).1, b)) (V2 m (outs m) c) s') $$ [Hh HSI]
  · isplitl [Hh] <;> iassumption
  icases Hr with ⟨%h, HSI⟩
  imodintro
  isplitr
  · ipureintro
    have rd (r : Ref sig .tc) (hr : (Proc.devRef .tc r).isScoped = false) := h (Proc.devRef .tc r) (Finset.mem_filter.mpr ⟨StableHlo.devRef_mem_tcRefs r, by simpa using hr⟩)
    exact ⟨⟨(rd main_arg0 (by decide)).trans (V2_main_arg0 m (outs m) c), (rd main_arg1 (by decide)).trans (V2_main_arg1 m (outs m) c),
      (rd main_arg2 (by decide)).trans (V2_main_arg2 m (outs m) c), (rd main_arg3 (by decide)).trans (V2_main_arg3 m (outs m) c),
      (rd main_arg4 (by decide)).trans (V2_main_arg4 m (outs m) c),
      (rd main_v14 (by decide)).trans ((Function.update_self (f := V1 m c) (Proc.devRef .tc main_v14) (outs m 2 main_v14 c)).trans (outs_eq m 2 c))⟩,
      by simpa using hb⟩
  iexact HSI

end Cert.KernelIdeal.AllReduce

end
-- ==== Proof.Attention.lean ====
/-
# The attention each device computes, over the extended reals

One head's attention row as a function of the query row and of the keys and values, and what a device's partial result
holds at an index: the device's eight heads' attention rows, contracted with the device's block of the output weights.
-/
module

public import proofs.«01_k».proof.Proof.Contents
public import Idealize.ShloMosaic.Lib.Pointwise
public import Idealize.ShloMosaic.Lib.Pipeline.Value

@[expose] public section

set_option maxRecDepth 16384

noncomputable section

namespace Cert.KernelIdeal.AllReduce

open Cert.KernelIdeal Cert.KernelIdeal.Gen
open Idealize.ShloMosaic

/-! ### One head's attention row -/

/-- The scaled score of a query row against key `j`. -/
def score (q : Fin 64 → EReal) (k : Fin 128 → Fin 64 → EReal) (j : Fin 128) : EReal :=
  (∑ e : Fin 64, q e * k j e) * Ideal.ofBits .f32 0x3E000000#32

/-- The largest score of a query row. -/
def peak (q : Fin 64 → EReal) (k : Fin 128 → Fin 64 → EReal) : EReal :=
  Finset.fold max (Ideal.ofBits .f32 0xFF800000#32) (fun j => score q k j) Finset.univ

/-- The unnormalised weight of key `j`: the exponential of its score less the largest. -/
def weight (q : Fin 64 → EReal) (k : Fin 128 → Fin 64 → EReal) (j : Fin 128) : EReal :=
  Ideal.exp (score q k j - peak q k)

/-- One head's attention row: the weighted values over the sum of the weights. -/
def head (q : Fin 64 → EReal) (k v : Fin 128 → Fin 64 → EReal) (d : Fin 64) : EReal :=
  Ideal.div (∑ j : Fin 128, weight q k j * v j d) (∑ j : Fin 128, weight q k j)

/-- A sum over `A * B` positions, taken block by block. -/
theorem sum_blocks {A B N : Nat} (hN : N = A * B) (f : Fin N → EReal) (hlt : ∀ (a : Fin A) (b : Fin B), B * a.val + b.val < N) :
    ∑ n, f n = ∑ a : Fin A, ∑ b : Fin B, f ⟨B * a.val + b.val, hlt a b⟩ := by
  subst hN
  rw [← Fintype.sum_prod_type', ← finProdFinEquiv.sum_comp]
  exact Finset.sum_congr rfl fun p _ => congrArg f (Fin.ext (by simp [finProdFinEquiv, Nat.add_comm]))

/-! ### The kernel's steps, named -/

/-- The scores of four heads' query rows, stacked, against one group's keys. -/
def scores (q : FVec Ideal S512x64 .bf16) (k : FVec Ideal S128x64 .bf16) : FVec Ideal S512x128 .f32 :=
  have z : FVec Ideal S512x128 .f32 := constant S512x128 .f32 0x00000000#32
  have c : Ideal .f32 := Scalar.ofBits .f32 0x3E000000#32
  have s : FVec Ideal S512x128 .f32 := broadcast S512x128 c
  mulf (matmul dot_S512x64_S128x64_S512x128_1_1_0_0_n_n none q k z) s

/-- The attention rows of scores and one group's values. -/
def rows (s : FVec Ideal S512x128 .f32) (v : FVec Ideal S128x64 .bf16) : FVec Ideal S512x64 .f32 :=
  have t : FVec Ideal S512 .f32 := multiReduction .maximumf [1] S512 s 0xFF800000#32 reduces_S512x128_S512 (.inl rfl) rfl
  have p : FVec Ideal S512x128 .f32 :=
    exp (subf s (broadcastTo S512x128 (shapeCast S512x1 t shapeCasts_S512_S512x1) broadcasts_S512x1_S512x128))
  have l : FVec Ideal S512 .f32 := multiReduction .add [1] S512 p 0x00000000#32 reduces_S512x128_S512 (.inl rfl) rfl
  have z : FVec Ideal S512x64 .f32 := constant S512x64 .f32 0x00000000#32
  divf (matmul dot_S512x128_S128x64_S512x64_1_0_0_1_n_n none (truncf .bf16 p bitsLt_bf16_f32) v z)
    (broadcastTo S512x64 (shapeCast S512x1 l shapeCasts_S512_S512x1) broadcasts_S512x1_S512x64)

/-- Four heads' query rows, stacked. -/
def stack (x : Fin 4 → FVec Ideal S128x64 .f32) : FVec Ideal S512x64 .bf16 :=
  truncf .bf16 (concatenate S512x64 0 [⟨S128x64, x 0⟩, ⟨S128x64, x 1⟩, ⟨S128x64, x 2⟩, ⟨S128x64, x 3⟩]
    concatenates_S128x64_S128x64_S128x64_S128x64_S512x64_d0) bitsLt_bf16_f32

/-- The four heads of a stack lie 128 rows apart. -/
theorem unstacks (a : Fin 4) : S512x64.Slices ![128 * a.val, 0] S128x64 := by revert a; decide

/-- Two groups' attention rows, unstacked and laid side by side, one head after another. -/
def aside (x : Fin 2 → FVec Ideal S512x64 .f32) : FVec Ideal S128x512 .f32 :=
  have y (g : Fin 2) (a : Fin 4) : FVec Ideal S128x64 .f32 := extractStridedSlice S128x64 ![128 * a.val, 0] (x g) (unstacks a)
  concatenate S128x512 1 [⟨S128x64, y 0 0⟩, ⟨S128x64, y 0 1⟩, ⟨S128x64, y 0 2⟩, ⟨S128x64, y 0 3⟩,
    ⟨S128x64, y 1 0⟩, ⟨S128x64, y 1 1⟩, ⟨S128x64, y 1 2⟩, ⟨S128x64, y 1 3⟩]
    concatenates_S128x64_S128x64_S128x64_S128x64_S128x64_S128x64_S128x64_S128x64_S128x512_d1

/-- The product of the heads' rows with the output weights. -/
def project (x : FVec Ideal S128x512 .f32) (o : FVec Ideal S512x512 .bf16) : FVec Ideal S128x512 .bf16 :=
  have z : FVec Ideal S128x512 .f32 := constant S128x512 .f32 0x00000000#32
  shapeCast S128x512 (truncf .bf16 (matmul dot_S128x512_S512x512_S128x512_1_0_0_1_n_n none
    (truncf .bf16 x bitsLt_bf16_f32) o z) bitsLt_bf16_f32) shapeCasts_S128x512_S128x512

/-- A head's query rows lie inside the queries. -/
theorem cutsQ (b g : Fin 2) (a : Fin 4) : S256x512.Slices ![128 * b.val, 64 * (4 * g.val + a.val)] S128x64 := by
  revert b g a; decide

/-- A group's keys or values lie inside the device's. -/
theorem cutsK (b g : Fin 2) : S256x128.Slices ![128 * b.val, 64 * g.val] S128x64 := by
  revert b g; decide

/-- One sequence's half of a device's partial result. -/
def part (b : Fin 2) (q : FVec Ideal S256x512 .f32) (k v : FVec Ideal S256x128 .f32) (o : FVec Ideal S512x512 .bf16) :
    FVec Ideal S128x512 .bf16 :=
  project (aside fun g =>
    rows (scores (stack fun a => extractStridedSlice S128x64 ![128 * b.val, 64 * (4 * g.val + a.val)] q (cutsQ b g a))
      (truncf .bf16 (extractStridedSlice S128x64 ![128 * b.val, 64 * g.val] k (cutsK b g)) bitsLt_bf16_f32))
      (truncf .bf16 (extractStridedSlice S128x64 ![128 * b.val, 64 * g.val] v (cutsK b g)) bitsLt_bf16_f32)) o

/-- The first half of a device's partial result is the first sequence's. -/
theorem topB_eq (I : Ins Ideal) (c : Dev nD) : topB I c = part 0 (qB I c) (kB I c) (vB I c) (oB I c) := rfl

/-- The second half is the second sequence's. -/
theorem botB_eq (I : Ins Ideal) (c : Dev nD) : botB I c = part 1 (qB I c) (kB I c) (vB I c) (oB I c) := rfl

/-! ### The steps at an index -/

/-- The scores of a stacked query row against the keys, at an index. -/
theorem scores_apply (q : FVec Ideal S512x64 .bf16) (k : FVec Ideal S128x64 .bf16) (r : Fin 512) (j : Fin 128) :
    scores q k (ix2 r j) = score (fun e => q (ix2 r e)) (fun j e => k (ix2 j e)) j := by
  pointwise [scores]
  rfl

/-- The attention rows at an index: each is the attention row of its own query row. -/
theorem rows_apply (q : FVec Ideal S512x64 .bf16) (k v : FVec Ideal S128x64 .bf16) (r : Fin 512) (d : Fin 64) :
    rows (scores q k) v (ix2 r d)
      = head (fun e => q (ix2 r e)) (fun j e => k (ix2 j e)) (fun j e => v (ix2 j e)) d := by
  pointwise [rows]
  simp only [scores_apply]
  rfl

/-- Row `128 a + i` of the stack is row `i` of head `a`. -/
theorem stack_apply (x : Fin 4 → FVec Ideal S128x64 .f32) (a : Fin 4) (i : Fin 128) (e : Fin 64)
    (h : 128 * a.val + i.val < 512) : stack x (ix2 ⟨128 * a.val + i.val, h⟩ e) = x a (ix2 i e) := by
  have key (k : Nat) (hk : k < 4) (y : FVec Ideal S128x64 .f32) (hy) (hp) (hl : 128 * k + i.val < 512) :=
    concatenate_apply_piece (t := S512x64) 0 [⟨S128x64, x 0⟩, ⟨S128x64, x 1⟩, ⟨S128x64, x 2⟩, ⟨S128x64, x 3⟩]
      concatenates_S128x64_S128x64_S128x64_S128x64_S512x64_d0 (ix2 ⟨128 * k + i.val, hl⟩ e) k hk S128x64 y hy rfl
      (128 * k) hp (ix2 i e) (fun b hb => by fin_cases b <;> first | rfl | exact absurd rfl hb) rfl
  fin_cases a
  · exact key 0 (by decide) (x 0) rfl rfl h
  · exact key 1 (by decide) (x 1) rfl rfl h
  · exact key 2 (by decide) (x 2) rfl rfl h
  · exact key 3 (by decide) (x 3) rfl rfl h

/-- Column `64 (4 g + a) + d` of the rows laid side by side is column `d` of head `a` of group `g`. -/
theorem aside_apply (x : Fin 2 → FVec Ideal S512x64 .f32) (g : Fin 2) (a : Fin 4) (i : Fin 128) (d : Fin 64)
    (h : 64 * (4 * g.val + a.val) + d.val < 512) (h' : 128 * a.val + i.val < 512) :
    aside x (ix2 i ⟨64 * (4 * g.val + a.val) + d.val, h⟩) = x g (ix2 ⟨128 * a.val + i.val, h'⟩ d) := by
  let y (g : Fin 2) (a : Fin 4) : FVec Ideal S128x64 .f32 := extractStridedSlice S128x64 ![128 * a.val, 0] (x g) (unstacks a)
  have key (k : Nat) (hk : k < 8) (z : FVec Ideal S128x64 .f32) (hz) (hp) (hl : 64 * k + d.val < 512) :=
    concatenate_apply_piece (t := S128x512) 1 [⟨S128x64, y 0 0⟩, ⟨S128x64, y 0 1⟩, ⟨S128x64, y 0 2⟩, ⟨S128x64, y 0 3⟩,
      ⟨S128x64, y 1 0⟩, ⟨S128x64, y 1 1⟩, ⟨S128x64, y 1 2⟩, ⟨S128x64, y 1 3⟩]
      concatenates_S128x64_S128x64_S128x64_S128x64_S128x64_S128x64_S128x64_S128x64_S128x512_d1
      (ix2 i ⟨64 * k + d.val, hl⟩) k hk S128x64 z hz rfl (64 * k) hp (ix2 i d)
      (fun b hb => by fin_cases b <;> first | rfl | exact absurd rfl hb) rfl
  have hy : y g a (ix2 i d) = x g (ix2 ⟨128 * a.val + i.val, h'⟩ d) := by
    pointwise [y]
  rw [← hy]
  fin_cases g <;> fin_cases a
  · exact key 0 (by decide) (y 0 0) rfl rfl h
  · exact key 1 (by decide) (y 0 1) rfl rfl h
  · exact key 2 (by decide) (y 0 2) rfl rfl h
  · exact key 3 (by decide) (y 0 3) rfl rfl h
  · exact key 4 (by decide) (y 1 0) rfl rfl h
  · exact key 5 (by decide) (y 1 1) rfl rfl h
  · exact key 6 (by decide) (y 1 2) rfl rfl h
  · exact key 7 (by decide) (y 1 3) rfl rfl h

/-- The product with the output weights at an index, a sum over their rows. -/
theorem project_apply (x : FVec Ideal S128x512 .f32) (o : FVec Ideal S512x512 .bf16) (i : Fin 128) (n : Fin 512) :
    project x o (ix2 i n) = ∑ k : Fin 512, x (ix2 i k) * o (ix2 k n) := by
  pointwise [project]

/-- One sequence's half of the partial result at an index: a sum over groups, heads and columns. -/
theorem part_apply (b : Fin 2) (q : FVec Ideal S256x512 .f32) (k v : FVec Ideal S256x128 .f32) (o : FVec Ideal S512x512 .bf16)
    (i : Fin 128) (n : Fin 512) :
    part b q k v o (ix2 i n) = ∑ g : Fin 2, ∑ a : Fin 4, ∑ d : Fin 64,
      head (fun e => q (ix2 ⟨128 * b.val + i.val, by omega⟩ ⟨64 * (4 * g.val + a.val) + e.val, by omega⟩))
        (fun j e => k (ix2 ⟨128 * b.val + j.val, by omega⟩ ⟨64 * g.val + e.val, by omega⟩))
        (fun j e => v (ix2 ⟨128 * b.val + j.val, by omega⟩ ⟨64 * g.val + e.val, by omega⟩)) d
        * o (ix2 ⟨64 * (4 * g.val + a.val) + d.val, by omega⟩ n) := by
  rw [part, project_apply, sum_blocks (A := 8) (B := 64) rfl _ (fun _ _ => by omega),
    sum_blocks (A := 2) (B := 4) rfl _ (fun _ _ => by omega)]
  refine Finset.sum_congr rfl fun g _ => Finset.sum_congr rfl fun a _ => Finset.sum_congr rfl fun d _ => ?_
  rw [aside_apply _ g a i d _ (by omega), rows_apply]
  simp only [stack_apply]
  pointwise

/-! ### The devices' contents at an index -/

/-- The query row of head `4 g + a` of device `c`. -/
def query (I : Ins Ideal) (c : Dev nD) (b : Fin 2) (g : Fin 2) (a : Fin 4) (i : Fin 128) (e : Fin 64) : EReal :=
  ∑ k : Fin 512, I.X c (ix3 b i k) * I.Q c (ix2 k ⟨64 * (4 * g.val + a.val) + e.val, by omega⟩)

/-- The keys, or the values, of group `g`, from the weights `w`. -/
def keys (x : Vec Ideal S2x128x512 .f32) (w : Vec Ideal S512x128 .f32) (b : Fin 2) (g : Fin 2) (j : Fin 128) (e : Fin 64) : EReal :=
  ∑ k : Fin 512, x (ix3 b j k) * w (ix2 k ⟨64 * g.val + e.val, by omega⟩)

/-- The device's queries at an index, a sum over the model's columns. -/
theorem qB_apply (I : Ins Ideal) (c : Dev nD) (b : Fin 2) (i : Fin 128) (n : Fin 512) (h : 128 * b.val + i.val < 256) :
    qB I c (ix2 ⟨128 * b.val + i.val, h⟩ n) = ∑ k : Fin 512, I.X c (ix3 b i k) * I.Q c (ix2 k n) := by
  pointwise [qB, k0_pay2, k0_pay1]

/-- The device's keys at an index. -/
theorem kB_apply (I : Ins Ideal) (c : Dev nD) (b : Fin 2) (i : Fin 128) (n : Fin 128) (h : 128 * b.val + i.val < 256) :
    kB I c (ix2 ⟨128 * b.val + i.val, h⟩ n) = ∑ k : Fin 512, I.X c (ix3 b i k) * I.K c (ix2 k n) := by
  pointwise [kB, k0_pay4, k0_pay3, xB, k0_pay1]

/-- The device's values at an index. -/
theorem vB_apply (I : Ins Ideal) (c : Dev nD) (b : Fin 2) (i : Fin 128) (n : Fin 128) (h : 128 * b.val + i.val < 256) :
    vB I c (ix2 ⟨128 * b.val + i.val, h⟩ n) = ∑ k : Fin 512, I.X c (ix3 b i k) * I.V c (ix2 k n) := by
  pointwise [vB, k0_pay5, xB, k0_pay1]

/-- The cast of the output weights changes no entry. -/
theorem oB_apply (I : Ins Ideal) (c : Dev nD) (k n : Fin 512) : oB I c (ix2 k n) = I.O c (ix2 k n) := by
  pointwise [oB, k0_pay6]

/-- A device's share of the result at token `i` of sequence `b` and output column `n`: its eight heads' rows against its block
of the output weights. -/
def share (I : Ins Ideal) (c : Dev nD) (b : Fin 2) (i : Fin 128) (n : Fin 512) : EReal :=
  ∑ g : Fin 2, ∑ a : Fin 4, ∑ d : Fin 64,
    head (query I c b g a i) (keys (I.X c) (I.K c) b g) (keys (I.X c) (I.V c) b g) d
      * I.O c (ix2 ⟨64 * (4 * g.val + a.val) + d.val, by omega⟩ n)

/-- Either half of a device's partial result at an index is the device's share. -/
theorem partB_apply (I : Ins Ideal) (c : Dev nD) (b : Fin 2) (i : Fin 128) (n : Fin 512) :
    partB I c b (ix2 i n) = share I c b i n := by
  have h : partB I c b = part b (qB I c) (kB I c) (vB I c) (oB I c) := by
    fin_cases b
    · exact topB_eq I c
    · exact botB_eq I c
  rw [h, part_apply]
  simp only [qB_apply, kB_apply, vB_apply, oB_apply]
  rfl

/-- A sum over the devices, taken as one device's term and the terms of the devices that send to it. -/
theorem sum_devices (d : Dev nD) (f : Dev nD → EReal) : f d + ∑ r : Fin 15, f (src d r) = ∑ c, f c := by
  rw [← (others d).sum_comp f, Fintype.sum_option, ← revE.sum_comp fun r => f (others d (some r))]
  rfl

/-- A chunk of the sum at an index: all the devices' partial results there, summed. -/
theorem redB_apply (I : Ins Ideal) (d : Dev nD) (j : S16x512.Idx) : redB I d j = ∑ c : Dev nD, accB I c (ofChunk d j) := by
  rw [← sum_devices d]
  idx_vars j
  pointwise [redB, k0_pay22, k0_pay21, k0_pay20, k0_pay19, chunkOf, stageB]

/-- A row found by its chunk and its place in the chunk is the row itself. -/
theorem ofChunk_inChunk (i : S256x512.Idx) : ofChunk (rowChunk i) (inChunk i) = i := by
  rw [eq_ix2 (n0 := 256) (n1 := 512) i]
  exact congrArg (fun r => ix2 (n0 := 256) (n1 := 512) r (i 1)) (Fin.ext (Nat.div_add_mod _ _))

/-- The sum at an index: all the devices' partial results there, summed. -/
theorem finB_apply (I : Ins Ideal) (i : S256x512.Idx) : finB I i = ∑ c : Dev nD, accB I c i := by
  rw [finB, redB_apply, ofChunk_inChunk]

/-- A device's partial result at an index is the device's share. -/
theorem accB_apply (I : Ins Ideal) (c : Dev nD) (b : Fin 2) (i : Fin 128) (n : Fin 512) (h : 128 * b.val + i.val < 256) :
    accB I c (ix2 ⟨128 * b.val + i.val, h⟩ n) = share I c b i n := by
  rw [← partB_apply]
  have hb : rowHalf (ix2 ⟨128 * b.val + i.val, h⟩ n) = b := Fin.ext (show (128 * b.val + i.val) / 128 = b.val by omega)
  have hi : inHalf (ix2 ⟨128 * b.val + i.val, h⟩ n) = ix2 i n :=
    congrArg (fun r => ix2 (n0 := 128) (n1 := 512) r n) (Fin.ext (show (128 * b.val + i.val) % 128 = i.val by omega))
  rw [accB, hb, hi]

/-- The result of the kernel at an index: the devices' shares, summed. One device's chunk takes its own share and the fifteen
staged ones. -/
theorem outB_apply (I : Ins Ideal) (b : Fin 2) (i : Fin 128) (n : Fin 512) :
    outB I (ix3 b i n) = ∑ c : Dev nD, share I c b i n := by
  have h : outB I (ix3 b i n) = finB I (ix2 ⟨128 * b.val + i.val, by omega⟩ n) := by
    pointwise [outB, k0_pay23]
    exact congrArg (fun r => finB I (ix2 r n)) (Fin.ext (by dsimp only; omega))
  rw [h, finB_apply]
  simp only [accB_apply]

end Cert.KernelIdeal.AllReduce

end
-- ==== Proof.Reference.lean ====
/-
# The reference's result at an index, over the extended reals

The reference's operations, named step by step, and its result at an index: every head's attention row, contracted with the
whole output weights, the heads taken device by device and group by group.
-/
module

public import proofs.«01_k».proof.Proof.Attention
public import proofs.«01_k».proof.Proof.Gen.ReferenceIdeal.Run

@[expose] public section

set_option maxRecDepth 16384

noncomputable section

namespace Cert.ReferenceIdeal.AllHeads

open Cert.ReferenceIdeal Cert.ReferenceIdeal.Gen Cert.ReferenceIdeal.Value
open Cert.KernelIdeal.AllReduce (score peak weight head sum_blocks)
open Idealize.ShloMosaic Idealize.ShloMosaic.TcCoe

/-! ### The reference's steps, named -/

/-- The queries of all the heads. -/
def queries (x : FVec Ideal S2x128x512 .f32) (w : FVec Ideal S512x8192 .f32) : FVec Ideal S2x128x128x64 .f32 :=
  shapeCast _ (Host.dotGeneral dot_S2x128x512_S512x8192_S2x128x8192_2_0_01_1_n_n none x w) shapeCasts_S2x128x8192_S2x128x128x64

/-- The keys, or the values, of all the groups, repeated for the four heads of each group. -/
def groups (x : FVec Ideal S2x128x512 .f32) (w : FVec Ideal S512x2048 .f32) : FVec Ideal S2x128x128x64 .f32 :=
  shapeCast _ (broadcastInDim S2x128x32x4x64 ![0, 1, 2, 4] bcast_S2x128x32x64_S2x128x32x4x64_0_1_2_4
    (shapeCast _ (Host.dotGeneral dot_S2x128x512_S512x2048_S2x128x2048_2_0_01_1_n_n none x w) shapeCasts_S2x128x2048_S2x128x32x64
      : FVec Ideal S2x128x32x64 .f32)) shapeCasts_S2x128x32x4x64_S2x128x128x64

/-- The scaled scores. -/
def scores (q k : FVec Ideal S2x128x128x64 .f32) : FVec Ideal S2x128x128x128 .f32 :=
  mulf (Host.dotGeneral dot_S2x128x128x64_S2x128x128x64_S2x128x128x128_3_3_1_1_02_02 none q k)
    (broadcastInDim S2x128x128x128 ![] bcast_S_S2x128x128x128 (constant S_ .f32 0x3E000000#32))

/-- The value the running maximum starts at. -/
def least : FVec Ideal S2x128x128x1 .f32 :=
  broadcastInDim S2x128x128x1 ![] bcast_S_S2x128x128x1 (constant S_ .f32 0xFF800000#32)

/-- The largest score of each query row. -/
def maxima (s : FVec Ideal S2x128x128x128 .f32) : FVec Ideal S2x128x128 .f32 :=
  Host.reduce FloatOps.maximumf s (constant S_ .f32 0xFF800000#32) reducesTo_S2x128x128x128_S2x128x128_d3 h_S_

/-- A running maximum: the largest of what it starts at and a block's. -/
def raise (r : FVec Ideal S2x128x128 .f32) : FVec Ideal S2x128x128x1 .f32 :=
  maximumf least (broadcastInDim S2x128x128x1 ![0, 1, 2] bcast_S2x128x128_S2x128x128x1_0_1_2 r)

/-- The running maximum after the only block of keys. -/
def peaks (s : FVec Ideal S2x128x128x128 .f32) : FVec Ideal S2x128x128x1 .f32 := raise (maxima s)

/-- The factor that rescales what was accumulated before. -/
def rescale (s : FVec Ideal S2x128x128x128 .f32) : FVec Ideal S2x128x128x1 .f32 := Host.exp (subf least (peaks s))

/-- The unnormalised weights. -/
def weights (s : FVec Ideal S2x128x128x128 .f32) : FVec Ideal S2x128x128x128 .f32 :=
  Host.exp (subf s (broadcastInDim S2x128x128x128 ![0, 1, 2, 3] bcast_S2x128x128x1_S2x128x128x128_0_1_2_3 (peaks s)))

/-- The running sum of the weights. -/
def totals (s : FVec Ideal S2x128x128x128 .f32) : FVec Ideal S2x128x128x1 .f32 :=
  addf (mulf (broadcastInDim S2x128x128x1 ![] bcast_S_S2x128x128x1 (constant S_ .f32 0x00000000#32)) (rescale s))
    (broadcastInDim S2x128x128x1 ![0, 1, 2] bcast_S2x128x128_S2x128x128x1_0_1_2
      (Host.reduceAdd (weights s) (constant S_ .f32 0x00000000#32) reducesTo_S2x128x128x128_S2x128x128_d3 h_S_))

/-- The running sum of the weighted values. -/
def mixed (s : FVec Ideal S2x128x128x128 .f32) (v : FVec Ideal S2x128x128x64 .f32) : FVec Ideal S2x128x128x64 .f32 :=
  addf (mulf (broadcastInDim S2x128x128x64 ![] bcast_S_S2x128x128x64 (constant S_ .f32 0x00000000#32))
      (broadcastInDim S2x128x128x64 ![0, 1, 2, 3] bcast_S2x128x128x1_S2x128x128x64_0_1_2_3
        (transpose S2x128x128x1 [0, 2, 1, 3] (rescale s) transposes_S2x128x128x1_S2x128x128x1_0_2_1_3)))
    (transpose S2x128x128x64 [0, 3, 1, 2]
      (Host.dotGeneral dot_S2x128x128x64_S2x128x128x128_S2x128x64x128_1_3_3_2_02_01 none v (weights s))
      transposes_S2x128x64x128_S2x128x128x64_0_3_1_2)

/-- All the heads' attention rows. -/
def heads (s : FVec Ideal S2x128x128x128 .f32) (v : FVec Ideal S2x128x128x64 .f32) : FVec Ideal S2x128x128x64 .f32 :=
  Host.divf (mixed s v) (broadcastInDim S2x128x128x64 ![0, 1, 2, 3] bcast_S2x128x128x1_S2x128x128x64_0_1_2_3
    (transpose S2x128x128x1 [0, 2, 1, 3] (totals s) transposes_S2x128x128x1_S2x128x128x1_0_2_1_3))

/-- The rows contracted with the output weights. -/
def output (y : FVec Ideal S2x128x128x64 .f32) (o : FVec Ideal S8192x512 .f32) : FVec Ideal S2x128x512 .f32 :=
  Host.dotGeneral dot_S2x128x8192_S8192x512_S2x128x512_2_0_01_1_n_n none
    (shapeCast _ y shapeCasts_S2x128x128x64_S2x128x8192 : FVec Ideal S2x128x8192 .f32) o

/-- The reference's result, by the named steps. -/
def result (x : FVec Ideal S2x128x512 .f32) (wq : FVec Ideal S512x8192 .f32) (wk wv : FVec Ideal S512x2048 .f32)
    (wo : FVec Ideal S8192x512 .f32) : FVec Ideal S2x128x512 .f32 :=
  output (heads (scores (queries x wq) (groups x wk)) (groups x wv)) wo

/-- What the reference's run leaves is the result by the named steps, of its arguments. -/
theorem result_eq (m : (ℓ : Loc nD τ sig) → Buf (Elt Ideal) ℓ) (c : Dev nD) :
    res_main_v38 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ### The steps at an index -/

/-- The queries at an index. -/
theorem queries_apply (x : FVec Ideal S2x128x512 .f32) (w : FVec Ideal S512x8192 .f32) (b : Fin 2) (i h : Fin 128) (e : Fin 64) :
    queries x w (ix4 b i h e) = ∑ k : Fin 512, x (ix3 b i k) * w (ix2 k ⟨64 * h.val + e.val, by omega⟩) := by
  pointwise [queries]
  exact Finset.sum_congr rfl fun k _ => congrArg (fun r => x (ix3 b i k) * w (ix2 k r)) (Fin.ext (by dsimp only; omega))

/-- The keys, or the values, at an index: a head has those of its group of four. -/
theorem groups_apply (x : FVec Ideal S2x128x512 .f32) (w : FVec Ideal S512x2048 .f32) (b : Fin 2) (j h : Fin 128) (e : Fin 64) :
    groups x w (ix4 b j h e) = ∑ k : Fin 512, x (ix3 b j k) * w (ix2 k ⟨64 * (h.val / 4) + e.val, by omega⟩) := by
  pointwise [groups]
  exact Finset.sum_congr rfl fun k _ => congrArg (fun r => x (ix3 b j k) * w (ix2 k r)) (Fin.ext (by dsimp only; omega))

/-- The scaled scores at an index. -/
theorem scores_apply (q k : FVec Ideal S2x128x128x64 .f32) (b : Fin 2) (h i j : Fin 128) :
    scores q k (ix4 b h i j) = score (fun e => q (ix4 b i h e)) (fun j e => k (ix4 b j h e)) j := by
  pointwise [scores]
  rfl

/-- A maximum over the last of four axes, at an index. -/
theorem reduce_max {n0 n1 n2 n3 : Nat} (s : FVec Ideal ⟨4, ![n0, n1, n2, n3]⟩ .f32) (z : FVec Ideal ⟨0, ![]⟩ .f32)
    (hr : (⟨4, ![n0, n1, n2, n3]⟩ : Shape).ReducesTo [3] ⟨3, ![n0, n1, n2]⟩) (hz : 0 < (⟨0, ![]⟩ : Shape).numel)
    (b : Fin n0) (h : Fin n1) (i : Fin n2) :
    Host.reduce FloatOps.maximumf s z hr hz (ix3 b h i)
      = Finset.fold max (z (Shape.Idx.first hz)) (fun j => s (ix4 b h i j)) Finset.univ := by
  pointwise

/-- The largest score of a query row, at an index. -/
theorem maxima_apply (s : FVec Ideal S2x128x128x128 .f32) (b : Fin 2) (h i : Fin 128) :
    maxima s (ix3 b h i) = Finset.fold max (Ideal.ofBits .f32 0xFF800000#32) (fun j => s (ix4 b h i j)) Finset.univ := by
  unfold maxima
  rw [reduce_max, constant_apply, Ideal.ofBits_def]

/-- The running maximum starts at the same value everywhere. -/
theorem least_apply (b : Fin 2) (h i : Fin 128) : least (ix4 b h i 0) = Ideal.ofBits .f32 0xFF800000#32 := by
  pointwise [least]

/-- The running maximum at an index. -/
theorem raise_apply (r : FVec Ideal S2x128x128 .f32) (b : Fin 2) (h i : Fin 128) :
    raise r (ix4 b h i 0) = max (least (ix4 b h i 0)) (r (ix3 b h i)) := by
  pointwise [raise]

/-- A row's largest score, by its query row and keys. -/
theorem max_scores (q k : FVec Ideal S2x128x128x64 .f32) (b : Fin 2) (h i : Fin 128) :
    maxima (scores q k) (ix3 b h i) = peak (fun e => q (ix4 b i h e)) (fun j e => k (ix4 b j h e)) := by
  rw [maxima_apply, peak]
  simp only [scores_apply]

/-- The largest score is at least what the maximum starts at. -/
theorem le_peak (q : Fin 64 → EReal) (k : Fin 128 → Fin 64 → EReal) : Ideal.ofBits .f32 0xFF800000#32 ≤ peak q k :=
  (Finset.le_fold_max _).2 (.inl le_rfl)

/-- The running maximum after the only block of keys is the row's largest score. -/
theorem peaks_apply (q k : FVec Ideal S2x128x128x64 .f32) (b : Fin 2) (h i : Fin 128) :
    peaks (scores q k) (ix4 b h i 0) = peak (fun e => q (ix4 b i h e)) (fun j e => k (ix4 b j h e)) := by
  rw [peaks, raise_apply, least_apply, max_scores, max_eq_right (le_peak _ _)]

/-- The weights at an index. -/
theorem weights_apply (q k : FVec Ideal S2x128x128x64 .f32) (b : Fin 2) (h i j : Fin 128) :
    weights (scores q k) (ix4 b h i j) = weight (fun e => q (ix4 b i h e)) (fun j e => k (ix4 b j h e)) j := by
  have e : weights (scores q k) (ix4 b h i j)
      = Ideal.exp (scores q k (ix4 b h i j) - peaks (scores q k) (ix4 b h i 0)) := by
    pointwise [weights]
  rw [e, scores_apply, peaks_apply]
  rfl

/-- The running sum is the sum of the weights: what was there before is zero times a factor. -/
theorem totals_apply (s : FVec Ideal S2x128x128x128 .f32) (b : Fin 2) (h i : Fin 128) :
    totals s (ix4 b h i 0) = ∑ j : Fin 128, weights s (ix4 b h i j) := by
  pointwise [totals]
  rw [zero_mul, zero_add]

/-- The running sum of the weighted values, likewise. -/
theorem mixed_apply (s : FVec Ideal S2x128x128x128 .f32) (v : FVec Ideal S2x128x128x64 .f32) (b : Fin 2) (i h : Fin 128)
    (d : Fin 64) : mixed s v (ix4 b i h d) = ∑ j : Fin 128, weights s (ix4 b h i j) * v (ix4 b j h d) := by
  pointwise [mixed]
  rw [zero_mul, zero_add]
  exact Finset.sum_congr rfl fun j _ => mul_comm _ _

/-- A head's attention row at an index. -/
theorem heads_apply (q k v : FVec Ideal S2x128x128x64 .f32) (b : Fin 2) (i h : Fin 128) (d : Fin 64) :
    heads (scores q k) v (ix4 b i h d)
      = head (fun e => q (ix4 b i h e)) (fun j e => k (ix4 b j h e)) (fun j e => v (ix4 b j h e)) d := by
  have e : heads (scores q k) v (ix4 b i h d)
      = Ideal.div (mixed (scores q k) v (ix4 b i h d)) (totals (scores q k) (ix4 b h i 0)) := by
    pointwise [heads]
  rw [e, mixed_apply, totals_apply]
  simp only [weights_apply]
  rfl

/-- The result at an index, from the heads' rows. -/
theorem output_apply (y : FVec Ideal S2x128x128x64 .f32) (o : FVec Ideal S8192x512 .f32) (b : Fin 2) (i : Fin 128) (n : Fin 512) :
    output y o (ix3 b i n) = ∑ h : Fin 128, ∑ d : Fin 64, y (ix4 b i h d) * o (ix2 ⟨64 * h.val + d.val, by omega⟩ n) := by
  have e : output y o (ix3 b i n)
      = ∑ x : Fin 8192, y (ix4 b i ⟨x.val / 64, by omega⟩ ⟨x.val % 64, by omega⟩) * o (ix2 x n) := by
    pointwise [output]
  rw [e, sum_blocks (A := 128) (B := 64) rfl _ (fun _ _ => by omega)]
  refine Finset.sum_congr rfl fun h _ => Finset.sum_congr rfl fun d _ => ?_
  have h1 : (⟨(64 * h.val + d.val) / 64, by omega⟩ : Fin 128) = h := Fin.ext (by dsimp only; omega)
  have h2 : (⟨(64 * h.val + d.val) % 64, by omega⟩ : Fin 64) = d := Fin.ext (by dsimp only; omega)
  rw [h1, h2]

/-- The reference's result at an index, head by head: devices, the two groups of a device, the four heads of a group. -/
theorem result_apply (x : FVec Ideal S2x128x512 .f32) (wq : FVec Ideal S512x8192 .f32) (wk wv : FVec Ideal S512x2048 .f32)
    (wo : FVec Ideal S8192x512 .f32) (b : Fin 2) (i : Fin 128) (n : Fin 512) :
    result x wq wk wv wo (ix3 b i n) = ∑ c : Fin 16, ∑ g : Fin 2, ∑ a : Fin 4, ∑ d : Fin 64,
      head (fun e => ∑ k : Fin 512, x (ix3 b i k) * wq (ix2 k ⟨512 * c.val + (64 * (4 * g.val + a.val) + e.val), by omega⟩))
        (fun j e => ∑ k : Fin 512, x (ix3 b j k) * wk (ix2 k ⟨128 * c.val + (64 * g.val + e.val), by omega⟩))
        (fun j e => ∑ k : Fin 512, x (ix3 b j k) * wv (ix2 k ⟨128 * c.val + (64 * g.val + e.val), by omega⟩)) d
        * wo (ix2 ⟨512 * c.val + (64 * (4 * g.val + a.val) + d.val), by omega⟩ n) := by
  rw [result, output_apply, sum_blocks (A := 16) (B := 8) rfl _ (fun _ _ => by omega)]
  refine Finset.sum_congr rfl fun c _ => ?_
  rw [sum_blocks (A := 2) (B := 4) rfl _ (fun _ _ => by omega)]
  refine Finset.sum_congr rfl fun g _ => Finset.sum_congr rfl fun a _ => Finset.sum_congr rfl fun d _ => ?_
  simp only [heads_apply, queries_apply, groups_apply]
  have hq (e : Fin 64) : (⟨64 * (8 * c.val + (4 * g.val + a.val)) + e.val, by omega⟩ : Fin 8192)
      = ⟨512 * c.val + (64 * (4 * g.val + a.val) + e.val), by omega⟩ := Fin.ext (by dsimp only; omega)
  have hk (e : Fin 64) : (⟨64 * ((8 * c.val + (4 * g.val + a.val)) / 4) + e.val, by omega⟩ : Fin 2048)
      = ⟨128 * c.val + (64 * g.val + e.val), by omega⟩ := Fin.ext (by dsimp only; omega)
  simp only [hq, hk]

end Cert.ReferenceIdeal.AllHeads

end
-- ==== Proof.Equation.lean ====
/-
# The kernel's result is the reference's

The devices hold blocks of the query and output weights and take their own columns of the key and value weights: so the sum of
the devices' shares is the reference's result, over the extended reals.
-/
module

public import proofs.«01_k».proof.Proof.Reference
public import proofs.«01_k».proof.Proof.Run
public import Idealize.ShloMosaic.Lib.Layout
public import Idealize.ShloMosaic.Lib.StableHlo.RunClose

@[expose] public section

set_option maxRecDepth 16384

noncomputable section

namespace Cert.KernelIdeal.AllReduce

open Cert.KernelIdeal Cert.KernelIdeal.Gen
open Idealize.ShloMosaic Idealize.ShloMosaic.TcCoe Idealize.ShloMosaic.StableHlo

variable (m : (ℓ : Loc nD τ sig) → Buf (Elt Ideal) ℓ)

/-- The columns of the key or value weights that device `c` takes start at `128 c`: the program computes it in words, wrapping a
negative start around. -/
theorem start_eq (c : Dev nD) : (select
    (cmpi .slt (muli (id (Host.remui (Host.divui (constantI S_ 32 (Dev.word c)) (constantI S_ 32 1#32)) (constantI S_ 32 16#32)))
      (constantI S_ 32 128#32)) (constantI S_ 32 0#32))
    (addi (muli (id (Host.remui (Host.divui (constantI S_ 32 (Dev.word c)) (constantI S_ 32 1#32)) (constantI S_ 32 16#32)))
      (constantI S_ 32 128#32)) (constantI S_ 32 2048#32))
    (muli (id (Host.remui (Host.divui (constantI S_ 32 (Dev.word c)) (constantI S_ 32 1#32)) (constantI S_ 32 16#32)))
      (constantI S_ 32 128#32)) (Shape.Idx.first h_S_)).toInt = (128 * c.val : Int) := by
  revert c; decide +kernel

/-- A device's columns of the key or value weights, at an index. -/
theorem columns (w : FVec Ideal S512x2048 .f32) (c : Dev nD) (k : Fin 512) (n : Fin 128) :
    Host.dynamicSlice S512x128 w ![0, (128 * c.val : Int)] sliceFits_S512x2048_S512x128 (ix2 k n)
      = w (ix2 k ⟨128 * c.val + n.val, by have : c.val < 16 := c.isLt; omega⟩) := by
  have hc : c.val < 16 := c.isLt
  have h0 := Host.clampedStart_of_le (s := S512x2048) (t := S512x128) rfl ![0, (128 * c.val : Int)] 0 0 rfl (by decide)
  have h1 := Host.clampedStart_of_le (s := S512x2048) (t := S512x128) rfl ![0, (128 * c.val : Int)] 1 (128 * c.val) (by simp)
    (show 128 * c.val + 128 ≤ 2048 by omega)
  rw [Host.dynamicSlice_apply]
  refine congrArg w (funext fun a => Fin.ext ?_)
  fin_cases a
  · exact (congrArg (· + k.val) h0).trans (Nat.zero_add _)
  · exact congrArg (· + n.val) h1

/-- The columns of the key weights that the kernel is launched with. -/
theorem keyWeights (c : Dev nD) :
    V1 m c main_v9 = Host.dynamicSlice S512x128 (V0 m c main_arg2) ![0, (128 * c.val : Int)] sliceFits_S512x2048_S512x128 := by
  unfold V1
  after_results_simp_entrywise
  refine congrArg (fun s => Host.dynamicSlice S512x128 (V0 m c main_arg2) s sliceFits_S512x2048_S512x128) (funext fun k => ?_)
  fin_cases k
  · rfl
  · exact start_eq c

/-- The columns of the value weights that the kernel is launched with. -/
theorem valueWeights (c : Dev nD) :
    V1 m c main_v13 = Host.dynamicSlice S512x128 (V0 m c main_arg3) ![0, (128 * c.val : Int)] sliceFits_S512x2048_S512x128 := by
  unfold V1
  after_results_simp_entrywise
  refine congrArg (fun s => Host.dynamicSlice S512x128 (V0 m c main_arg3) s sliceFits_S512x2048_S512x128) (funext fun k => ?_)
  fin_cases k
  · rfl
  · exact start_eq c

/-- A device's block of the query weights, at an index. -/
theorem block_columns (w : FVec Ideal ⟨2, ![512, 8192]⟩ .f32) (c : Fin 16) (k n : Fin 512) :
    Layout.block ⟨2, ![512, 512]⟩ ⟨2, ![512, 8192]⟩ 1 16 c w (by decide) (ix2 k n) = w (ix2 k ⟨512 * c.val + n.val, by omega⟩) := by
  rw [Layout.block_apply]
  refine congrArg w (funext fun a => Fin.ext ?_)
  fin_cases a
  · rfl
  · exact congrArg (· + n.val) (Nat.mul_comm c.val 512)

/-- A device's block of the output weights, at an index. -/
theorem block_rows (w : FVec Ideal ⟨2, ![8192, 512]⟩ .f32) (c : Fin 16) (k n : Fin 512) :
    Layout.block ⟨2, ![512, 512]⟩ ⟨2, ![8192, 512]⟩ 0 16 c w (by decide) (ix2 k n) = w (ix2 ⟨512 * c.val + k.val, by omega⟩ n) := by
  rw [Layout.block_apply]
  refine congrArg w (funext fun a => Fin.ext ?_)
  fin_cases a
  · exact congrArg (· + k.val) (Nat.mul_comm c.val 512)
  · rfl

/-- Where the devices hold the tokens and the key and value weights whole and their blocks of the query and output weights, the
kernel's result is the reference's. -/
theorem outB_eq (x : FVec Ideal S2x128x512 .f32) (wq : FVec Ideal ⟨2, ![512, 8192]⟩ .f32) (wk wv : FVec Ideal S512x2048 .f32)
    (wo : FVec Ideal ⟨2, ![8192, 512]⟩ .f32)
    (hx : ∀ c : Dev nD, m ((c : Thread nD τ).loc main_arg0) = x)
    (hq : ∀ c : Dev nD, m ((c : Thread nD τ).loc main_arg1) = Layout.block ⟨2, ![512, 512]⟩ ⟨2, ![512, 8192]⟩ 1 16 c wq (by decide))
    (hk : ∀ c : Dev nD, m ((c : Thread nD τ).loc main_arg2) = wk)
    (hv : ∀ c : Dev nD, m ((c : Thread nD τ).loc main_arg3) = wv)
    (ho : ∀ c : Dev nD, m ((c : Thread nD τ).loc main_arg4) = Layout.block ⟨2, ![512, 512]⟩ ⟨2, ![8192, 512]⟩ 0 16 c wo (by decide)) :
    outB (insOf m) = Cert.ReferenceIdeal.AllHeads.result x wq wk wv wo := by
  have eX (c : Dev nD) : (insOf m).X c = x := (V1_of m c main_arg0 (by decide)).trans (hx c)
  have eQ (c : Dev nD) (k n : Fin 512) : (insOf m).Q c (ix2 k n) = wq (ix2 k ⟨512 * c.val + n.val, by have : c.val < 16 := c.isLt; omega⟩) :=
    (congrFun ((V1_of m c main_arg1 (by decide)).trans (hq c)) (ix2 k n)).trans (block_columns wq c k n)
  have eO (c : Dev nD) (k n : Fin 512) : (insOf m).O c (ix2 k n) = wo (ix2 ⟨512 * c.val + k.val, by have : c.val < 16 := c.isLt; omega⟩ n) :=
    (congrFun ((V1_of m c main_arg4 (by decide)).trans (ho c)) (ix2 k n)).trans (block_rows wo c k n)
  have eK (c : Dev nD) (k : Fin 512) (n : Fin 128) : (insOf m).K c (ix2 k n)
      = wk (ix2 k ⟨128 * c.val + n.val, by have : c.val < 16 := c.isLt; omega⟩) :=
    (congrFun (keyWeights m c) (ix2 k n)).trans ((columns _ c k n).trans (congrFun (hk c) _))
  have eV (c : Dev nD) (k : Fin 512) (n : Fin 128) : (insOf m).V c (ix2 k n)
      = wv (ix2 k ⟨128 * c.val + n.val, by have : c.val < 16 := c.isLt; omega⟩) :=
    (congrFun (valueWeights m c) (ix2 k n)).trans ((columns _ c k n).trans (congrFun (hv c) _))
  funext j
  rw [eq_ix3 (n0 := 2) (n1 := 128) (n2 := 512) j]
  refine (outB_apply (insOf m) (j 0) (j 1) (j 2)).trans (Eq.trans ?_ (Cert.ReferenceIdeal.AllHeads.result_apply x wq wk wv wo (j 0) (j 1) (j 2)).symm)
  refine Finset.sum_congr rfl fun c _ => ?_
  unfold share
  refine Finset.sum_congr rfl fun g _ => Finset.sum_congr rfl fun a _ => Finset.sum_congr rfl fun d _ => ?_
  unfold query keys
  simp only [eX, eQ, eK, eV]
  exact congrArg (_ * ·) (eO c _ _)

end Cert.KernelIdeal.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.SL.Sem

/-- Over any float values the kernel's text runs, leaves its arguments and ends with every counter at zero. -/
theorem frame_any {F : FTy → Type} [FloatOps F] (m : (ℓ : Loc KernelIdeal.nD KernelIdeal.τ KernelIdeal.sig) → Buf (Elt F) ℓ) (ρ : Dev KernelIdeal.nD → PrngReg) :
    θ_run (KernelIdeal.defs (F := F)) (onTc (τ := KernelIdeal.τ) (KernelIdeal.main (F := F))) ⟨m, fun _ => 0, ρ⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4))
      ∧ r.2.sem = fun _ => 0) :=
  (θ_run KernelIdeal.defs _ _).mono (fun _ h => ⟨fun c => ⟨(h.1 c).1, (h.1 c).2.1, (h.1 c).2.2.1, (h.1 c).2.2.2.1, (h.1 c).2.2.2.2.1⟩, h.2⟩)
    (KernelIdeal.AllReduce.run_main m ρ)

/-- The two programs have the same bodies, -/
theorem same_bodies {F : FTy → Type} [FloatOps F] : Kernel.defs₀ (F := F) = KernelIdeal.defs₀ (F := F) := by
  unfold Kernel.defs₀ KernelIdeal.defs₀
  refine congrArg Defs.onTc ?_
  funext l x
  match l, x with
  | 0, (t, s) => rfl
/-- and so the same tables of bodies. -/
theorem same_defs {F : FTy → Type} [FloatOps F] : Kernel.defs (F := F) = KernelIdeal.defs (F := F) := by
  unfold Kernel.defs KernelIdeal.defs
  rw [same_bodies]
  rfl

/-- The kernel's frame: the two programs have the same text. -/
theorem frame_kernel : Cert.quiescent_Kernel := fun m ρ _ => by
  have h := frame_any (F := Bits) m ρ
  rw [← same_defs] at h
  exact h

/-- The idealized kernel's frame. -/
theorem frame_kernelIdeal : Cert.quiescent_KernelIdeal := fun m ρ _ => frame_any (F := Ideal) m ρ

/-- The reference's frame. -/
theorem frame_reference : Cert.quiescent_ReferenceIdeal := fun m ρ _ =>
  (θ_run ReferenceIdeal.defs _ _).mono (fun r h => ⟨fun c => (h c).2, sem_eq_zero_of_no_sems (by decide) r.2⟩) (ReferenceIdeal.Value.run (F := Ideal) m ρ)

/-- The idealized kernel computes the reference: every device ends with the reference's whole result. -/
theorem equal_results : Cert.algebraic_KernelIdeal_ReferenceIdeal := fun m g m' g' _ hin => by
  refine ⟨ReferenceIdeal.Value.res_main_v38 m' 0, ?_, ?_⟩
  · have e : KernelIdeal.AllReduce.outB (KernelIdeal.AllReduce.insOf m) = ReferenceIdeal.Value.res_main_v38 m' 0 :=
      (KernelIdeal.AllReduce.outB_eq m _ _ _ _ _ (fun c => (hin c).1) (fun c => (hin c).2.1) (fun c => (hin c).2.2.1)
        (fun c => (hin c).2.2.2.1) (fun c => (hin c).2.2.2.2)).trans (ReferenceIdeal.AllHeads.result_eq m' 0).symm
    exact (θ_run KernelIdeal.defs _ _).mono (fun _ h c => ⟨(h.1 c).2.2.2.2.2.trans e, (h.1 c).1, (h.1 c).2.1, (h.1 c).2.2.1,
      (h.1 c).2.2.2.1, (h.1 c).2.2.2.2.1⟩) (KernelIdeal.AllReduce.run_main m g)
  · exact (θ_run ReferenceIdeal.defs _ _).mono (fun _ h => h 0) (ReferenceIdeal.Value.run (F := Ideal) m' g')

/-- All the claims. -/
theorem claim : Cert.Claim := ⟨Cert.Kernel.Gen.facts, Cert.KernelIdeal.Gen.facts, Cert.ReferenceIdeal.Gen.facts,
  frame_kernel, frame_kernelIdeal, frame_reference, trivial, equal_results⟩

end Cert.Proof

end
